-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v39_0)) (v1 : (c : Dev Cert.Kernel3Ideal.nD) → Buf (Elt Ideal) ((c.tc : Thread Cert.Kernel3Ideal.nD Cert.Kernel3Ideal.τ).loc Cert.Kernel3Ideal.main_v39_1)) (v2 : (c : Dev Cert.Kernel3Ideal.nD) → Buf (Elt Ideal) ((c.tc : Thread Cert.Kernel3Ideal.nD Cert.Kernel3Ideal.τ).loc Cert.Kernel3Ideal.main_v39_2)) (v3 : (c : Dev Cert.Kernel3Ideal.nD) → Buf (Elt Ideal) ((c.tc : Thread Cert.Kernel3Ideal.nD Cert.Kernel3Ideal.τ).loc Cert.Kernel3Ideal.main_v39_3)) (v4 : (c : Dev Cert.Kernel3Ideal.nD) → Buf (Elt Ideal) ((c.tc : Thread Cert.Kernel3Ideal.nD Cert.Kernel3Ideal.τ).loc Cert.Kernel3Ideal.main_v39_4)) (v5 : (c : Dev Cert.Kernel3Ideal.nD) → Buf (Elt Ideal) ((c.tc : Thread Cert.Kernel3Ideal.nD Cert.Kernel3Ideal.τ).loc Cert.Kernel3Ideal.main_v39_5)) (v6 : (c : Dev Cert.Kernel3Ideal.nD) → Buf (Elt Ideal) ((c.tc : Thread Cert.Kernel3Ideal.nD Cert.Kernel3Ideal.τ).loc Cert.Kernel3Ideal.main_v39_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v39_0) = v0 c
          ∧ r.2.mem ((c.tc : Thread Cert.Kernel3Ideal.nD Cert.Kernel3Ideal.τ).loc Cert.Kernel3Ideal.main_v39_1) = v1 c
          ∧ r.2.mem ((c.tc : Thread Cert.Kernel3Ideal.nD Cert.Kernel3Ideal.τ).loc Cert.Kernel3Ideal.main_v39_2) = v2 c
          ∧ r.2.mem ((c.tc : Thread Cert.Kernel3Ideal.nD Cert.Kernel3Ideal.τ).loc Cert.Kernel3Ideal.main_v39_3) = v3 c
          ∧ r.2.mem ((c.tc : Thread Cert.Kernel3Ideal.nD Cert.Kernel3Ideal.τ).loc Cert.Kernel3Ideal.main_v39_4) = v4 c
          ∧ r.2.mem ((c.tc : Thread Cert.Kernel3Ideal.nD Cert.Kernel3Ideal.τ).loc Cert.Kernel3Ideal.main_v39_5) = v5 c
          ∧ r.2.mem ((c.tc : Thread Cert.Kernel3Ideal.nD Cert.Kernel3Ideal.τ).loc Cert.Kernel3Ideal.main_v39_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v77) = v0 c
          ∧ r.2.mem ((c.tc : Thread Cert.Reference3Ideal.nD Cert.Reference3Ideal.τ).loc Cert.Reference3Ideal.main_v127) = v1 c
          ∧ r.2.mem ((c.tc : Thread Cert.Reference3Ideal.nD Cert.Reference3Ideal.τ).loc Cert.Reference3Ideal.main_v130) = v2 c
          ∧ r.2.mem ((c.tc : Thread Cert.Reference3Ideal.nD Cert.Reference3Ideal.τ).loc Cert.Reference3Ideal.main_v146) = v3 c
          ∧ r.2.mem ((c.tc : Thread Cert.Reference3Ideal.nD Cert.Reference3Ideal.τ).loc Cert.Reference3Ideal.main_v149) = v4 c
          ∧ r.2.mem ((c.tc : Thread Cert.Reference3Ideal.nD Cert.Reference3Ideal.τ).loc Cert.Reference3Ideal.main_v161) = v5 c
          ∧ r.2.mem ((c.tc : Thread Cert.Reference3Ideal.nD Cert.Reference3Ideal.τ).loc Cert.Reference3Ideal.main_v173) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S32x2048x512 : Shape := ⟨3, ![32, 2048, 512]⟩
abbrev S1x64 : Shape := ⟨2, ![1, 64]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v3 : IVec S_ 1) (main_v7 : IVec S_ 1) (main_v11 : IVec S_ 1) (main_v15 : IVec S_ 1) : IVec S_ 1 :=
  let main_v16 : FVec F S1x64 .f32 := Host.absf main_arg4
  let main_cst_6 : FVec F S_ .f32 := constant S_ .f32 0x7F800000#32
  let main_v17 : FVec F S1x64 .f32 := broadcastInDim S1x64 ![] bcast_S_S1x64 main_cst_6
  let main_v18 : IVec S1x64 1 := cmpf .olt main_v16 main_v17
  let main_c_7 : IVec S_ 1 := constantI S_ 1 1#1
  let main_v19 : IVec S_ 1 := (fun x v => Host.reduce IntOp.andi x v reducesTo_S1x64_S_d0_1 h_S_) main_v18 main_c_7
  let main_v20 : FVec F S1x64 .f32 := Host.absf main_arg5
  let main_cst_8 : FVec F S_ .f32 := constant S_ .f32 0x7F800000#32
  let main_v21 : FVec F S1x64 .f32 := broadcastInDim S1x64 ![] bcast_S_S1x64 main_cst_8
  let main_v22 : IVec S1x64 1 := cmpf .olt main_v20 main_v21
  let main_c_9 : IVec S_ 1 := constantI S_ 1 1#1
  let main_v23 : IVec S_ 1 := (fun x v => Host.reduce IntOp.andi x v reducesTo_S1x64_S_d0_1 h_S_) main_v22 main_c_9
  let main_v24 : FVec F S1x64 .f32 := Host.absf main_arg6
  let main_cst_10 : FVec F S_ .f32 := constant S_ .f32 0x7F800000#32
  let main_v25 : FVec F S1x64 .f32 := broadcastInDim S1x64 ![] bcast_S_S1x64 main_cst_10
  let main_v26 : IVec S1x64 1 := cmpf .olt main_v24 main_v25
  let main_c_11 : IVec S_ 1 := constantI S_ 1 1#1
  let main_v27 : IVec S_ 1 := (fun x v => Host.reduce IntOp.andi x v reducesTo_S1x64_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S32x2048x512 .f32) (main_arg1 : FVec F S32x2048x512 .f32) (main_arg2 : FVec F S32x2048x512 .f32) (main_arg3 : FVec F S1x64 .f32) (main_arg4 : FVec F S1x64 .f32) (main_arg5 : FVec F S1x64 .f32) (main_arg6 : FVec F S1x64 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : FVec F S32x2048x512 .f32 := Host.absf main_arg2
  let main_cst_2 : FVec F S_ .f32 := constant S_ .f32 0x7F800000#32
  let main_v9 : FVec F S32x2048x512 .f32 := broadcastInDim S32x2048x512 ![] bcast_S_S32x2048x512 main_cst_2
  let main_v10 : IVec S32x2048x512 1 := cmpf .olt main_v8 main_v9
  let main_c_3 : IVec S_ 1 := constantI S_ 1 1#1
  let main_v11 : IVec S_ 1 := (fun x v => Host.reduce IntOp.andi x v reducesTo_S32x2048x512_S_d0_1_2 h_S_) main_v10 main_c_3
  let main_v12 : FVec F S1x64 .f32 := Host.absf main_arg3
  let main_cst_4 : FVec F S_ .f32 := constant S_ .f32 0x7F800000#32
  let main_v13 : FVec F S1x64 .f32 := broadcastInDim S1x64 ![] bcast_S_S1x64 main_cst_4
  let main_v14 : IVec S1x64 1 := cmpf .olt main_v12 main_v13
  let main_c_5 : IVec S_ 1 := constantI S_ 1 1#1
  let main_v15 : IVec S_ 1 := (fun x v => Host.reduce IntOp.andi x v reducesTo_S1x64_S_d0_1 h_S_) main_v14 main_c_5
  fn_part1 (F := F) main_arg4 main_arg5 main_arg6 main_v3 main_v7 main_v11 main_v15
-- ==== Kernel.lean ====
abbrev S32x2048x512 : Shape := ⟨3, ![32, 2048, 512]⟩
abbrev S1x64 : Shape := ⟨2, ![1, 64]⟩
abbrev S_ : Shape := ⟨0, ![]⟩
abbrev S32x8x256x512 : Shape := ⟨4, ![32, 8, 256, 512]⟩
abbrev S32x8x512x256 : Shape := ⟨4, ![32, 8, 512, 256]⟩
abbrev S32x4x512x512 : Shape := ⟨4, ![32, 4, 512, 512]⟩
abbrev S1x8x128x256 : Shape := ⟨4, ![1, 8, 128, 256]⟩
abbrev S1x2048x128 : Shape := ⟨3, ![1, 2048, 128]⟩
abbrev S1x4x128x512 : Shape := ⟨4, ![1, 4, 128, 512]⟩
abbrev S8x128 : Shape := ⟨2, ![8, 128]⟩
abbrev S1 : Shape := ⟨1, ![1]⟩
abbrev S1x1 : Shape := ⟨2, ![1, 1]⟩
abbrev S128x256 : Shape := ⟨2, ![128, 256]⟩
abbrev S512x1 : Shape := ⟨2, ![512, 1]⟩
abbrev S1x512x128 : Shape := ⟨3, ![1, 512, 128]⟩
abbrev S512x128 : Shape := ⟨2, ![512, 128]⟩
abbrev S512 : Shape := ⟨1, ![512]⟩
abbrev S1x128 : Shape := ⟨2, ![1, 128]⟩
abbrev S1x512 : Shape := ⟨2, ![1, 512]⟩
abbrev S1x1x128x256 : Shape := ⟨4, ![1, 1, 128, 256]⟩
abbrev S128x512 : Shape := ⟨2, ![128, 512]⟩
abbrev S8x512 : Shape := ⟨2, ![8, 512]⟩
abbrev S512x512 : Shape := ⟨2, ![512, 512]⟩
abbrev S64x8x512 : Shape := ⟨3, ![64, 8, 512]⟩
abbrev S1x1x128x512 : Shape := ⟨4, ![1, 1, 128, 512]⟩
abbrev S512x256 : Shape := ⟨2, ![512, 256]⟩
abbrev S256 : Shape := ⟨1, ![256]⟩
abbrev S1x256 : Shape := ⟨2, ![1, 256]⟩
abbrev S256x128 : Shape := ⟨2, ![256, 128]⟩
abbrev S1x256x128 : Shape := ⟨3, ![1, 256, 128]⟩
abbrev S1x1x512 : Shape := ⟨3, ![1, 1, 512]⟩
abbrev S1x1x1 : Shape := ⟨3, ![1, 1, 1]⟩

abbrev nBuf : Space → Nat
  | .hbm => 21
  | .vmem => 13
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x2048x512, .f32⟩
  | .hbm, ⟨12, _⟩ => ⟨S32x2048x512, .f32⟩
  | .hbm, ⟨13, _⟩ => ⟨S32x8x256x512, .f32⟩
  | .hbm, ⟨14, _⟩ => ⟨S32x8x512x256, .f32⟩
  | .hbm, ⟨15, _⟩ => ⟨S32x8x512x256, .bf16⟩
  | .hbm, ⟨16, _⟩ => ⟨S32x4x512x512, .f32⟩
  | .hbm, ⟨17, _⟩ => ⟨S32x4x512x512, .f32⟩
  | .hbm, ⟨18, _⟩ => ⟨S32x4x512x512, .bf16⟩
  | .hbm, ⟨19, _⟩ => ⟨S32x2048x512, .bf16⟩
  | .hbm, ⟨20, _⟩ => ⟨S32x2048x512, .bf16⟩
  | .local _ .vmem, ⟨0, _⟩ => ⟨S1x8x128x256, .bf16⟩
  | .local _ .vmem, ⟨1, _⟩ => ⟨S1x8x128x256, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x4x128x512, .bf16⟩
  | .local _ .vmem, ⟨5, _⟩ => ⟨S1x4x128x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x2048x128, .bf16⟩
  | .local _ .vmem, ⟨11, _⟩ => ⟨S1x2048x128, .bf16⟩
  | .local _ .vmem, ⟨12, _⟩ => ⟨S8x128, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨3, ![32, 4, 1], ![false, false, false]⟩

def k0_cond1 (i : grid0.Coords) : BitVec 1 :=
  let arg2 : BitVec 32 := BitVec.ofNat 32 (i 2).val
  let c0_i32 : BitVec 32 := 0#32
  let v16 : BitVec 1 := Scalar.cmpi .eq arg2 c0_i32
  let v17 : BitVec 32 := Scalar.extui v16
  let c0_i32_9 : BitVec 32 := 0#32
  let v18 : BitVec 1 := Scalar.cmpi .ne v17 c0_i32_9
  v18

@[reducible] def k0_t1_loop : Scf.Loop 32 :=
  let c0_i32_506 : BitVec 32 := 0#32
  let c4_i32_507 : BitVec 32 := 4#32
  let v1079 : BitVec 32 := Scalar.addi c0_i32_506 c4_i32_507
  let c1_i32_508 : BitVec 32 := 1#32
  ⟨c0_i32_506, v1079, c1_i32_508⟩
def k0_mult1 (k0_t1 : Fin k0_t1_loop.trips) : BitVec 32 :=
  let c0_i32_506 : BitVec 32 := 0#32
  let c1_i32_508 : BitVec 32 := 1#32
  let arg12 : BitVec 32 := Scf.iv c0_i32_506 c1_i32_508 k0_t1
  let c512_i32_513 : BitVec 32 := 512#32
  let v1089 : BitVec 32 := Scalar.muli arg12 c512_i32_513
  v1089
def k0_off1 (k0_t1 : Fin k0_t1_loop.trips) : Fin 3 → Nat :=
  let c0_514 : Index := 0#32
  let c0_i32_506 : BitVec 32 := 0#32
  let c1_i32_508 : BitVec 32 := 1#32
  let arg12 : BitVec 32 := Scf.iv c0_i32_506 c1_i32_508 k0_t1
  let c512_i32_513 : BitVec 32 := 512#32
  let v1089 : BitVec 32 := Scalar.muli arg12 c512_i32_513
  let v1090 : BitVec 32 := v1089
  let v1091 : Index := Scalar.indexCast v1090
  let c0_515 : Index := 0#32
  ![0, v1091.toNat, 0]
def k0_mult2 : BitVec 32 :=
  let c0_i32_23 : BitVec 32 := 0#32
  c0_i32_23
def k0_mult3 : BitVec 32 :=
  let c512_i32 : BitVec 32 := 512#32
  c512_i32
def k0_mult4 : BitVec 32 :=
  let c1024_i32 : BitVec 32 := 1024#32
  c1024_i32
def k0_mult5 : BitVec 32 :=
  let c1536_i32 : BitVec 32 := 1536#32
  c1536_i32
def k0_mult6 : BitVec 32 :=
  let c0_i32_13 : BitVec 32 := 0#32
  let c256_i32 : BitVec 32 := 256#32
  let v146 : BitVec 32 := Scalar.muli c0_i32_13 c256_i32
  v146
def k0_off2 (c0_i32_13 : BitVec 32) : Fin 3 → Nat :=
  let c0_66 : Index := 0#32
  let c256_i32 : BitVec 32 := 256#32
  let v146 : BitVec 32 := Scalar.muli c0_i32_13 c256_i32
  let v147 : BitVec 32 := v146
  let v148 : Index := Scalar.indexCast v147
  let c0_67 : Index := 0#32
  ![0, v148.toNat, 0]
def k0_mult7 : BitVec 32 :=
  let c0_i32_78 : BitVec 32 := 0#32
  c0_i32_78
def k0_mult8 : BitVec 32 :=
  let c512_i32_82 : BitVec 32 := 512#32
  c512_i32_82
def k0_mult9 : BitVec 32 :=
  let c1024_i32_93 : BitVec 32 := 1024#32
  c1024_i32_93
def k0_mult10 : BitVec 32 :=
  let c1536_i32_104 : BitVec 32 := 1536#32
  c1536_i32_104
def k0_mult11 : BitVec 32 :=
  let c1_i32 : BitVec 32 := 1#32
  let c256_i32_127 : BitVec 32 := 256#32
  let v277 : BitVec 32 := Scalar.muli c1_i32 c256_i32_127
  v277
def k0_mult12 : BitVec 32 :=
  let c0_i32_140 : BitVec 32 := 0#32
  c0_i32_140
def k0_mult13 : BitVec 32 :=
  let c512_i32_144 : BitVec 32 := 512#32
  c512_i32_144
def k0_mult14 : BitVec 32 :=
  let c1024_i32_155 : BitVec 32 := 1024#32
  c1024_i32_155
def k0_mult15 : BitVec 32 :=
  let c1536_i32_166 : BitVec 32 := 1536#32
  c1536_i32_166
def k0_mult16 : BitVec 32 :=
  let c2_i32 : BitVec 32 := 2#32
  let c256_i32_189 : BitVec 32 := 256#32
  let v408 : BitVec 32 := Scalar.muli c2_i32 c256_i32_189
  v408
def k0_mult17 : BitVec 32 :=
  let c0_i32_202 : BitVec 32 := 0#32
  c0_i32_202
def k0_mult18 : BitVec 32 :=
  let c512_i32_206 : BitVec 32 := 512#32
  c512_i32_206
def k0_mult19 : BitVec 32 :=
  let c1024_i32_217 : BitVec 32 := 1024#32
  c1024_i32_217
def k0_mult20 : BitVec 32 :=
  let c1536_i32_228 : BitVec 32 := 1536#32
  c1536_i32_228
def k0_mult21 : BitVec 32 :=
  let c3_i32 : BitVec 32 := 3#32
  let c256_i32_251 : BitVec 32 := 256#32
  let v539 : BitVec 32 := Scalar.muli c3_i32 c256_i32_251
  v539
def k0_mult22 : BitVec 32 :=
  let c0_i32_264 : BitVec 32 := 0#32
  c0_i32_264
def k0_mult23 : BitVec 32 :=
  let c512_i32_268 : BitVec 32 := 512#32
  c512_i32_268
def k0_mult24 : BitVec 32 :=
  let c1024_i32_279 : BitVec 32 := 1024#32
  c1024_i32_279
def k0_mult25 : BitVec 32 :=
  let c1536_i32_290 : BitVec 32 := 1536#32
  c1536_i32_290
def k0_mult26 : BitVec 32 :=
  let c4_i32 : BitVec 32 := 4#32
  let c256_i32_313 : BitVec 32 := 256#32
  let v670 : BitVec 32 := Scalar.muli c4_i32 c256_i32_313
  v670
def k0_mult27 : BitVec 32 :=
  let c0_i32_326 : BitVec 32 := 0#32
  c0_i32_326
def k0_mult28 : BitVec 32 :=
  let c512_i32_330 : BitVec 32 := 512#32
  c512_i32_330
def k0_mult29 : BitVec 32 :=
  let c1024_i32_341 : BitVec 32 := 1024#32
  c1024_i32_341
def k0_mult30 : BitVec 32 :=
  let c1536_i32_352 : BitVec 32 := 1536#32
  c1536_i32_352
def k0_mult31 : BitVec 32 :=
  let c5_i32 : BitVec 32 := 5#32
  let c256_i32_375 : BitVec 32 := 256#32
  let v801 : BitVec 32 := Scalar.muli c5_i32 c256_i32_375
  v801
def k0_mult32 : BitVec 32 :=
  let c0_i32_388 : BitVec 32 := 0#32
  c0_i32_388
def k0_mult33 : BitVec 32 :=
  let c512_i32_392 : BitVec 32 := 512#32
  c512_i32_392
def k0_mult34 : BitVec 32 :=
  let c1024_i32_403 : BitVec 32 := 1024#32
  c1024_i32_403
def k0_mult35 : BitVec 32 :=
  let c1536_i32_414 : BitVec 32 := 1536#32
  c1536_i32_414
def k0_mult36 : BitVec 32 :=
  let c6_i32 : BitVec 32 := 6#32
  let c256_i32_437 : BitVec 32 := 256#32
  let v932 : BitVec 32 := Scalar.muli c6_i32 c256_i32_437
  v932
def k0_mult37 : BitVec 32 :=
  let c0_i32_450 : BitVec 32 := 0#32
  c0_i32_450
def k0_mult38 : BitVec 32 :=
  let c512_i32_454 : BitVec 32 := 512#32
  c512_i32_454
def k0_mult39 : BitVec 32 :=
  let c1024_i32_465 : BitVec 32 := 1024#32
  c1024_i32_465
def k0_mult40 : BitVec 32 :=
  let c1536_i32_476 : BitVec 32 := 1536#32
  c1536_i32_476
def k0_mult41 : BitVec 32 :=
  let c7_i32 : BitVec 32 := 7#32
  let c256_i32_499 : BitVec 32 := 256#32
  let v1063 : BitVec 32 := Scalar.muli c7_i32 c256_i32_499
  v1063
@[reducible] def k0_t2_loop : Scf.Loop 32 :=
  let c0_i32_505 : BitVec 32 := 0#32
  let c8_i32_506 : BitVec 32 := 8#32
  let v1078 : BitVec 32 := Scalar.addi c0_i32_505 c8_i32_506
  let c1_i32_507 : BitVec 32 := 1#32
  ⟨c0_i32_505, v1078, c1_i32_507⟩
def k0_off3 (k0_t2 : Fin k0_t2_loop.trips) : Fin 4 → Nat :=
  let c0_509 : Index := 0#32
  let c0_i32_505 : BitVec 32 := 0#32
  let c1_i32_507 : BitVec 32 := 1#32
  let arg12 : BitVec 32 := Scf.iv c0_i32_505 c1_i32_507 k0_t2
  let v1079 : Index := Scalar.indexCast arg12
  let c0_510 : Index := 0#32
  let c0_511 : Index := 0#32
  ![0, v1079.toNat, 0, 0]
@[reducible] def k0_t3_loop : Scf.Loop 32 :=
  let c0_i32_518 : BitVec 32 := 0#32
  let c4_i32_519 : BitVec 32 := 4#32
  let v1093 : BitVec 32 := Scalar.addi c0_i32_518 c4_i32_519
  let c1_i32_520 : BitVec 32 := 1#32
  ⟨c0_i32_518, v1093, c1_i32_520⟩
def k0_mult42 (k0_t3 : Fin k0_t3_loop.trips) : BitVec 32 :=
  let c0_i32_518 : BitVec 32 := 0#32
  let c1_i32_520 : BitVec 32 := 1#32
  let arg13 : BitVec 32 := Scf.iv c0_i32_518 c1_i32_520 k0_t3
  let c512_i32_529 : BitVec 32 := 512#32
  let v1122 : BitVec 32 := Scalar.muli arg13 c512_i32_529
  v1122
def k0_off4 (k0_t3 : Fin k0_t3_loop.trips) : Fin 3 → Nat :=
  let c0_530 : Index := 0#32
  let c0_i32_518 : BitVec 32 := 0#32
  let c1_i32_520 : BitVec 32 := 1#32
  let arg13 : BitVec 32 := Scf.iv c0_i32_518 c1_i32_520 k0_t3
  let c512_i32_529 : BitVec 32 := 512#32
  let v1122 : BitVec 32 := Scalar.muli arg13 c512_i32_529
  let v1123 : BitVec 32 := v1122
  let v1124 : Index := Scalar.indexCast v1123
  let c0_531 : Index := 0#32
  ![0, v1124.toNat, 0]
def k0_off5 (k0_t3 : Fin k0_t3_loop.trips) : Fin 4 → Nat :=
  let c0_535 : Index := 0#32
  let c0_i32_518 : BitVec 32 := 0#32
  let c1_i32_520 : BitVec 32 := 1#32
  let arg13 : BitVec 32 := Scf.iv c0_i32_518 c1_i32_520 k0_t3
  let v1143 : Index := Scalar.indexCast arg13
  let c0_536 : Index := 0#32
  let c0_537 : Index := 0#32
  ![0, v1143.toNat, 0, 0]
def k0_mult43 (k0_t2 : Fin k0_t2_loop.trips) : BitVec 32 :=
  let c0_i32_505 : BitVec 32 := 0#32
  let c1_i32_507 : BitVec 32 := 1#32
  let arg12 : BitVec 32 := Scf.iv c0_i32_505 c1_i32_507 k0_t2
  let c256_i32_526 : BitVec 32 := 256#32
  let v1116 : BitVec 32 := Scalar.muli arg12 c256_i32_526
  v1116
def k0_off6 (k0_t2 : Fin k0_t2_loop.trips) : Fin 3 → Nat :=
  let c0_527 : Index := 0#32
  let c0_i32_505 : BitVec 32 := 0#32
  let c1_i32_507 : BitVec 32 := 1#32
  let arg12 : BitVec 32 := Scf.iv c0_i32_505 c1_i32_507 k0_t2
  let c256_i32_526 : BitVec 32 := 256#32
  let v1116 : BitVec 32 := Scalar.muli arg12 c256_i32_526
  let v1117 : BitVec 32 := v1116
  let v1118 : Index := Scalar.indexCast v1117
  let c0_528 : Index := 0#32
  ![0, v1118.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S32x2048x512 : Shape := ⟨3, ![32, 2048, 512]⟩
abbrev S1x64 : Shape := ⟨2, ![1, 64]⟩
abbrev S_ : Shape := ⟨0, ![]⟩
abbrev S32x2048x4x2x64 : Shape := ⟨5, ![32, 2048, 4, 2, 64]⟩
abbrev S32x2048x4x128 : Shape := ⟨4, ![32, 2048, 4, 128]⟩
abbrev S32x4x2x2048x2048 : Shape := ⟨5, ![32, 4, 2, 2048, 2048]⟩
abbrev S32x4x2x2048 : Shape := ⟨4, ![32, 4, 2, 2048]⟩
abbrev S32x4x2x2048x1 : Shape := ⟨5, ![32, 4, 2, 2048, 1]⟩
abbrev S32x4x1x2048x2048 : Shape := ⟨5, ![32, 4, 1, 2048, 2048]⟩
abbrev S32x4x2048x2048 : Shape := ⟨4, ![32, 4, 2048, 2048]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩

abbrev nBuf : Space → Nat
  | .hbm => 66
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S32x2048x512, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32x2048x512, .f32⟩
  | .hbm, ⟨20, _⟩ => ⟨S32x2048x512, .f32⟩
  | .hbm, ⟨21, _⟩ => ⟨S32x2048x4x2x64, .f32⟩
  | .hbm, ⟨22, _⟩ => ⟨S32x2048x4x2x64, .f32⟩
  | .hbm, ⟨23, _⟩ => ⟨S32x2048x4x128, .f32⟩
  | .hbm, ⟨24, _⟩ => ⟨S32x4x2x2048x2048, .f32⟩
  | .hbm, ⟨25, _⟩ => ⟨S_, .f32⟩
  | .hbm, ⟨26, _⟩ => ⟨S32x4x2x2048, .f32⟩
  | .hbm, ⟨27, _⟩ => ⟨S_, .f32⟩
  | .hbm, ⟨28, _⟩ => ⟨S32x4x2x2048, .f32⟩
  | .hbm, ⟨29, _⟩ => ⟨S32x4x2x2048, .f32⟩
  | .hbm, ⟨30, _⟩ => ⟨S32x4x2x2048x1, .f32⟩
  | .hbm, ⟨31, _⟩ => ⟨S32x4x2x2048x2048, .f32⟩
  | .hbm, ⟨32, _⟩ => ⟨S32x4x2x2048x2048, .f32⟩
  | .hbm, ⟨33, _⟩ => ⟨S32x4x2x2048x2048, .f32⟩
  | .hbm, ⟨34, _⟩ => ⟨S_, .f32⟩
  | .hbm, ⟨35, _⟩ => ⟨S32x4x2x2048, .f32⟩
  | .hbm, ⟨36, _⟩ => ⟨S32x4x2x2048x1, .f32⟩
  | .hbm, ⟨37, _⟩ => ⟨S32x4x2x2048x2048, .f32⟩
  | .hbm, ⟨38, _⟩ => ⟨S32x4x2x2048x2048, .f32⟩
  | .hbm, ⟨39, _⟩ => ⟨S32x4x1x2048x2048, .f32⟩
  | .hbm, ⟨40, _⟩ => ⟨S32x4x2048x2048, .f32⟩
  | .hbm, ⟨41, _⟩ => ⟨S32x4x1x2048x2048, .f32⟩
  | .hbm, ⟨42, _⟩ => ⟨S32x4x2048x2048, .f32⟩
  | .hbm, ⟨43, _⟩ => ⟨S32x4x2048x2048, .f32⟩
  | .hbm, ⟨44, _⟩ => ⟨S32x4x2048x2048, .f32⟩
  | .hbm, ⟨45, _⟩ => ⟨S32x4x2048x2048, .f32⟩
  | .hbm, ⟨46, _⟩ => ⟨S32x4x128x2048, .f32⟩
  | .hbm, ⟨47, _⟩ => ⟨S32x2048x4x128, .f32⟩
  | .hbm, ⟨48, _⟩ => ⟨S32x2048x4x128, .f32⟩
  | .hbm, ⟨49, _⟩ => ⟨S_, .f32⟩
  | .hbm, ⟨50, _⟩ => ⟨S32x2048x4, .f32⟩
  | .hbm, ⟨51, _⟩ => ⟨S32x2048x4x1, .f32⟩
  | .hbm, ⟨52, _⟩ => ⟨S_, .f32⟩
  | .hbm, ⟨53, _⟩ => ⟨S32x2048x4x1, .f32⟩
  | .hbm, ⟨54, _⟩ => ⟨S32x2048x4x1, .f32⟩
  | .hbm, ⟨55, _⟩ => ⟨S_, .f32⟩
  | .hbm, ⟨56, _⟩ => ⟨S32x2048x4x1, .f32⟩
  | .hbm, ⟨57, _⟩ => ⟨S32x2048x4x1, .f32⟩
  | .hbm, ⟨58, _⟩ => ⟨S32x2048x4x1, .f32⟩
  | .hbm, ⟨59, _⟩ => ⟨S32x2048x4x128, .f32⟩
  | .hbm, ⟨60, _⟩ => ⟨S32x2048x4x128, .f32⟩
  | .hbm, ⟨61, _⟩ => ⟨S_, .f32⟩
  | .hbm, ⟨62, _⟩ => ⟨S32x2048x4x128, .f32⟩
  | .hbm, ⟨63, _⟩ => ⟨S32x2048x4x128, .f32⟩
  | .hbm, ⟨64, _⟩ => ⟨S32x2048x512, .f32⟩
  | .hbm, ⟨65, _⟩ => ⟨S32x2048x512, .bf16⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x512 : Shape := ⟨3, ![32, 2048, 512]⟩
abbrev S32x9x1024 : Shape := ⟨3, ![32, 9, 1024]⟩
abbrev S3x1024 : Shape := ⟨2, ![3, 1024]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S1x1024x1024 : Shape := ⟨3, ![1, 1024, 1024]⟩
abbrev S1x1024x512 : Shape := ⟨3, ![1, 1024, 512]⟩
abbrev S1x9x1024 : Shape := ⟨3, ![1, 9, 1024]⟩
abbrev S512x2816 : Shape := ⟨2, ![512, 2816]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 17
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x9x1024, .f32⟩
  | .hbm, ⟨4, _⟩ => ⟨S3x1024, .f32⟩
  | .hbm, ⟨5, _⟩ => ⟨S3x1024, .f32⟩
  | .hbm, ⟨6, _⟩ => ⟨S1024x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024x1024, .bf16⟩
  | .hbm, ⟨11, _⟩ => ⟨S512x1024, .bf16⟩
  | .hbm, ⟨12, _⟩ => ⟨S512x1024, .bf16⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x9x1024, .f32⟩
  | .local _ .vmem, ⟨7, _⟩ => ⟨S1x9x1024, .f32⟩
  | .local _ .vmem, ⟨8, _⟩ => ⟨S3x1024, .f32⟩
  | .local _ .vmem, ⟨9, _⟩ => ⟨S3x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S512x2816, .bf16⟩
  | .local _ .vmem, ⟨18, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S32x2048x1024 : Shape := ⟨3, ![32, 2048, 1024]⟩
abbrev S32x2048x512 : Shape := ⟨3, ![32, 2048, 512]⟩
abbrev S32x9x1024 : Shape := ⟨3, ![32, 9, 1024]⟩
abbrev S3x1024 : Shape := ⟨2, ![3, 1024]⟩
abbrev S1024x1024 : Shape := ⟨2, ![1024, 1024]⟩
abbrev S1024x2816 : Shape := ⟨2, ![1024, 2816]⟩
abbrev S2816x1024 : Shape := ⟨2, ![2816, 1024]⟩
abbrev S32x3x3x1024 : Shape := ⟨4, ![32, 3, 3, 1024]⟩
abbrev S32x1x1x1024 : Shape := ⟨4, ![32, 1, 1, 1024]⟩
abbrev S32x1024 : Shape := ⟨2, ![32, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩

abbrev nBuf : Space → Nat
  | .hbm => 110
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S32x9x1024, .f32⟩
  | .hbm, ⟨4, _⟩ => ⟨S3x1024, .f32⟩
  | .hbm, ⟨5, _⟩ => ⟨S3x1024, .f32⟩
  | .hbm, ⟨6, _⟩ => ⟨S1024x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S32x3x3x1024, .f32⟩
  | .hbm, ⟨11, _⟩ => ⟨S32x2048x512, .f32⟩
  | .hbm, ⟨12, _⟩ => ⟨S32x2048x512, .f32⟩
  | .hbm, ⟨13, _⟩ => ⟨S32x2048x1024, .f32⟩
  | .hbm, ⟨14, _⟩ => ⟨S32x2048x1024, .f32⟩
  | .hbm, ⟨15, _⟩ => ⟨S32x1x1x1024, .f32⟩
  | .hbm, ⟨16, _⟩ => ⟨S32x1024, .f32⟩
  | .hbm, ⟨17, _⟩ => ⟨S32x1x1024, .f32⟩
  | .hbm, ⟨18, _⟩ => ⟨S1x1024, .f32⟩
  | .hbm, ⟨19, _⟩ => ⟨S1024, .f32⟩
  | .hbm, ⟨20, _⟩ => ⟨S32x2048x1024, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S1x1x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S32x2048x1024, .f32⟩
  | .hbm, ⟨39, _⟩ => ⟨S1x1024, .f32⟩
  | .hbm, ⟨40, _⟩ => ⟨S1024, .f32⟩
  | .hbm, ⟨41, _⟩ => ⟨S32x2048x1024, .f32⟩
  | .hbm, ⟨42, _⟩ => ⟨S_, .f32⟩
  | .hbm, ⟨43, _⟩ => ⟨S32x2048, .f32⟩
  | .hbm, ⟨44, _⟩ => ⟨S32x2048x1, .f32⟩
  | .hbm, ⟨45, _⟩ => ⟨S_, .f32⟩
  | .hbm, ⟨46, _⟩ => ⟨S32x2048x1, .f32⟩
  | .hbm, ⟨47, _⟩ => ⟨S32x2048x1, .f32⟩
  | .hbm, ⟨48, _⟩ => ⟨S_, .f32⟩
  | .hbm, ⟨49, _⟩ => ⟨S32x2048x1, .f32⟩
  | .hbm, ⟨50, _⟩ => ⟨S32x2048x1, .f32⟩
  | .hbm, ⟨51, _⟩ => ⟨S32x2048x1, .f32⟩
  | .hbm, ⟨52, _⟩ => ⟨S32x2048x1024, .f32⟩
  | .hbm, ⟨53, _⟩ => ⟨S32x2048x1024, .f32⟩
  | .hbm, ⟨54, _⟩ => ⟨S1x1x1024, .f32⟩
  | .hbm, ⟨55, _⟩ => ⟨S32x2048x1024, .f32⟩
  | .hbm, ⟨56, _⟩ => ⟨S32x2048x1024, .f32⟩
  | .hbm, ⟨57, _⟩ => ⟨S32x1x1x1024, .f32⟩
  | .hbm, ⟨58, _⟩ => ⟨S32x1024, .f32⟩
  | .hbm, ⟨59, _⟩ => ⟨S32x1x1024, .f32⟩
  | .hbm, ⟨60, _⟩ => ⟨S_, .f32⟩
  | .hbm, ⟨61, _⟩ => ⟨S32x1x1024, .f32⟩
  | .hbm, ⟨62, _⟩ => ⟨S32x1x1024, .f32⟩
  | .hbm, ⟨63, _⟩ => ⟨S32x2048x1024, .f32⟩
  | .hbm, ⟨64, _⟩ => ⟨S32x2048x1024, .f32⟩
  | .hbm, ⟨65, _⟩ => ⟨S32x1x1x1024, .f32⟩
  | .hbm, ⟨66, _⟩ => ⟨S32x1024, .f32⟩
  | .hbm, ⟨67, _⟩ => ⟨S32x1x1024, .f32⟩
  | .hbm, ⟨68, _⟩ => ⟨S32x2048x1024, .f32⟩
  | .hbm, ⟨69, _⟩ => ⟨S32x2048x1024, .f32⟩
  | .hbm, ⟨70, _⟩ => ⟨S32x2048x2816, .f32⟩
  | .hbm, ⟨71, _⟩ => ⟨S32x2048x2816, .f32⟩
  | .hbm, ⟨72, _⟩ => ⟨S32x2048x2816, .f32⟩
  | .hbm, ⟨73, _⟩ => ⟨S_, .f32⟩
  | .hbm, ⟨74, _⟩ => ⟨S32x2048x2816, .f32⟩
  | .hbm, ⟨75, _⟩ => ⟨S32x2048x2816, .f32⟩
  | .hbm, ⟨76, _⟩ => ⟨S_, .f32⟩
  | .hbm, ⟨77, _⟩ => ⟨S32x2048x2816, .f32⟩
  | .hbm, ⟨78, _⟩ => ⟨S32x2048x2816, .f32⟩
  | .hbm, ⟨79, _⟩ => ⟨S32x2048x2816, .f32⟩
  | .hbm, ⟨80, _⟩ => ⟨S32x2048x2816, .f32⟩
  | .hbm, ⟨81, _⟩ => ⟨S32x2048x2816, .f32⟩
  | .hbm, ⟨82, _⟩ => ⟨S32x2048x1024, .f32⟩
  | .hbm, ⟨83, _⟩ => ⟨S32x1x1x1024, .f32⟩
  | .hbm, ⟨84, _⟩ => ⟨S32x1024, .f32⟩
  | .hbm, ⟨85, _⟩ => ⟨S32x1x1024, .f32⟩
  | .hbm, ⟨86, _⟩ => ⟨S1x1024, .f32⟩
  | .hbm, ⟨87, _⟩ => ⟨S1024, .f32⟩
  | .hbm, ⟨88, _⟩ => ⟨S32x2048x1024, .f32⟩
  | .hbm, ⟨89, _⟩ => ⟨S_, .f32⟩
  | .hbm, ⟨90, _⟩ => ⟨S32x2048, .f32⟩
  | .hbm, ⟨91, _⟩ => ⟨S32x2048x1, .f32⟩
  | .hbm, ⟨92, _⟩ => ⟨S_, .f32⟩
  | .hbm, ⟨93, _⟩ => ⟨S32x2048x1, .f32⟩
  | .hbm, ⟨94, _⟩ => ⟨S32x2048x1, .f32⟩
  | .hbm, ⟨95, _⟩ => ⟨S_, .f32⟩
  | .hbm, ⟨96, _⟩ => ⟨S32x2048x1, .f32⟩
  | .hbm, ⟨97, _⟩ => ⟨S32x2048x1, .f32⟩
  | .hbm, ⟨98, _⟩ => ⟨S32x2048x1, .f32⟩
  | .hbm, ⟨99, _⟩ => ⟨S32x2048x1024, .f32⟩
  | .hbm, ⟨100, _⟩ => ⟨S32x2048x1024, .f32⟩
  | .hbm, ⟨101, _⟩ => ⟨S1x1x1024, .f32⟩
  | .hbm, ⟨102, _⟩ => ⟨S32x2048x1024, .f32⟩
  | .hbm, ⟨103, _⟩ => ⟨S32x2048x1024, .f32⟩
  | .hbm, ⟨104, _⟩ => ⟨S32x2048x1024, .f32⟩
  | .hbm, ⟨105, _⟩ => ⟨S32x2048x1024, .f32⟩
  | .hbm, ⟨106, _⟩ => ⟨S_, .f32⟩
  | .hbm, ⟨107, _⟩ => ⟨S32x2048x1024, .f32⟩
  | .hbm, ⟨108, _⟩ => ⟨S32x2048x1024, .f32⟩
  | .hbm, ⟨109, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_6 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_cst_8 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_9 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x9x1024 : Shape := ⟨3, ![32, 9, 1024]⟩
abbrev S3x1024 : Shape := ⟨2, ![3, 1024]⟩
abbrev S1024x2816 : Shape := ⟨2, ![1024, 2816]⟩
abbrev S2816x1024 : Shape := ⟨2, ![2816, 1024]⟩
abbrev S1024x2304 : Shape := ⟨2, ![1024, 2304]⟩
abbrev S1024x512 : Shape := ⟨2, ![1024, 512]⟩
abbrev S1024x128 : Shape := ⟨2, ![1024, 128]⟩
abbrev S1024x1664 : Shape := ⟨2, ![1024, 1664]⟩
abbrev S1664x1024 : Shape := ⟨2, ![1664, 1024]⟩
abbrev S1024x640 : Shape := ⟨2, ![1024, 640]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S64x2048 : Shape := ⟨2, ![64, 2048]⟩
abbrev S32x8x512x256 : Shape := ⟨4, ![32, 8, 512, 256]⟩
abbrev S32x4x512x512 : Shape := ⟨4, ![32, 4, 512, 512]⟩
abbrev S32x4x128x512 : Shape := ⟨4, ![32, 4, 128, 512]⟩
abbrev S32x2048x512 : Shape := ⟨3, ![32, 2048, 512]⟩
abbrev S32x2048x128 : Shape := ⟨3, ![32, 2048, 128]⟩
abbrev S1x1024x1024 : Shape := ⟨3, ![1, 1024, 1024]⟩
abbrev S1x9x1024 : Shape := ⟨3, ![1, 9, 1024]⟩
abbrev S64x1024 : Shape := ⟨2, ![64, 1024]⟩
abbrev S1x4x512x256 : Shape := ⟨4, ![1, 4, 512, 256]⟩
abbrev S1x2x512x512 : Shape := ⟨4, ![1, 2, 512, 512]⟩
abbrev S1x2x128x512 : Shape := ⟨4, ![1, 2, 128, 512]⟩
abbrev S1x1024x512 : Shape := ⟨3, ![1, 1024, 512]⟩
abbrev S1x1024x128 : Shape := ⟨3, ![1, 1024, 128]⟩
abbrev S512x2816 : Shape := ⟨2, ![512, 2816]⟩
abbrev S512x1024 : Shape := ⟨2, ![512, 1024]⟩
abbrev S256x128 : Shape := ⟨2, ![256, 128]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩
abbrev S256x640 : Shape := ⟨2, ![256, 640]⟩
abbrev S1x256x128 : Shape := ⟨3, ![1, 256, 128]⟩
abbrev S64x256 : Shape := ⟨2, ![64, 256]⟩
abbrev S512x256 : Shape := ⟨2, ![512, 256]⟩
abbrev S32x256 : Shape := ⟨2, ![32, 256]⟩
abbrev S1x1x512x256 : Shape := ⟨4, ![1, 1, 512, 256]⟩
abbrev S128x1024 : Shape := ⟨2, ![128, 1024]⟩
abbrev S128x256 : Shape := ⟨2, ![128, 256]⟩
abbrev S1x1x128x256 : Shape := ⟨4, ![1, 1, 128, 256]⟩

abbrev nBuf : Space → Nat
  | .hbm => 59
  | .vmem => 36
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S3x1024, .f32⟩
  | .hbm, ⟨3, _⟩ => ⟨S3x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x2304, .f32⟩
  | .hbm, ⟨8, _⟩ => ⟨S1024x2304, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x128, .bf16⟩
  | .hbm, ⟨13, _⟩ => ⟨S1024x1664, .bf16⟩
  | .hbm, ⟨14, _⟩ => ⟨S1664x1024, .bf16⟩
  | .hbm, ⟨15, _⟩ => ⟨S1024x512, .bf16⟩
  | .hbm, ⟨16, _⟩ => ⟨S1024x128, .bf16⟩
  | .hbm, ⟨17, _⟩ => ⟨S1024x640, .bf16⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S2048, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048x1, .f32⟩
  | .hbm, ⟨39, _⟩ => ⟨S1x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x64, .f32⟩
  | .hbm, ⟨46, _⟩ => ⟨S2048x32, .f32⟩
  | .hbm, ⟨47, _⟩ => ⟨S2048x64, .f32⟩
  | .hbm, ⟨48, _⟩ => ⟨S2048x128, .f32⟩
  | .hbm, ⟨49, _⟩ => ⟨S2048x128, .f32⟩
  | .hbm, ⟨50, _⟩ => ⟨S64x2048, .f32⟩
  | .hbm, ⟨51, _⟩ => ⟨S64x2048, .f32⟩
  | .hbm, ⟨52, _⟩ => ⟨S32x2048x1024, .f32⟩
  | .hbm, ⟨53, _⟩ => ⟨S32x8x512x256, .bf16⟩
  | .hbm, ⟨54, _⟩ => ⟨S32x4x512x512, .bf16⟩
  | .hbm, ⟨55, _⟩ => ⟨S32x8x512x256, .bf16⟩
  | .hbm, ⟨56, _⟩ => ⟨S32x4x128x512, .bf16⟩
  | .hbm, ⟨57, _⟩ => ⟨S32x2048x512, .bf16⟩
  | .hbm, ⟨58, _⟩ => ⟨S32x2048x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S3x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1664x1024, .bf16⟩
  | .local _ .vmem, ⟨10, _⟩ => ⟨S1024x640, .bf16⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1x1024x1024, .f32⟩
  | .local _ .vmem, ⟨20, _⟩ => ⟨S1x1024x1024, .f32⟩
  | .local _ .vmem, ⟨21, _⟩ => ⟨S1x4x512x256, .bf16⟩
  | .local _ .vmem, ⟨22, _⟩ => ⟨S1x4x512x256, .bf16⟩
  | .local _ .vmem, ⟨23, _⟩ => ⟨S1x2x512x512, .bf16⟩
  | .local _ .vmem, ⟨24, _⟩ => ⟨S1x2x512x512, .bf16⟩
  | .local _ .vmem, ⟨25, _⟩ => ⟨S1x4x512x256, .bf16⟩
  | .local _ .vmem, ⟨26, _⟩ => ⟨S1x4x512x256, .bf16⟩
  | .local _ .vmem, ⟨27, _⟩ => ⟨S1x2x128x512, .bf16⟩
  | .local _ .vmem, ⟨28, _⟩ => ⟨S1x2x128x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1x1024x128, .bf16⟩
  | .local _ .vmem, ⟨32, _⟩ => ⟨S1x1024x128, .bf16⟩
  | .local _ .vmem, ⟨33, _⟩ => ⟨S512x2816, .bf16⟩
  | .local _ .vmem, ⟨34, _⟩ => ⟨S512x1024, .bf16⟩
  | .local _ .vmem, ⟨35, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev main_v39_2 : Ref sig .tc := ⟨.hbm, 54, rfl⟩
abbrev main_v39_3 : Ref sig .tc := ⟨.hbm, 55, rfl⟩
abbrev main_v39_4 : Ref sig .tc := ⟨.hbm, 56, rfl⟩
abbrev main_v39_5 : Ref sig .tc := ⟨.hbm, 57, rfl⟩
abbrev main_v39_6 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1664x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x640 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S32x2048x1024 : Shape := ⟨3, ![32, 2048, 1024]⟩
abbrev S32x9x1024 : Shape := ⟨3, ![32, 9, 1024]⟩
abbrev S3x1024 : Shape := ⟨2, ![3, 1024]⟩
abbrev S1024x2816 : Shape := ⟨2, ![1024, 2816]⟩
abbrev S2816x1024 : Shape := ⟨2, ![2816, 1024]⟩
abbrev S1024x2304 : Shape := ⟨2, ![1024, 2304]⟩
abbrev S32x3x3x1024 : Shape := ⟨4, ![32, 3, 3, 1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x1024 : Shape := ⟨2, ![1, 1024]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩
abbrev S32x1x1x1024 : Shape := ⟨4, ![32, 1, 1, 1024]⟩
abbrev S32x1024 : Shape := ⟨2, ![32, 1024]⟩
abbrev S32x1x1024 : Shape := ⟨3, ![32, 1, 1024]⟩
abbrev S32x2048x2816 : Shape := ⟨3, ![32, 2048, 2816]⟩
abbrev S32x2048x2304 : Shape := ⟨3, ![32, 2048, 2304]⟩
abbrev S32x2048x512 : Shape := ⟨3, ![32, 2048, 512]⟩
abbrev S32x2048x128 : Shape := ⟨3, ![32, 2048, 128]⟩
abbrev S32x2048x8x64 : Shape := ⟨4, ![32, 2048, 8, 64]⟩
abbrev S32x2048x8x32 : Shape := ⟨4, ![32, 2048, 8, 32]⟩
abbrev S32x8x256x512 : Shape := ⟨4, ![32, 8, 256, 512]⟩
abbrev S32x8x512x256 : Shape := ⟨4, ![32, 8, 512, 256]⟩
abbrev S32x4x512x512 : Shape := ⟨4, ![32, 4, 512, 512]⟩
abbrev S32x4x512x128 : Shape := ⟨4, ![32, 4, 512, 128]⟩
abbrev S32x4x128x512 : Shape := ⟨4, ![32, 4, 128, 512]⟩
abbrev S32x2048x2x64 : Shape := ⟨4, ![32, 2048, 2, 64]⟩
abbrev S32x2048x2x32 : Shape := ⟨4, ![32, 2048, 2, 32]⟩

abbrev nBuf : Space → Nat
  | .hbm => 209
  | .vmem => 0
  | .smem => 0
  | _ => 0

abbrev hbmTy0_0 (i : Nat) : BufTy := match i % 128 with
  | 0 => ⟨S32x2048x1024, .f32⟩
  | 1 => ⟨S32x9x1024, .f32⟩
  | 2 => ⟨S3x1024, .f32⟩
  | 3 => ⟨S3x1024, .f32⟩
  | 4 => ⟨S1024x2816, .f32⟩
  | 5 => ⟨S1024x2816, .f32⟩
  | 6 => ⟨S2816x1024, .f32⟩
  | 7 => ⟨S1024x2304, .f32⟩
  | 8 => ⟨S32x3x3x1024, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048, .f32⟩
  | 26 => ⟨S2048x1, .f32⟩
  | 27 => ⟨S1x32, .f32⟩
  | 28 => ⟨S2048x32, .f32⟩
  | 29 => ⟨S2048x32, .f32⟩
  | 30 => ⟨S2048x32, .f32⟩
  | 31 => ⟨S2048x64, .f32⟩
  | 32 => ⟨S2048x64, .f32⟩
  | 33 => ⟨S1x2048x1x64, .f32⟩
  | 34 => ⟨S2048x64, .f32⟩
  | 35 => ⟨S1x2048x1x64, .f32⟩
  | 36 => ⟨S1x1024, .f32⟩
  | 37 => ⟨S1024, .f32⟩
  | 38 => ⟨S32x2048x1024, .f32⟩
  | 39 => ⟨S_, .f32⟩
  | 40 => ⟨S32x2048, .f32⟩
  | 41 => ⟨S32x2048x1, .f32⟩
  | 42 => ⟨S_, .f32⟩
  | 43 => ⟨S32x2048x1, .f32⟩
  | 44 => ⟨S32x2048x1, .f32⟩
  | 45 => ⟨S_, .f32⟩
  | 46 => ⟨S32x2048x1, .f32⟩
  | 47 => ⟨S32x2048x1, .f32⟩
  | 48 => ⟨S32x2048x1, .f32⟩
  | 49 => ⟨S32x2048x1024, .f32⟩
  | 50 => ⟨S32x2048x1024, .f32⟩
  | 51 => ⟨S1x1x1024, .f32⟩
  | 52 => ⟨S32x2048x1024, .f32⟩
  | 53 => ⟨S32x2048x1024, .f32⟩
  | 54 => ⟨S32x1x1x1024, .f32⟩
  | 55 => ⟨S32x1024, .f32⟩
  | 56 => ⟨S32x1x1024, .f32⟩
  | 57 => ⟨S_, .f32⟩
  | 58 => ⟨S32x1x1024, .f32⟩
  | 59 => ⟨S32x1x1024, .f32⟩
  | 60 => ⟨S32x2048x1024, .f32⟩
  | 61 => ⟨S32x2048x1024, .f32⟩
  | 62 => ⟨S32x1x1x1024, .f32⟩
  | 63 => ⟨S32x1024, .f32⟩
  | 64 => ⟨S32x1x1024, .f32⟩
  | 65 => ⟨S32x2048x1024, .f32⟩
  | 66 => ⟨S32x2048x1024, .f32⟩
  | 67 => ⟨S32x2048x2816, .f32⟩
  | 68 => ⟨S32x2048x2816, .f32⟩
  | 69 => ⟨S32x2048x2816, .f32⟩
  | 70 => ⟨S_, .f32⟩
  | 71 => ⟨S32x2048x2816, .f32⟩
  | 72 => ⟨S32x2048x2816, .f32⟩
  | 73 => ⟨S_, .f32⟩
  | 74 => ⟨S32x2048x2816, .f32⟩
  | 75 => ⟨S32x2048x2816, .f32⟩
  | 76 => ⟨S32x2048x2816, .f32⟩
  | 77 => ⟨S32x2048x2816, .f32⟩
  | 78 => ⟨S32x2048x2816, .f32⟩
  | 79 => ⟨S32x2048x1024, .f32⟩
  | 80 => ⟨S32x1x1x1024, .f32⟩
  | 81 => ⟨S32x1024, .f32⟩
  | 82 => ⟨S32x1x1024, .f32⟩
  | 83 => ⟨S1x1024, .f32⟩
  | 84 => ⟨S1024, .f32⟩
  | 85 => ⟨S32x2048x1024, .f32⟩
  | 86 => ⟨S_, .f32⟩
  | 87 => ⟨S32x2048, .f32⟩
  | 88 => ⟨S32x2048x1, .f32⟩
  | 89 => ⟨S_, .f32⟩
  | 90 => ⟨S32x2048x1, .f32⟩
  | 91 => ⟨S32x2048x1, .f32⟩
  | 92 => ⟨S_, .f32⟩
  | 93 => ⟨S32x2048x1, .f32⟩
  | 94 => ⟨S32x2048x1, .f32⟩
  | 95 => ⟨S32x2048x1, .f32⟩
  | 96 => ⟨S32x2048x1024, .f32⟩
  | 97 => ⟨S32x2048x1024, .f32⟩
  | 98 => ⟨S1x1x1024, .f32⟩
  | 99 => ⟨S32x2048x1024, .f32⟩
  | 100 => ⟨S32x2048x1024, .f32⟩
  | 101 => ⟨S32x2048x1024, .f32⟩
  | 102 => ⟨S32x2048x1024, .f32⟩
  | 103 => ⟨S_, .f32⟩
  | 104 => ⟨S32x2048x1024, .f32⟩
  | 105 => ⟨S32x2048x1024, .f32⟩
  | 106 => ⟨S32x2048x1024, .f32⟩
  | 107 => ⟨S1x1024, .f32⟩
  | 108 => ⟨S1024, .f32⟩
  | 109 => ⟨S32x2048x1024, .f32⟩
  | 110 => ⟨S_, .f32⟩
  | 111 => ⟨S32x2048, .f32⟩
  | 112 => ⟨S32x2048x1, .f32⟩
  | 113 => ⟨S_, .f32⟩
  | 114 => ⟨S32x2048x1, .f32⟩
  | 115 => ⟨S32x2048x1, .f32⟩
  | 116 => ⟨S_, .f32⟩
  | 117 => ⟨S32x2048x1, .f32⟩
  | 118 => ⟨S32x2048x1, .f32⟩
  | 119 => ⟨S32x2048x1, .f32⟩
  | 120 => ⟨S32x2048x1024, .f32⟩
  | 121 => ⟨S32x2048x1024, .f32⟩
  | 122 => ⟨S1x1x1024, .f32⟩
  | 123 => ⟨S32x2048x1024, .f32⟩
  | 124 => ⟨S32x2048x1024, .f32⟩
  | 125 => ⟨S32x1x1x1024, .f32⟩
  | 126 => ⟨S32x1024, .f32⟩
  | 127 => ⟨S32x1x1024, .f32⟩
  | _ => ⟨S32x2048x1024, .f32⟩

abbrev hbmTy0_1 (i : Nat) : BufTy := match i % 128 with
  | 0 => ⟨S_, .f32⟩
  | 1 => ⟨S32x1x1024, .f32⟩
  | 2 => ⟨S32x1x1024, .f32⟩
  | 3 => ⟨S32x2048x1024, .f32⟩
  | 4 => ⟨S32x2048x1024, .f32⟩
  | 5 => ⟨S32x1x1x1024, .f32⟩
  | 6 => ⟨S32x1024, .f32⟩
  | 7 => ⟨S32x1x1024, .f32⟩
  | 8 => ⟨S32x2048x1024, .f32⟩
  | 9 => ⟨S32x2048x1024, .f32⟩
  | 10 => ⟨S32x2048x2304, .f32⟩
  | 11 => ⟨S32x2048x512, .f32⟩
  | 12 => ⟨S32x2048x512, .f32⟩
  | 13 => ⟨S32x2048x512, .f32⟩
  | 14 => ⟨S32x2048x512, .f32⟩
  | 15 => ⟨S32x2048x128, .f32⟩
  | 16 => ⟨S32x2048x128, .f32⟩
  | 17 => ⟨S32x2048x8x64, .f32⟩
  | 18 => ⟨S32x2048x8x32, .f32⟩
  | 19 => ⟨S32x2048x8x32, .f32⟩
  | 20 => ⟨S32x2048x8x32, .f32⟩
  | 21 => ⟨S32x2048x8x64, .f32⟩
  | 22 => ⟨S32x2048x8x64, .f32⟩
  | 23 => ⟨S32x2048x8x64, .f32⟩
  | 24 => ⟨S32x2048x8x64, .f32⟩
  | 25 => ⟨S32x2048x8x64, .f32⟩
  | 26 => ⟨S32x2048x8x64, .f32⟩
  | 27 => ⟨S32x2048x512, .f32⟩
  | 28 => ⟨S_, .f32⟩
  | 29 => ⟨S32x2048x512, .f32⟩
  | 30 => ⟨S32x2048x512, .f32⟩
  | 31 => ⟨S32x8x256x512, .f32⟩
  | 32 => ⟨S32x8x512x256, .f32⟩
  | 33 => ⟨S32x8x512x256, .bf16⟩
  | 34 => ⟨S32x4x512x512, .f32⟩
  | 35 => ⟨S32x4x512x512, .f32⟩
  | 36 => ⟨S32x4x512x512, .bf16⟩
  | 37 => ⟨S32x2048x8x64, .f32⟩
  | 38 => ⟨S32x2048x8x32, .f32⟩
  | 39 => ⟨S32x2048x8x32, .f32⟩
  | 40 => ⟨S32x2048x8x32, .f32⟩
  | 41 => ⟨S32x2048x8x64, .f32⟩
  | 42 => ⟨S32x2048x8x64, .f32⟩
  | 43 => ⟨S32x2048x8x64, .f32⟩
  | 44 => ⟨S32x2048x8x64, .f32⟩
  | 45 => ⟨S32x2048x8x64, .f32⟩
  | 46 => ⟨S32x2048x8x64, .f32⟩
  | 47 => ⟨S32x2048x512, .f32⟩
  | 48 => ⟨S_, .f32⟩
  | 49 => ⟨S32x2048x512, .f32⟩
  | 50 => ⟨S32x2048x512, .f32⟩
  | 51 => ⟨S32x8x256x512, .f32⟩
  | 52 => ⟨S32x8x512x256, .f32⟩
  | 53 => ⟨S32x8x512x256, .bf16⟩
  | 54 => ⟨S32x4x512x128, .f32⟩
  | 55 => ⟨S32x4x128x512, .f32⟩
  | 56 => ⟨S32x4x128x512, .bf16⟩
  | 57 => ⟨S32x2048x8x64, .f32⟩
  | 58 => ⟨S32x2048x8x32, .f32⟩
  | 59 => ⟨S32x2048x8x32, .f32⟩
  | 60 => ⟨S32x2048x8x32, .f32⟩
  | 61 => ⟨S32x2048x8x64, .f32⟩
  | 62 => ⟨S32x2048x8x64, .f32⟩
  | 63 => ⟨S32x2048x8x64, .f32⟩
  | 64 => ⟨S32x2048x8x64, .f32⟩
  | 65 => ⟨S32x2048x8x64, .f32⟩
  | 66 => ⟨S32x2048x8x64, .f32⟩
  | 67 => ⟨S32x2048x512, .f32⟩
  | 68 => ⟨S32x2048x512, .bf16⟩
  | 69 => ⟨S32x2048x2x64, .f32⟩
  | 70 => ⟨S32x2048x2x32, .f32⟩
  | 71 => ⟨S32x2048x2x32, .f32⟩
  | 72 => ⟨S32x2048x2x32, .f32⟩
  | 73 => ⟨S32x2048x2x64, .f32⟩
  | 74 => ⟨S32x2048x2x64, .f32⟩
  | 75 => ⟨S32x2048x2x64, .f32⟩
  | 76 => ⟨S32x2048x2x64, .f32⟩
  | 77 => ⟨S32x2048x2x64, .f32⟩
  | 78 => ⟨S32x2048x2x64, .f32⟩
  | 79 => ⟨S32x2048x128, .f32⟩
  | 80 => ⟨S32x2048x128, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_8 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_v81 : Ref sig .tc := ⟨.hbm, 111, rfl⟩
abbrev main_v82 : Ref sig .tc := ⟨.hbm, 112, rfl⟩
abbrev main_cst_13 : Ref sig .tc := ⟨.hbm, 113, rfl⟩
abbrev main_v83 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_15 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_16 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_17 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩

abbrev nD : Nat := 1
abbrev τ : Topo := Topo.v7x

variable {F : FTy → Type} [FloatOps F]
-- ==== Kernel4.lean ====
abbrev S40x1024 : Shape := ⟨2, ![40, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x40x9216 : Shape := ⟨3, ![4, 40, 9216]⟩
abbrev S1x1024x2304 : Shape := ⟨3, ![1, 1024, 2304]⟩
abbrev S1x1x2304 : Shape := ⟨3, ![1, 1, 2304]⟩
abbrev S1x40x2304 : Shape := ⟨3, ![1, 40, 2304]⟩
abbrev S1024x2304 : Shape := ⟨2, ![1024, 2304]⟩
abbrev S40x2304 : Shape := ⟨2, ![40, 2304]⟩
abbrev S1x2304 : Shape := ⟨2, ![1, 2304]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x40x9216, .f32⟩
  | .local _ .vmem, ⟨0, _⟩ => ⟨S40x1024, .f32⟩
  | .local _ .vmem, ⟨1, _⟩ => ⟨S1x1024x2304, .f32⟩
  | .local _ .vmem, ⟨2, _⟩ => ⟨S1x1024x2304, .f32⟩
  | .local _ .vmem, ⟨3, _⟩ => ⟨S1x1x2304, .f32⟩
  | .local _ .vmem, ⟨4, _⟩ => ⟨S1x1x2304, .f32⟩
  | .local _ .vmem, ⟨5, _⟩ => ⟨S1x40x2304, .f32⟩
  | .local _ .vmem, ⟨6, _⟩ => ⟨S1x40x2304, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S40x1024 : Shape := ⟨2, ![40, 1024]⟩
abbrev S4x1024x9216 : Shape := ⟨3, ![4, 1024, 9216]⟩
abbrev S4x9216 : Shape := ⟨2, ![4, 9216]⟩
abbrev S_ : Shape := ⟨0, ![]⟩
abbrev S4x9216x40 : Shape := ⟨3, ![4, 9216, 40]⟩
abbrev S4x40x9216 : Shape := ⟨3, ![4, 40, 9216]⟩
abbrev S4x1x9216 : Shape := ⟨3, ![4, 1, 9216]⟩

abbrev nBuf : Space → Nat
  | .hbm => 17
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S4x1024x9216, .f32⟩
  | .hbm, ⟨2, _⟩ => ⟨S4x9216, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S4x9216x40, .f32⟩
  | .hbm, ⟨13, _⟩ => ⟨S4x40x9216, .f32⟩
  | .hbm, ⟨14, _⟩ => ⟨S4x1x9216, .f32⟩
  | .hbm, ⟨15, _⟩ => ⟨S4x40x9216, .f32⟩
  | .hbm, ⟨16, _⟩ => ⟨S4x40x9216, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Ideal.Loop.lean ====
/-
  The second pass over the query blocks (the online softmax, taken when a column sum of the bounded pass is too small)
  as a counted loop: what one trip stores, the list of what all trips store, and the loop's invariant.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 8192
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S1x8x128x256 .bf16) (harg3 : arg3.IsWhole)
  (arg4 : Memref sig .tc .vmem S1x2048x128 .bf16) (harg4 : arg4.IsWhole)
  (arg5 : Memref sig .tc .vmem S1x4x128x512 .bf16) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x64 .f32) (harg9 : arg9.IsWhole)
  (arg10 : Memref sig .tc .vmem S1x2048x128 .bf16) (harg10 : arg10.IsWhole)
  (arg11 : Memref sig .tc .vmem S8x128 .f32) (harg11 : arg11.IsWhole)
  (v14 : FVec F S1x1 .f32) (v15 : IVec S128x256 32)
  (X3 : BufTy.Contents (Elt F) arg3.view.ty) (X4 : BufTy.Contents (Elt F) arg4.view.ty) (X5 : BufTy.Contents (Elt F) arg5.view.ty)

/-- What a trip holds: the queries, keys and values at their contents, the result's buffer at `f`. -/
abbrev Trip (f : BufTy.Contents (Elt F) arg10.view.ty) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg10.view.loc (c : Thread nD τ) ↦[arg10.view.set]{fullShare} f))

/-- One trip: the pieces it stores into the result's buffer. -/
@[irreducible] def trip (k : Fin k0_t2_loop.trips) :
    { L : List (View.Piece (Elt F) S1x2048x128 .bf16) // ∀ (E : Set ℕ) (f : BufTy.Contents (Elt F) arg10.view.ty),
      Trip (F := F) c arg3 arg4 arg5 arg10 X3 X4 X5 f
      ⊢ wp frame (wpE (defs₀ (F := F)) Variants.none (c : Thread nD τ) none) E
          (k0_t2_body (F := F) i arg3 harg3 arg4 harg4 arg5 harg5 arg6 harg6 arg7 harg7 arg8 harg8 arg9 harg9 arg10 harg10 arg11 harg11 v14 v15 k ())
          (fun _ => Trip (F := F) c arg3 arg4 arg5 arg10 X3 X4 X5 (arg10.view.writes (Elt F) f L)) } := by
  have hk : k.val < 8 := Nat.lt_of_lt_of_le k.isLt k0_t2_abs.2.1
  refine ⟨?_, fun E f => ?run⟩
  case run =>
    unfold k0_t2_body
    simp only [k0_part1_eq_skeleton]
    iintro ⟨H3, H4, H5, H10⟩
    sl_exec
    sl_step
    sl_close

abbrev tripL (k : Fin k0_t2_loop.trips) : List (View.Piece (Elt F) S1x2048x128 .bf16) :=
  (trip (F := F) c i arg3 harg3 arg4 harg4 arg5 harg5 arg6 harg6 arg7 harg7 arg8 harg8 arg9 harg9 arg10 harg10 arg11 harg11 v14 v15 X3 X4 X5 k).1

@[irreducible] def pbStep (k : ℕ) (prev : List (View.Piece (Elt F) S1x2048x128 .bf16)) : List (View.Piece (Elt F) S1x2048x128 .bf16) :=
  if h : k < k0_t2_loop.trips then
    tripL (F := F) c i arg3 harg3 arg4 harg4 arg5 harg5 arg6 harg6 arg7 harg7 arg8 harg8 arg9 harg9 arg10 harg10 arg11 harg11 v14 v15 X3 X4 X5 ⟨k, h⟩ ++ prev
  else prev

/-- What the trips before trip `k` store, the last first. -/
def pb : ℕ → List (View.Piece (Elt F) S1x2048x128 .bf16)
  | 0 => []
  | k + 1 => pbStep c i arg3 harg3 arg4 harg4 arg5 harg5 arg6 harg6 arg7 harg7 arg8 harg8 arg9 harg9 arg10 harg10 arg11 harg11 v14 v15 X3 X4 X5 k (pb k)

theorem pb_succ (k : Fin k0_t2_loop.trips) :
    pb (F := F) c i arg3 harg3 arg4 harg4 arg5 harg5 arg6 harg6 arg7 harg7 arg8 harg8 arg9 harg9 arg10 harg10 arg11 harg11 v14 v15 X3 X4 X5 (k.val + 1)
      = tripL (F := F) c i arg3 harg3 arg4 harg4 arg5 harg5 arg6 harg6 arg7 harg7 arg8 harg8 arg9 harg9 arg10 harg10 arg11 harg11 v14 v15 X3 X4 X5 k
        ++ pb (F := F) c i arg3 harg3 arg4 harg4 arg5 harg5 arg6 harg6 arg7 harg7 arg8 harg8 arg9 harg9 arg10 harg10 arg11 harg11 v14 v15 X3 X4 X5 k.val := by
  rw [pb.eq_2]; unfold pbStep; exact dif_pos k.isLt

abbrev inv (G : BufTy.Contents (Elt F) arg10.view.ty) (k : ℕ) (acc : Unit) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ (∃ f, (arg10.view.loc (c : Thread nD τ) ↦[arg10.view.set]{fullShare} f)
        ∗ ⌜f = arg10.view.writes (Elt F) G (pb (F := F) c i arg3 harg3 arg4 harg4 arg5 harg5 arg6 harg6 arg7 harg7 arg8 harg8 arg9 harg9 arg10 harg10 arg11 harg11 v14 v15 X3 X4 X5 k)⌝))

set_option warn.classDefReducibility false in
/-- The loop by its invariant: before trip `k` the result's buffer holds the pieces of the trips before it. -/
@[sl_loop] def loopInv_k0_t2 (E : Set ℕ) (G : BufTy.Contents (Elt F) arg10.view.ty) :
    LoopInvTy_k0_t2 (F := F) Unit ℕ (UR sig nD τ) ℕ Variants.none c none E i arg3 harg3 arg4 harg4 arg5 harg5 arg6 harg6 arg7 harg7 arg8 harg8 arg9 harg9 arg10 harg10 arg11 harg11 v14 v15 where
  inv := inv (F := F) c i arg3 harg3 arg4 harg4 arg5 harg5 arg6 harg6 arg7 harg7 arg8 harg8 arg9 harg9 arg10 harg10 arg11 harg11 v14 v15 X3 X4 X5 G
  step k acc := by
    iintro ⟨H3, H4, H5, ⟨%f, HW, %hf⟩⟩
    iapply (wp_wand_r Idealize.ShloMosaic.frame (wpE (defs₀ (F := F)) Variants.none (c : Thread nD τ) none) E)
    isplitl [H3 H4 H5 HW]
    · iapply ((trip (F := F) c i arg3 harg3 arg4 harg4 arg5 harg5 arg6 harg6 arg7 harg7 arg8 harg8 arg9 harg9 arg10 harg10 arg11 harg11 v14 v15 X3 X4 X5 k).2 E f)
      isplitl [H3]; · iexact H3
      isplitl [H4]; · iexact H4
      isplitl [H5]; · iexact H5
      iexact HW
    · iintro %_ ⟨H3, H4, H5, HW⟩
      isplitl [H3]; · iexact H3
      isplitl [H4]; · iexact H4
      isplitl [H5]; · iexact H5
      rw [pb_succ]
      iexists _; isplitl [HW]; · iexact HW
      ipureintro; rw [hf, ← View.writes_append]

end Cert.Proof.KernelIdeal

end
-- ==== Proof.Ideal.Spec.lean ====
/-
  What one grid point computes, as functions of whole vectors: a block of 256 queries (two heads of 64 lanes, laid side by side
  as 512 columns) against 2048 keys in four chunks, by the bounded pass and by the online softmax.
-/
module

public import proofs.«01_k».proof.Proof.Gen.KernelIdeal
public import proofs.«01_k».proof.Proof.Gen.KernelIdeal.Skeleton
public import Idealize.ShloMosaic.Lib.ValueIdx

@[expose] public section

noncomputable section

namespace Cert.Proof.KernelIdeal

open Cert.KernelIdeal Cert.KernelIdeal.Gen
open Idealize.ShloMosaic Idealize.ShloMosaic.ValueIdx Idealize.SL.Sem

variable {F : FTy → Type} [FloatOps F]

/-- The weight of the second head's softmax: `exp (a · b) - exp (c · d) + 0.2`. -/
def lam (a b c d : Vec F S1x64 .f32) : FVec F S1x1 .f32 :=
  addf (subf (exp (shapeCast S1x1 (multiReduction (s := S1x64) .add [1] S1 (mulf a b) 0x00000000#32 reduces_S1x64_S1 (.inl rfl) rfl) shapeCasts_S1_S1x1))
    (exp (shapeCast S1x1 (multiReduction (s := S1x64) .add [1] S1 (mulf c d) 0x00000000#32 reduces_S1x64_S1 (.inl rfl) rfl) shapeCasts_S1_S1x1)))
    (broadcast S1x1 (Scalar.ofBits .f32 0x3E4CCCCD#32))

/-- The number of the lane (row) of each element of a query block. -/
def lanes : IVec S128x256 32 := iota .tc S128x256 32 [0] iota_S128x256_d0_w32

/-- A query block twice, side by side: the first head's lanes, zero elsewhere; the second head's lanes, zero elsewhere. -/
def padded (q : Vec F S1x1x128x256 .bf16) : FVec F S128x512 .bf16 :=
  concatenate S128x512 1
    [⟨S128x256, select (cmpi .slt lanes (broadcast S128x256 64#32)) (shapeCast S128x256 q shapeCasts_S1x1x128x256_S128x256)
        (broadcast S128x256 (Scalar.ofBits .bf16 0x0000#16))⟩,
      ⟨S128x256, select (cmpi .sge lanes (broadcast S128x256 64#32)) (shapeCast S128x256 q shapeCasts_S1x1x128x256_S128x256)
        (broadcast S128x256 (Scalar.ofBits .bf16 0x0000#16))⟩]
    concatenates_S128x256_S128x256_S128x512_d1

/-- The scores of a chunk of keys against a padded query block. -/
def scores (k : Vec F S1x512x128 .bf16) (qp : FVec F S128x512 .bf16) : FVec F S512x512 .f32 :=
  matmul dot_S512x128_S128x512_S512x512_1_0_0_1_n_n none (shapeCast S512x128 k shapeCasts_S1x512x128_S512x128) qp
    (constant S512x512 .f32 0x00000000#32)

/-- The bounded pass' shift of a column: its query's norm, times the keys' largest norm, times a little over one. -/
def shift (kmax : FVec F S1x512 .f32) (qp : FVec F S128x512 .bf16) : FVec F S1x512 .f32 :=
  mulf (mulf (sqrt (shapeCast S1x512
      (multiReduction (s := S128x512) .add [0] S512 (mulf (extf .f32 qp bitsLt_bf16_f32) (extf .f32 qp bitsLt_bf16_f32)) 0x00000000#32 reduces_S128x512_S512 (.inl rfl) rfl)
      shapeCasts_S512_S1x512)) kmax) (broadcast S1x512 (Scalar.ofBits .f32 0x3F800800#32))

/-- The weights of a chunk under a shift. -/
def weights (s : FVec F S512x512 .f32) (sh : FVec F S1x512 .f32) : FVec F S512x512 .f32 :=
  exp2 (subf s (broadcastTo S512x512 sh broadcasts_S1x512_S512x512))

/-- A chunk's weights, summed by their key's number modulo eight. -/
def eighths (p : FVec F S512x512 .f32) : FVec F S8x512 .f32 :=
  multiReduction .add [0] S8x512 (shapeCast S64x8x512 p shapeCasts_S512x512_S64x8x512) 0x00000000#32 reduces_S64x8x512_S8x512 (.inl rfl) rfl

/-- A chunk's values (transposed) times its weights, head by head. -/
def timesV (p : FVec F S512x512 .f32) (v : Vec F S1x1x128x512 .bf16) : FVec F S128x512 .f32 :=
  concatenate S128x512 1
    [⟨S128x256, matmul dot_S128x512_S512x256_S128x256_1_0_0_1_n_n none (shapeCast S128x512 v shapeCasts_S1x1x128x512_S128x512)
        (extractStridedSlice S512x256 ![0, 0] (truncf .bf16 p bitsLt_bf16_f32) slices_S512x512_o0_0_S512x256) (constant S128x256 .f32 0x00000000#32)⟩,
      ⟨S128x256, matmul dot_S128x512_S512x256_S128x256_1_0_0_1_n_n none (shapeCast S128x512 v shapeCasts_S1x1x128x512_S128x512)
        (extractStridedSlice S512x256 ![0, 256] (truncf .bf16 p bitsLt_bf16_f32) slices_S512x512_o0_256_S512x256) (constant S128x256 .f32 0x00000000#32)⟩]
    concatenates_S128x256_S128x256_S128x512_d1

/-- The difference of the two heads' means, its root mean square scaled to 0.8, transposed. -/
def diffNorm (lm : FVec F S1x1 .f32) (l : FVec F S1x512 .f32) (acc : FVec F S128x512 .f32) : FVec F S128x256 .f32 :=
  subf (extractStridedSlice S128x256 ![0, 0] (divf acc (broadcastTo S128x512 l broadcasts_S1x512_S128x512)) slices_S128x512_o0_0_S128x256)
    (mulf (broadcastTo S128x256 lm broadcasts_S1x1_S128x256)
      (extractStridedSlice S128x256 ![0, 256] (divf acc (broadcastTo S128x512 l broadcasts_S1x512_S128x512)) slices_S128x512_o0_256_S128x256))

/-- A block's result from its columns' weight sums and weighted values. -/
def finish (lm : FVec F S1x1 .f32) (l : FVec F S1x512 .f32) (acc : FVec F S128x512 .f32) : FVec F S1x256x128 .bf16 :=
  shapeCast S1x256x128 (truncf .bf16 (transpose S256x128 [1, 0]
    (mulf (mulf (diffNorm lm l acc) (broadcastTo S128x256 (rsqrt (addf
        (divf (shapeCast S1x256 (multiReduction (s := S128x256) .add [0] S256 (mulf (diffNorm lm l acc) (diffNorm lm l acc)) 0x00000000#32 reduces_S128x256_S256 (.inl rfl) rfl) shapeCasts_S256_S1x256)
          (broadcast S1x256 (Scalar.ofBits .f32 0x43000000#32)))
        (broadcast S1x256 (Scalar.ofBits .f32 0x3727C5AC#32)))) broadcasts_S1x256_S128x256))
      (broadcast S128x256 (Scalar.ofBits .f32 0x3F4CCCCD#32))) transposes_S128x256_p1_0_S256x128) bitsLt_bf16_f32) shapeCasts_S256x128_S1x256x128

section block
variable (kmax : FVec F S1x512 .f32) (q : Vec F S1x1x128x256 .bf16) (k : Fin 4 → Vec F S1x512x128 .bf16) (v : Fin 4 → Vec F S1x1x128x512 .bf16)

/-- The bounded pass' weights of chunk `j`. -/
def boundedP (j : Fin 4) : FVec F S512x512 .f32 := weights (scores (k j) (padded q)) (shift kmax (padded q))

/-- The bounded pass' column sums. -/
def boundedL : FVec F S1x512 .f32 :=
  shapeCast S1x512 (multiReduction (s := S8x512) .add [0] S512
    (addf (addf (addf (addf (broadcast S8x512 (Scalar.ofBits .f32 0x00000000#32)) (eighths (boundedP kmax q k 0))) (eighths (boundedP kmax q k 1)))
      (eighths (boundedP kmax q k 2))) (eighths (boundedP kmax q k 3)))
    0x00000000#32 reduces_S8x512_S512 (.inl rfl) rfl) shapeCasts_S512_S1x512

/-- The bounded pass' weighted values. -/
def boundedAcc : FVec F S128x512 .f32 :=
  addf (addf (addf (addf (broadcast S128x512 (Scalar.ofBits .f32 0x00000000#32)) (timesV (boundedP kmax q k 0) (v 0))) (timesV (boundedP kmax q k 1) (v 1)))
    (timesV (boundedP kmax q k 2) (v 2))) (timesV (boundedP kmax q k 3) (v 3))

/-- The bounded pass' result. -/
def bounded (lm : FVec F S1x1 .f32) (kmax : FVec F S1x512 .f32) (q : Vec F S1x1x128x256 .bf16) (k : Fin 4 → Vec F S1x512x128 .bf16)
    (v : Fin 4 → Vec F S1x1x128x512 .bf16) : FVec F S1x256x128 .bf16 :=
  finish lm (boundedL kmax q k) (boundedAcc kmax q k v)

/-- The online softmax's maximum, sum and weighted values after the first `n` chunks. -/
def online : ℕ → FVec F S1x512 .f32 × FVec F S1x512 .f32 × FVec F S128x512 .f32
  | 0 => (broadcast S1x512 (Scalar.ofBits .f32 0xFF800000#32), broadcast S1x512 (Scalar.ofBits .f32 0x00000000#32),
      broadcast S128x512 (Scalar.ofBits .f32 0x00000000#32))
  | n + 1 =>
    let s := scores (k (Fin.ofNat 4 n)) (padded q)
    let m' := maximumf (online n).1 (shapeCast S1x512 (multiReduction .maximumf [0] S512 s 0xFF800000#32 reduces_S512x512_S512 (.inl rfl) rfl) shapeCasts_S512_S1x512)
    let a := exp2 (subf (online n).1 m')
    let p := weights s m'
    (m', addf (mulf a (online n).2.1) (shapeCast S1x512 (multiReduction .add [0] S512 p 0x00000000#32 reduces_S512x512_S512 (.inl rfl) rfl) shapeCasts_S512_S1x512),
      addf (mulf (online n).2.2 (broadcastTo S128x512 a broadcasts_S1x512_S128x512)) (timesV p (v (Fin.ofNat 4 n))))

end block

/-- A chunk's largest sum of squares of a key, key by key, with what the chunks before left. -/
def normStep (mx : FVec F S512x1 .f32) (k : Vec F S1x512x128 .bf16) : FVec F S512x1 .f32 :=
  maximumf mx (shapeCast S512x1 (multiReduction (s := S512x128) .add [1] S512
    (mulf (extf .f32 (shapeCast S512x128 k shapeCasts_S1x512x128_S512x128) bitsLt_bf16_f32)
      (extf .f32 (shapeCast S512x128 k shapeCasts_S1x512x128_S512x128) bitsLt_bf16_f32)) 0x00000000#32 reduces_S512x128_S512 (.inl rfl) rfl) shapeCasts_S512_S512x1)

/-- The largest sums of squares after the first `n` chunks. -/
def norms (k : Fin 4 → Vec F S1x512x128 .bf16) : ℕ → FVec F S512x1 .f32
  | 0 => broadcast S512x1 (Scalar.ofBits .f32 0x00000000#32)
  | n + 1 => normStep (norms k n) (k (Fin.ofNat 4 n))

/-- The keys' largest norm, in every row and lane of the scratch block. -/
def kmaxFull (k : Fin 4 → Vec F S1x512x128 .bf16) : FVec F S8x128 .f32 :=
  shapeCast S8x128 (broadcastTo S8x128 (shapeCast S1x1 (sqrt (shapeCast S1x1
    (multiReduction (s := S512x1) .maximumf [0] S1 (norms k 4) 0xFF800000#32 reduces_S512x1_S1 (.inl rfl) rfl) shapeCasts_S1_S1x1)) shapeCasts_S1x1_S1x1) broadcasts_S1x1_S8x128) shapeCasts_S8x128_S8x128

/-- The keys' largest norm in every one of the 512 columns. -/
def kmax (k : Fin 4 → Vec F S1x512x128 .bf16) : FVec F S1x512 .f32 :=
  let row : FVec F S1x128 .f32 := fun z => kmaxFull k (ix2 (n0 := 8) (n1 := 128) 0 (z 1))
  concatenate S1x512 1 [⟨S1x128, row⟩, ⟨S1x128, row⟩, ⟨S1x128, row⟩, ⟨S1x128, row⟩] concatenates_S1x128_S1x128_S1x128_S1x128_S1x512_d1

section again
variable (km : FVec F S1x512 .f32) (q : Fin 8 → Vec F S1x1x128x256 .bf16) (k : Fin 4 → Vec F S1x512x128 .bf16)

/-- The least column sum of the bounded pass over the first `n` blocks. -/
def leastSum : ℕ → FVec F S1x512 .f32
  | 0 => broadcast S1x512 (Scalar.ofBits .f32 0x7F800000#32)
  | n + 1 => minimumf (leastSum n) (boundedL km (q (Fin.ofNat 8 n)) k)

/-- Whether a column sum of the bounded pass is under `2 ^ -80`: the word the body branches on. -/
def again : BitVec 1 :=
  Scalar.cmpi .ne (Scalar.extui (Scalar.xori (Scalar.cmpf .oge
    (extractAt ![0, 0, 0] (shapeCast S1x1x1 (multiReduction (s := S1x1x512) .minimumf [1, 2] S1 (shapeCast S1x1x512 (leastSum km q k 8) shapeCasts_S1x512_S1x1x512)
      0x7F800000#32 reduces_S1x1x512_S1 (.inl rfl) rfl) shapeCasts_S1_S1x1x1) inpos_S1x1x1_p0_0_0 : F .f32)
    (Scalar.ofBits .f32 0x17800000#32)) 1#1) : BitVec 32) 0#32

end again

/-! ## The point's staged blocks in blocks of queries and chunks of keys -/

/-- The queries of block `b`. -/
def qBlock (x : Vec F S1x8x128x256 .bf16) (b : Fin 8) : Vec F S1x1x128x256 .bf16 :=
  fun z => x (ix4 (n0 := 1) (n1 := 8) (n2 := 128) (n3 := 256) 0 b (z 2) (z 3))

/-- The keys of chunk `j`. -/
def kChunk (x : Vec F S1x2048x128 .bf16) (j : Fin 4) : Vec F S1x512x128 .bf16 :=
  fun z => x (ix3 (n0 := 1) (n1 := 2048) (n2 := 128) 0 ⟨512 * j.val + (z 1).val, by have := j.isLt; have h : (z 1).val < 512 := (z 1).isLt; omega⟩ (z 2))

/-- The values of chunk `j`. -/
def vChunk (x : Vec F S1x4x128x512 .bf16) (j : Fin 4) : Vec F S1x1x128x512 .bf16 :=
  fun z => x (ix4 (n0 := 1) (n1 := 4) (n2 := 128) (n3 := 512) 0 j (z 2) (z 3))

section point
variable (x0 : Vec F S1x8x128x256 .bf16) (x1 : Vec F S1x2048x128 .bf16) (x2 : Vec F S1x4x128x512 .bf16) (x3 x4 x5 x6 : Vec F S1x64 .f32)

/-- Block `b`'s result by the bounded pass. -/
def boundedBlock (b : Fin 8) : FVec F S1x256x128 .bf16 :=
  bounded (lam x3 x4 x5 x6) (kmax (kChunk x1)) (qBlock x0 b) (kChunk x1) (vChunk x2)

/-- Block `b`'s result by the online softmax. -/
def onlineBlock (b : Fin 8) : FVec F S1x256x128 .bf16 :=
  finish (lam x3 x4 x5 x6) (online (qBlock x0 b) (kChunk x1) (vChunk x2) 4).2.1 (online (qBlock x0 b) (kChunk x1) (vChunk x2) 4).2.2

/-- Blocks of 256 rows as one array of 2048. -/
def rows (B : Fin 8 → FVec F S1x256x128 .bf16) : Vec F S1x2048x128 .bf16 :=
  fun y => B ⟨(y 1).val / 256, by have h : (y 1).val < 2048 := (y 1).isLt; omega⟩
    (ix3 (n0 := 1) (n1 := 256) (n2 := 128) 0 ⟨(y 1).val % 256, Nat.mod_lt _ (by decide)⟩ (y 2))

/-- What the body leaves in the result's block. -/
def out : Vec F S1x2048x128 .bf16 :=
  if again (kmax (kChunk x1)) (qBlock x0) (kChunk x1) = 1#1 then rows (onlineBlock x0 x1 x2 x3 x4 x5 x6) else rows (boundedBlock x0 x1 x2 x3 x4 x5 x6)

end point

end Cert.Proof.KernelIdeal

end
-- ==== Proof.Ideal.Reads.lean ====
/-
  The loads of a grid point on any staging buffers as blocks of queries and chunks of keys and values, and the body's loops as
  the recursions of Spec.lean.
-/
module

public import proofs.«01_k».proof.Proof.Ideal.Loop
public import proofs.«01_k».proof.Proof.Ideal.Spec
public import Idealize.ShloMosaic.Lib.WholeRead
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (arg3 : Memref sig .tc .vmem S1x8x128x256 .bf16) (harg3 : arg3.IsWhole)
  (arg4 : Memref sig .tc .vmem S1x2048x128 .bf16) (harg4 : arg4.IsWhole)
  (arg5 : Memref sig .tc .vmem S1x4x128x512 .bf16) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x64 .f32) (harg9 : arg9.IsWhole)
  (arg10 : Memref sig .tc .vmem S1x2048x128 .bf16) (harg10 : arg10.IsWhole)
  (arg11 : Memref sig .tc .vmem S8x128 .f32) (harg11 : arg11.IsWhole)
  (x0 : Vec F S1x8x128x256 .bf16) (x1 : Vec F S1x2048x128 .bf16) (x2 : Vec F S1x4x128x512 .bf16)
  (x3 x4 x5 x6 : Vec F S1x64 .f32)

/-! ## Loads -/

omit [FloatOps F] in
theorem load_q (b : Fin 8) (off : Fin 4 → ℕ) (e : off = ![0, b.val, 0, 0]) (inb) :
    View.readAt (Elt F) arg3.view (Rect.unit (s := S1x8x128x256) off S1x1x128x256.size inb).toLoadRect (harg3.unread x0) = qBlock x0 b := by
  subst e; funext z; rw [harg3.readAt_unread]; unfold qBlock
  refine congrArg x0 (funext fun a => Fin.ext ?_)
  match a with
  | ⟨0, _⟩ => show 0 + 1 * (z 0).val = 0; have h : (z 0).val < 1 := (z 0).isLt; omega
  | ⟨1, _⟩ => show b.val + 1 * (z 1).val = b.val; have h : (z 1).val < 1 := (z 1).isLt; omega
  | ⟨2, _⟩ => show 0 + 1 * (z 2).val = (z 2).val; omega
  | ⟨3, _⟩ => show 0 + 1 * (z 3).val = (z 3).val; omega

omit [FloatOps F] in
theorem load_k (j : Fin 4) (off : Fin 3 → ℕ) (e : off = ![0, 512 * j.val, 0]) (inb) :
    View.readAt (Elt F) arg4.view (Rect.unit (s := S1x2048x128) off S1x512x128.size inb).toLoadRect (harg4.unread x1) = kChunk x1 j := by
  subst e; funext z; rw [harg4.readAt_unread]; unfold kChunk
  refine congrArg x1 (funext fun a => Fin.ext ?_)
  match a with
  | ⟨0, _⟩ => show 0 + 1 * (z 0).val = 0; have h : (z 0).val < 1 := (z 0).isLt; omega
  | ⟨1, _⟩ => show 512 * j.val + 1 * (z 1).val = 512 * j.val + (z 1).val; omega
  | ⟨2, _⟩ => show 0 + 1 * (z 2).val = (z 2).val; omega

omit [FloatOps F] in
theorem load_v (j : Fin 4) (off : Fin 4 → ℕ) (e : off = ![0, j.val, 0, 0]) (inb) :
    View.readAt (Elt F) arg5.view (Rect.unit (s := S1x4x128x512) off S1x1x128x512.size inb).toLoadRect (harg5.unread x2) = vChunk x2 j := by
  subst e; funext z; rw [harg5.readAt_unread]; unfold vChunk
  refine congrArg x2 (funext fun a => Fin.ext ?_)
  match a with
  | ⟨0, _⟩ => show 0 + 1 * (z 0).val = 0; have h : (z 0).val < 1 := (z 0).isLt; omega
  | ⟨1, _⟩ => show j.val + 1 * (z 1).val = j.val; have h : (z 1).val < 1 := (z 1).isLt; omega
  | ⟨2, _⟩ => show 0 + 1 * (z 2).val = (z 2).val; omega
  | ⟨3, _⟩ => show 0 + 1 * (z 3).val = (z 3).val; omega

omit [FloatOps F] in
theorem load_row {m : Memref sig .tc .vmem S1x64 .f32} (h : m.IsWhole) (x : Vec F S1x64 .f32) (inb) :
    View.readAt (Elt F) m.view (Rect.unit (s := S1x64) ![0, 0] S1x64.size inb).toLoadRect (h.unread x) = x := by
  funext z; rw [h.readAt_unread]
  refine congrArg x (funext fun a => Fin.ext ?_)
  match a with
  | ⟨0, _⟩ => show 0 + 1 * (z 0).val = (z 0).val; omega
  | ⟨1, _⟩ => show 0 + 1 * (z 1).val = (z 1).val; omega

/-! ## The keys' largest norm -/

theorem st_t1 (h1 : k0_cond1 i = 1#1) : ∀ n : ℕ, n ≤ 4 →
    st_k0_t1 (F := F) Variants.none c none i arg3 harg3 arg4 harg4 arg5 harg5 arg6 harg6 arg7 harg7 arg8 harg8 arg9 harg9 arg10 harg10 arg11 harg11 h1 (harg4.unread x1) k0_pay15 n = norms (kChunk x1) n
  | 0, _ => rfl
  | n + 1, hn => by
    have hk : n < k0_t1_loop.trips := Nat.lt_of_lt_of_le (by omega : n < 4) (by decide +kernel)
    refine (st_k0_t1_succ (F := F) Variants.none c none i arg3 harg3 arg4 harg4 arg5 harg5 arg6 harg6 arg7 harg7 arg8 harg8 arg9 harg9 arg10 harg10 arg11 harg11 h1 (harg4.unread x1) k0_pay15 ⟨n, hk⟩).trans ?_
    rw [show (⟨n, hk⟩ : Fin k0_t1_loop.trips).val = n from rfl, st_t1 h1 n (by omega)]
    unfold tripR_k0_t1 trip_k0_t1
    show normStep (norms (kChunk x1) n) _ = normStep (norms (kChunk x1) n) _
    refine congrArg _ (load_k arg4 harg4 x1 (Fin.ofNat 4 n) _ ?_ _)
    rw [k0_off1_eq]; show ![0, 512 * n, 0] = ![0, 512 * (n % 4), 0]
    rw [Nat.mod_eq_of_lt (by omega)]

theorem kmax_eq (h1 : k0_cond1 i = 1#1) (inb inb') :
    k0_pay18 (arg11.view.readCov [⟨Rect.unit (s := S8x128) ![0, 0] S8x128.size inb, k0_pay17 (st_k0_t1 (F := F) Variants.none c none i arg3 harg3 arg4 harg4 arg5 harg5 arg6 harg6 arg7 harg7 arg8 harg8 arg9 harg9 arg10 harg10 arg11 harg11 h1 (harg4.unread x1) k0_pay15 (Scf.trips k0_t1_loop.lb k0_t1_loop.ub k0_t1_loop.st))⟩]
      (Rect.unit (s := S8x128) ![0, 0] S1x128.size inb').toLoadRect) = kmax (kChunk x1) := by
  rw [show Scf.trips k0_t1_loop.lb k0_t1_loop.ub k0_t1_loop.st = 4 by decide +kernel, st_t1 c i arg3 harg3 arg4 harg4 arg5 harg5 arg6 harg6 arg7 harg7 arg8 harg8 arg9 harg9 arg10 harg10 arg11 harg11 x1 h1 4 le_rfl]
  have e : (arg11.view.readCov [⟨Rect.unit (s := S8x128) ![0, 0] S8x128.size inb, k0_pay17 (norms (kChunk x1) 4)⟩]
      (Rect.unit (s := S8x128) ![0, 0] S1x128.size inb').toLoadRect : Vec F S1x128 .f32) = fun z : S1x128.Idx => (kmaxFull (kChunk x1) (ix2 (n0 := 8) (n1 := 128) 0 (z 1)) : Elt F .f32) := by
    funext z
    refine (View.read_writes_cons_hit_of_coords _ _ (Rect.unit (s := S8x128) ![0, 0] S8x128.size inb) _ [] (ix2 (n0 := 8) (n1 := 128) 0 (z 1)) _ ?_).trans rfl
    intro a
    match a with
    | ⟨0, _⟩ => show 0 + 1 * (z 0).val = 0 + 1 * 0; have h : (z 0).val < 1 := (z 0).isLt; omega
    | ⟨1, _⟩ => rfl
  rw [e]; rfl

/-! ## The online softmax -/

theorem st_t3 (v14 : FVec F S1x1 .f32) (b : Fin k0_t2_loop.trips) (q : Vec F S1x1x128x256 .bf16) : ∀ n : ℕ, n ≤ 4 →
    st_k0_t3 (F := F) Variants.none c none i arg3 harg3 arg4 harg4 arg5 harg5 arg6 harg6 arg7 harg7 arg8 harg8 arg9 harg9 arg10 harg10 arg11 harg11 v14 lanes 0#32 1#32 b q (harg4.unread x1) (harg5.unread x2) (k0_pay4, k0_pay5, k0_pay6) n
      = online q (kChunk x1) (vChunk x2) n
  | 0, _ => rfl
  | n + 1, hn => by
    have hk : n < k0_t3_loop.trips := Nat.lt_of_lt_of_le (by omega : n < 4) (by decide +kernel)
    refine (st_k0_t3_succ (F := F) Variants.none c none i arg3 harg3 arg4 harg4 arg5 harg5 arg6 harg6 arg7 harg7 arg8 harg8 arg9 harg9 arg10 harg10 arg11 harg11 v14 lanes 0#32 1#32 b q (harg4.unread x1) (harg5.unread x2) _ ⟨n, hk⟩).trans ?_
    rw [show (⟨n, hk⟩ : Fin k0_t3_loop.trips).val = n from rfl, st_t3 v14 b q n (by omega)]
    unfold tripR_k0_t3 trip_k0_t3
    have ek := load_k arg4 harg4 x1 (Fin.ofNat 4 n) (k0_off4 ⟨n, hk⟩)
      (by rw [k0_off4_eq]; show ![0, 512 * n, 0] = ![0, 512 * (n % 4), 0]; rw [Nat.mod_eq_of_lt (by omega)]) (k0_off4_inb ⟨n, hk⟩)
    have ev := load_v arg5 harg5 x2 (Fin.ofNat 4 n) (k0_off5 ⟨n, hk⟩)
      (by rw [k0_off5_eq]; show ![0, n, 0, 0] = ![0, n % 4, 0, 0]; rw [Nat.mod_eq_of_lt (by omega)]) (k0_off5_inb ⟨n, hk⟩)
    show _ = (_, _, _)
    dsimp only
    rw [← ek, ← ev]
    rfl

/-- A trip of the second pass stores its block by the online softmax. -/
theorem trip_eq (k : Fin k0_t2_loop.trips) (hk : k.val < 8) :
    tripL (F := F) c i arg3 harg3 arg4 harg4 arg5 harg5 arg6 harg6 arg7 harg7 arg8 harg8 arg9 harg9 arg10 harg10 arg11 harg11 (lam x3 x4 x5 x6) lanes (harg3.unread x0) (harg4.unread x1) (harg5.unread x2) k
      = [⟨Rect.unit (s := S1x2048x128) (k0_off6 k) S1x256x128.size (k0_off6_inb k), onlineBlock x0 x1 x2 x3 x4 x5 x6 ⟨k.val, hk⟩⟩] := by
  have e : tripL (F := F) c i arg3 harg3 arg4 harg4 arg5 harg5 arg6 harg6 arg7 harg7 arg8 harg8 arg9 harg9 arg10 harg10 arg11 harg11 (lam x3 x4 x5 x6) lanes (harg3.unread x0) (harg4.unread x1) (harg5.unread x2) k
      = [⟨Rect.unit (s := S1x2048x128) (k0_off6 k) S1x256x128.size (k0_off6_inb k),
          let st := st_k0_t3 (F := F) Variants.none c none i arg3 harg3 arg4 harg4 arg5 harg5 arg6 harg6 arg7 harg7 arg8 harg8 arg9 harg9 arg10 harg10 arg11 harg11 (lam x3 x4 x5 x6) lanes 0#32 1#32 k
            (View.readAt (Elt F) arg3.view (Rect.unit (s := S1x8x128x256) (k0_off3 k) S1x1x128x256.size (k0_off3_inb k)).toLoadRect (harg3.unread x0))
            (harg4.unread x1) (harg5.unread x2) (k0_pay4, k0_pay5, k0_pay6) 4
          finish (lam x3 x4 x5 x6) st.2.1 st.2.2⟩] := by
    unfold tripL trip
    rfl
  rw [e, load_q arg3 harg3 x0 ⟨k.val, hk⟩ (k0_off3 k) (k0_off3_eq k) (k0_off3_inb k)]
  dsimp only
  rw [st_t3 c i arg3 harg3 arg4 harg4 arg5 harg5 arg6 harg6 arg7 harg7 arg8 harg8 arg9 harg9 arg10 harg10 arg11 harg11 x1 x2 (lam x3 x4 x5 x6) k (qBlock x0 ⟨k.val, hk⟩) 4 le_rfl]
  rfl

/-! ## Stores -/

/-- Block `b`'s rows in the result's block. -/
theorem rows_emb (B : Fin 8 → FVec F S1x256x128 .bf16) (b : Fin 8) (off : Fin 3 → ℕ) (e : off = ![0, 256 * b.val, 0]) (inb)
    (x : (Rect.unit (s := S1x2048x128) off S1x256x128.size inb).shape.Idx) :
    rows B ((Rect.unit (s := S1x2048x128) off S1x256x128.size inb).emb x) = B b x := by
  subst e
  have h0 : (x 0).val < 1 := (x 0).isLt
  have h1 : (x 1).val < 256 := (x 1).isLt
  unfold rows
  have e1 : (((Rect.unit (s := S1x2048x128) ![0, 256 * b.val, 0] S1x256x128.size inb).emb x) 1).val = 256 * b.val + (x 1).val := by
    show 256 * b.val + 1 * (x 1).val = _; omega
  have e2 : (((Rect.unit (s := S1x2048x128) ![0, 256 * b.val, 0] S1x256x128.size inb).emb x) 2).val = (x 2).val := by
    show 0 + 1 * (x 2).val = _; omega
  have eb : (⟨(((Rect.unit (s := S1x2048x128) ![0, 256 * b.val, 0] S1x256x128.size inb).emb x) 1).val / 256, by omega⟩ : Fin 8) = b :=
    Fin.ext (by show _ / 256 = b.val; rw [e1]; omega)
  rw [eb]
  refine congrArg (B b) (funext fun a => Fin.ext ?_)
  match a with
  | ⟨0, _⟩ => show 0 = (x 0).val; omega
  | ⟨1, _⟩ => show _ % 256 = (x 1).val; rw [e1]; omega
  | ⟨2, _⟩ => exact e2

theorem pb_pieces (n : ℕ) (hn : n ≤ 8) :
    (∀ p ∈ pb (F := F) c i arg3 harg3 arg4 harg4 arg5 harg5 arg6 harg6 arg7 harg7 arg8 harg8 arg9 harg9 arg10 harg10 arg11 harg11 (lam x3 x4 x5 x6) lanes (harg3.unread x0) (harg4.unread x1) (harg5.unread x2) n, ∀ x : p.1.shape.Idx,
        p.2 x = rows (onlineBlock x0 x1 x2 x3 x4 x5 x6) (p.1.emb x))
      ∧ ∀ y : S1x2048x128.Idx, (y 1).val < 256 * n →
        ∃ p ∈ pb (F := F) c i arg3 harg3 arg4 harg4 arg5 harg5 arg6 harg6 arg7 harg7 arg8 harg8 arg9 harg9 arg10 harg10 arg11 harg11 (lam x3 x4 x5 x6) lanes (harg3.unread x0) (harg4.unread x1) (harg5.unread x2) n, y ∈ p.1.set := by
  induction n with
  | zero => exact ⟨fun p hp => absurd hp List.not_mem_nil, fun y hy => absurd hy (Nat.not_lt_zero _)⟩
  | succ n ih =>
    have hk : n < k0_t2_loop.trips := Nat.lt_of_lt_of_le (by omega : n < 8) (by decide +kernel)
    have ih := ih (by omega)
    have e := pb_succ (F := F) c i arg3 harg3 arg4 harg4 arg5 harg5 arg6 harg6 arg7 harg7 arg8 harg8 arg9 harg9 arg10 harg10 arg11 harg11 (lam x3 x4 x5 x6) lanes (harg3.unread x0) (harg4.unread x1) (harg5.unread x2) ⟨n, hk⟩
    rw [trip_eq c i arg3 harg3 arg4 harg4 arg5 harg5 arg6 harg6 arg7 harg7 arg8 harg8 arg9 harg9 arg10 harg10 arg11 harg11 x0 x1 x2 x3 x4 x5 x6 ⟨n, hk⟩ (by show n < 8; omega)] at e
    rw [show n + 1 = (⟨n, hk⟩ : Fin k0_t2_loop.trips).val + 1 from rfl, e]
    refine ⟨fun p hp => ?_, fun y hy => ?_⟩
    · rcases List.mem_append.mp hp with h | h
      · obtain rfl := List.mem_singleton.mp h
        exact fun x => (rows_emb (onlineBlock x0 x1 x2 x3 x4 x5 x6) ⟨n, by omega⟩ _ (k0_off6_eq ⟨n, hk⟩) (k0_off6_inb ⟨n, hk⟩) x).symm
      · exact ih.1 p h
    · by_cases hy' : (y 1).val < 256 * n
      · obtain ⟨p, hp, h⟩ := ih.2 y hy'
        exact ⟨p, List.mem_append_right _ hp, h⟩
      · refine ⟨_, List.mem_append_left _ (List.mem_singleton.mpr rfl), (LoadRect.mem_set _).mpr fun a => ?_⟩
        have h0 : (y 0).val < 1 := (y 0).isLt
        have h2 : (y 2).val < 128 := (y 2).isLt
        have hy : (y 1).val < 256 * (n + 1) := hy
        have eo := k0_off6_eq ⟨n, hk⟩
        match a with
        | ⟨0, _⟩ => exact ⟨0, Nat.one_pos, by show (y 0).val = k0_off6 ⟨n, hk⟩ 0 + 1 * 0; rw [eo]; show _ = 0 + 1 * 0; omega⟩
        | ⟨1, _⟩ => exact ⟨(y 1).val - 256 * n, by show _ < 256; omega, by show (y 1).val = k0_off6 ⟨n, hk⟩ 1 + 1 * _; rw [eo]; show _ = 256 * n + 1 * _; omega⟩
        | ⟨2, _⟩ => exact ⟨(y 2).val, h2, by show (y 2).val = k0_off6 ⟨n, hk⟩ 2 + 1 * _; rw [eo]; show _ = 0 + 1 * _; omega⟩

end Cert.Proof.KernelIdeal

end
-- ==== Proof.Ideal.Body.lean ====
/-
  One grid point of the call: what the body stores, on any staging buffers.
-/
module

public import proofs.«01_k».proof.Proof.Ideal.Reads

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords) (hc : k0_cond1 i = 1#1) (arg3 : Memref sig .tc .vmem S1x8x128x256 .bf16) (harg3 : arg3.IsWhole)
  (arg4 : Memref sig .tc .vmem S1x2048x128 .bf16) (harg4 : arg4.IsWhole)
  (arg5 : Memref sig .tc .vmem S1x4x128x512 .bf16) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S1x64 .f32) (harg9 : arg9.IsWhole)
  (arg10 : Memref sig .tc .vmem S1x2048x128 .bf16) (harg10 : arg10.IsWhole)
  (arg11 : Memref sig .tc .vmem S8x128 .f32) (harg11 : arg11.IsWhole)
  (x0 : Vec F S1x8x128x256 .bf16) (x1 : Vec F S1x2048x128 .bf16) (x2 : Vec F S1x4x128x512 .bf16)
  (x3 x4 x5 x6 : Vec F S1x64 .f32)

/-- The blocks of queries as the body loads them. -/
def loadsQ : Fin 8 → Vec F S1x1x128x256 .bf16
  | 0 => View.readAt (Elt F) arg3.view (Rect.unit (s := S1x8x128x256) ![0, 0, 0, 0] S1x1x128x256.size (by decide)).toLoadRect (harg3.unread x0)
  | 1 => View.readAt (Elt F) arg3.view (Rect.unit (s := S1x8x128x256) ![0, 1, 0, 0] S1x1x128x256.size (by decide)).toLoadRect (harg3.unread x0)
  | 2 => View.readAt (Elt F) arg3.view (Rect.unit (s := S1x8x128x256) ![0, 2, 0, 0] S1x1x128x256.size (by decide)).toLoadRect (harg3.unread x0)
  | 3 => View.readAt (Elt F) arg3.view (Rect.unit (s := S1x8x128x256) ![0, 3, 0, 0] S1x1x128x256.size (by decide)).toLoadRect (harg3.unread x0)
  | 4 => View.readAt (Elt F) arg3.view (Rect.unit (s := S1x8x128x256) ![0, 4, 0, 0] S1x1x128x256.size (by decide)).toLoadRect (harg3.unread x0)
  | 5 => View.readAt (Elt F) arg3.view (Rect.unit (s := S1x8x128x256) ![0, 5, 0, 0] S1x1x128x256.size (by decide)).toLoadRect (harg3.unread x0)
  | 6 => View.readAt (Elt F) arg3.view (Rect.unit (s := S1x8x128x256) ![0, 6, 0, 0] S1x1x128x256.size (by decide)).toLoadRect (harg3.unread x0)
  | 7 => View.readAt (Elt F) arg3.view (Rect.unit (s := S1x8x128x256) ![0, 7, 0, 0] S1x1x128x256.size (by decide)).toLoadRect (harg3.unread x0)

/-- The chunks of keys as the body loads them. -/
def loadsK : Fin 4 → Vec F S1x512x128 .bf16
  | 0 => View.readAt (Elt F) arg4.view (Rect.unit (s := S1x2048x128) ![0, 0, 0] S1x512x128.size (by decide)).toLoadRect (harg4.unread x1)
  | 1 => View.readAt (Elt F) arg4.view (Rect.unit (s := S1x2048x128) ![0, 512, 0] S1x512x128.size (by decide)).toLoadRect (harg4.unread x1)
  | 2 => View.readAt (Elt F) arg4.view (Rect.unit (s := S1x2048x128) ![0, 1024, 0] S1x512x128.size (by decide)).toLoadRect (harg4.unread x1)
  | 3 => View.readAt (Elt F) arg4.view (Rect.unit (s := S1x2048x128) ![0, 1536, 0] S1x512x128.size (by decide)).toLoadRect (harg4.unread x1)

/-- The chunks of values as the body loads them. -/
def loadsV : Fin 4 → Vec F S1x1x128x512 .bf16
  | 0 => View.readAt (Elt F) arg5.view (Rect.unit (s := S1x4x128x512) ![0, 0, 0, 0] S1x1x128x512.size (by decide)).toLoadRect (harg5.unread x2)
  | 1 => View.readAt (Elt F) arg5.view (Rect.unit (s := S1x4x128x512) ![0, 1, 0, 0] S1x1x128x512.size (by decide)).toLoadRect (harg5.unread x2)
  | 2 => View.readAt (Elt F) arg5.view (Rect.unit (s := S1x4x128x512) ![0, 2, 0, 0] S1x1x128x512.size (by decide)).toLoadRect (harg5.unread x2)
  | 3 => View.readAt (Elt F) arg5.view (Rect.unit (s := S1x4x128x512) ![0, 3, 0, 0] S1x1x128x512.size (by decide)).toLoadRect (harg5.unread x2)

omit [FloatOps F] in
theorem loadsQ_eq : loadsQ arg3 harg3 x0 = qBlock x0 := by
  funext b
  match b with
  | 0 => exact load_q arg3 harg3 x0 0 ![0, 0, 0, 0] rfl _
  | 1 => exact load_q arg3 harg3 x0 1 ![0, 1, 0, 0] rfl _
  | 2 => exact load_q arg3 harg3 x0 2 ![0, 2, 0, 0] rfl _
  | 3 => exact load_q arg3 harg3 x0 3 ![0, 3, 0, 0] rfl _
  | 4 => exact load_q arg3 harg3 x0 4 ![0, 4, 0, 0] rfl _
  | 5 => exact load_q arg3 harg3 x0 5 ![0, 5, 0, 0] rfl _
  | 6 => exact load_q arg3 harg3 x0 6 ![0, 6, 0, 0] rfl _
  | 7 => exact load_q arg3 harg3 x0 7 ![0, 7, 0, 0] rfl _

omit [FloatOps F] in
theorem loadsK_eq : loadsK arg4 harg4 x1 = kChunk x1 := by
  funext b
  match b with
  | 0 => exact load_k arg4 harg4 x1 0 ![0, 0, 0] rfl _
  | 1 => exact load_k arg4 harg4 x1 1 ![0, 512, 0] rfl _
  | 2 => exact load_k arg4 harg4 x1 2 ![0, 1024, 0] rfl _
  | 3 => exact load_k arg4 harg4 x1 3 ![0, 1536, 0] rfl _

omit [FloatOps F] in
theorem loadsV_eq : loadsV arg5 harg5 x2 = vChunk x2 := by
  funext b
  match b with
  | 0 => exact load_v arg5 harg5 x2 0 ![0, 0, 0, 0] rfl _
  | 1 => exact load_v arg5 harg5 x2 1 ![0, 1, 0, 0] rfl _
  | 2 => exact load_v arg5 harg5 x2 2 ![0, 2, 0, 0] rfl _
  | 3 => exact load_v arg5 harg5 x2 3 ![0, 3, 0, 0] rfl _

/-- A block's result from the values loaded. -/
theorem boundedBlock_of {lm : FVec F S1x1 .f32} {km : FVec F S1x512 .f32} {kk vv qq} (hl : lm = lam x3 x4 x5 x6) (hm : km = kmax (kChunk x1)) (hq : qq = qBlock x0)
    (hk : kk = kChunk x1) (hv : vv = vChunk x2) (b : Fin 8) : bounded lm km (qq b) kk vv = boundedBlock x0 x1 x2 x3 x4 x5 x6 b := by
  subst hl hm hq hk hv; rfl

include hc in
set_option maxHeartbeats 4000000 in
theorem run :
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare (out x0 x1 x2 x3 x4 x5 x6) ∗ (∃ d, owns (c : Thread nD τ) arg11 fullShare d)) -∗ K ⟨⟩))
          ⊢ wp frame (wpE (defs₀ (F := F)) Variants.none c none) E (cc0_diff_attention i arg3 harg3 arg4 harg4 arg5 harg5 arg6 harg6 arg7 harg7 arg8 harg8 arg9 harg9 arg10 harg10 arg11 harg11) K := by
    intro E K
    simp only [cc0_diff_attention_eq_skeleton]; unfold cc0_diff_attention_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := sl_exact hc)
    have hl : run.sl.r c arg6 harg6 arg7 harg7 arg8 harg8 arg9 harg9 x3 x4 x5 x6 = lam x3 x4 x5 x6 := by
      unfold run.sl.r; rw [load_row, load_row, load_row, load_row]; rfl
    have hm : run.sl.r_1 c i hc arg3 harg3 arg4 harg4 arg5 harg5 arg6 harg6 arg7 harg7 arg8 harg8 arg9 harg9 arg10 harg10 arg11 harg11 x1 = kmax (kChunk x1) := by
      unfold run.sl.r_1 run.sl.v19; exact kmax_eq c i arg3 harg3 arg4 harg4 arg5 harg5 arg6 harg6 arg7 harg7 arg8 harg8 arg9 harg9 arg10 harg10 arg11 harg11 x1 hc _ _
    have hb := boundedBlock_of x0 x1 x2 x3 x4 x5 x6 hl hm (loadsQ_eq arg3 harg3 x0) (loadsK_eq arg4 harg4 x1) (loadsV_eq arg5 harg5 x2)
    have ha : again (run.sl.r_1 c i hc arg3 harg3 arg4 harg4 arg5 harg5 arg6 harg6 arg7 harg7 arg8 harg8 arg9 harg9 arg10 harg10 arg11 harg11 x1) (loadsQ arg3 harg3 x0) (loadsK arg4 harg4 x1) = again (kmax (kChunk x1)) (qBlock x0) (kChunk x1) := by
      rw [hm, loadsQ_eq, loadsK_eq]
    split
    · rename_i hcond
      sl_exec (disch := sl_exact hc)
      try sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; swap; · iexact H7
        ipureintro
        rw [show Scf.trips k0_t2_loop.lb k0_t2_loop.ub k0_t2_loop.st = 8 by decide +kernel, hl]
        have hp := pb_pieces c i arg3 harg3 arg4 harg4 arg5 harg5 arg6 harg6 arg7 harg7 arg8 harg8 arg9 harg9 arg10 harg10 arg11 harg11 x0 x1 x2 x3 x4 x5 x6 8 le_rfl
        refine Eq.trans (funext fun y => ?_) (if_pos (ha.symm.trans hcond)).symm
        rw [View.writes_append]
        exact View.read_writes_apply_of_pieces _ _ (rows (onlineBlock x0 x1 x2 x3 x4 x5 x6)) _ hp.1 y (hp.2 y (y 1).isLt)
      iexists _, _; isplitr; swap; · iexact HS0
      ipureintro; rfl
    · rename_i hcond
      sl_exec (disch := sl_exact hc)
      try sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; swap; · iexact H7
        ipureintro
        refine Eq.trans (funext fun y => ?_) (if_neg fun h => hcond (ha.trans h)).symm
        refine View.read_writes_apply_of_pieces _ _ (rows (boundedBlock x0 x1 x2 x3 x4 x5 x6)) _ ?_ y (View.cover_of_tiled _ ![1, 256, 128] rfl y)
        simp only [List.forall_mem_cons]
        refine ⟨?_, ?_, ?_, ?_, ?_, ?_, ?_, ?_, fun p hp => absurd hp List.not_mem_nil⟩
        · exact fun x => (congrFun ((show _ = bounded (run.sl.r c arg6 harg6 arg7 harg7 arg8 harg8 arg9 harg9 x3 x4 x5 x6) (run.sl.r_1 c i hc arg3 harg3 arg4 harg4 arg5 harg5 arg6 harg6 arg7 harg7 arg8 harg8 arg9 harg9 arg10 harg10 arg11 harg11 x1) (loadsQ arg3 harg3 x0 7) (loadsK arg4 harg4 x1) (loadsV arg5 harg5 x2) from rfl).trans (hb 7)) x).trans (rows_emb (boundedBlock x0 x1 x2 x3 x4 x5 x6) 7 _ rfl _ x).symm
        · exact fun x => (congrFun ((show _ = bounded (run.sl.r c arg6 harg6 arg7 harg7 arg8 harg8 arg9 harg9 x3 x4 x5 x6) (run.sl.r_1 c i hc arg3 harg3 arg4 harg4 arg5 harg5 arg6 harg6 arg7 harg7 arg8 harg8 arg9 harg9 arg10 harg10 arg11 harg11 x1) (loadsQ arg3 harg3 x0 6) (loadsK arg4 harg4 x1) (loadsV arg5 harg5 x2) from rfl).trans (hb 6)) x).trans (rows_emb (boundedBlock x0 x1 x2 x3 x4 x5 x6) 6 _ rfl _ x).symm
        · exact fun x => (congrFun ((show _ = bounded (run.sl.r c arg6 harg6 arg7 harg7 arg8 harg8 arg9 harg9 x3 x4 x5 x6) (run.sl.r_1 c i hc arg3 harg3 arg4 harg4 arg5 harg5 arg6 harg6 arg7 harg7 arg8 harg8 arg9 harg9 arg10 harg10 arg11 harg11 x1) (loadsQ arg3 harg3 x0 5) (loadsK arg4 harg4 x1) (loadsV arg5 harg5 x2) from rfl).trans (hb 5)) x).trans (rows_emb (boundedBlock x0 x1 x2 x3 x4 x5 x6) 5 _ rfl _ x).symm
        · exact fun x => (congrFun ((show _ = bounded (run.sl.r c arg6 harg6 arg7 harg7 arg8 harg8 arg9 harg9 x3 x4 x5 x6) (run.sl.r_1 c i hc arg3 harg3 arg4 harg4 arg5 harg5 arg6 harg6 arg7 harg7 arg8 harg8 arg9 harg9 arg10 harg10 arg11 harg11 x1) (loadsQ arg3 harg3 x0 4) (loadsK arg4 harg4 x1) (loadsV arg5 harg5 x2) from rfl).trans (hb 4)) x).trans (rows_emb (boundedBlock x0 x1 x2 x3 x4 x5 x6) 4 _ rfl _ x).symm
        · exact fun x => (congrFun ((show _ = bounded (run.sl.r c arg6 harg6 arg7 harg7 arg8 harg8 arg9 harg9 x3 x4 x5 x6) (run.sl.r_1 c i hc arg3 harg3 arg4 harg4 arg5 harg5 arg6 harg6 arg7 harg7 arg8 harg8 arg9 harg9 arg10 harg10 arg11 harg11 x1) (loadsQ arg3 harg3 x0 3) (loadsK arg4 harg4 x1) (loadsV arg5 harg5 x2) from rfl).trans (hb 3)) x).trans (rows_emb (boundedBlock x0 x1 x2 x3 x4 x5 x6) 3 _ rfl _ x).symm
        · exact fun x => (congrFun ((show _ = bounded (run.sl.r c arg6 harg6 arg7 harg7 arg8 harg8 arg9 harg9 x3 x4 x5 x6) (run.sl.r_1 c i hc arg3 harg3 arg4 harg4 arg5 harg5 arg6 harg6 arg7 harg7 arg8 harg8 arg9 harg9 arg10 harg10 arg11 harg11 x1) (loadsQ arg3 harg3 x0 2) (loadsK arg4 harg4 x1) (loadsV arg5 harg5 x2) from rfl).trans (hb 2)) x).trans (rows_emb (boundedBlock x0 x1 x2 x3 x4 x5 x6) 2 _ rfl _ x).symm
        · exact fun x => (congrFun ((show _ = bounded (run.sl.r c arg6 harg6 arg7 harg7 arg8 harg8 arg9 harg9 x3 x4 x5 x6) (run.sl.r_1 c i hc arg3 harg3 arg4 harg4 arg5 harg5 arg6 harg6 arg7 harg7 arg8 harg8 arg9 harg9 arg10 harg10 arg11 harg11 x1) (loadsQ arg3 harg3 x0 1) (loadsK arg4 harg4 x1) (loadsV arg5 harg5 x2) from rfl).trans (hb 1)) x).trans (rows_emb (boundedBlock x0 x1 x2 x3 x4 x5 x6) 1 _ rfl _ x).symm
        · exact fun x => (congrFun ((show _ = bounded (run.sl.r c arg6 harg6 arg7 harg7 arg8 harg8 arg9 harg9 x3 x4 x5 x6) (run.sl.r_1 c i hc arg3 harg3 arg4 harg4 arg5 harg5 arg6 harg6 arg7 harg7 arg8 harg8 arg9 harg9 arg10 harg10 arg11 harg11 x1) (loadsQ arg3 harg3 x0 0) (loadsK arg4 harg4 x1) (loadsV arg5 harg5 x2) from rfl).trans (hb 0)) x).trans (rows_emb (boundedBlock x0 x1 x2 x3 x4 x5 x6) 0 _ rfl _ x).symm
      iexists _, _; isplitr; swap; · iexact HS0
      ipureintro; rfl

end Cert.Proof.KernelIdeal

end
-- ==== Proof.Ideal.Frame.lean ====
/-
  The call over its grid: every point's body runs, so the whole program does, and the arguments end as they began.
-/
module

public import proofs.«01_k».proof.Proof.Ideal.Body
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Staging buffers and scratch -/

abbrev ms0 (t : Fin cfg0.N) : Memref sig .tc .vmem S1x8x128x256 .bf16 := win0_0.stage (cfg0.slots t 0)
abbrev ms1 (t : Fin cfg0.N) : Memref sig .tc .vmem S1x2048x128 .bf16 := win0_1.stage (cfg0.slots t 1)
abbrev ms2 (t : Fin cfg0.N) : Memref sig .tc .vmem S1x4x128x512 .bf16 := win0_2.stage (cfg0.slots t 2)
abbrev ms3 (t : Fin cfg0.N) : Memref sig .tc .vmem S1x64 .f32 := win0_3.stage (cfg0.slots t 3)
abbrev ms4 (t : Fin cfg0.N) : Memref sig .tc .vmem S1x64 .f32 := win0_4.stage (cfg0.slots t 4)
abbrev ms5 (t : Fin cfg0.N) : Memref sig .tc .vmem S1x64 .f32 := win0_5.stage (cfg0.slots t 5)
abbrev ms6 (t : Fin cfg0.N) : Memref sig .tc .vmem S1x64 .f32 := win0_6.stage (cfg0.slots t 6)
abbrev ms7 (t : Fin cfg0.N) : Memref sig .tc .vmem S1x2048x128 .bf16 := win0_7.stage (cfg0.slots t 7)

/-- The keys' largest norm lives in a scratch buffer of the call's own. -/
abbrev scM : Memref sig .tc .vmem S8x128 .f32 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The third grid axis has one step, so every point computes the keys' largest norm. -/
theorem cond1 : ∀ t : Fin grid0.N, k0_cond1 (grid0.coords t) = 1#1 := by decide +kernel

/-! ## What every point finds and leaves -/

/-- The proof data on core `c`: the inputs stay as they are staged, the result's block is `out` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((run c (grid0.coords t) (cond1 t) _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The program -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- Every execution ends, with the arguments as they began and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Proof.KernelIdeal

end
-- ==== Proof.Maths.lean ====
/-
  Real arithmetic inside the extended reals: sums, maxima and exponentials of real numbers are real, and a softmax mean does not
  depend on the shift its exponents take.
-/
module

public import Idealize.ShloMosaic.Lib.Pointwise

@[expose] public section

noncomputable section

namespace Cert.Proof

open Idealize.ShloMosaic

/-! ## Real values -/

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem max_coe (a b : ℝ) : max (a : EReal) (b : EReal) = ((max a b : ℝ) : EReal) := (EReal.coe_strictMono.monotone.map_max).symm

/-- The maximum of a real and finitely many reals is real. -/
theorem fold_max_coe {ι : Type} (s : Finset ι) (a : ℝ) (f : ι → ℝ) : ∃ r : ℝ, s.fold max (a : EReal) (fun i => (f i : EReal)) = r := by
  classical
  induction s using Finset.induction_on with
  | empty => exact ⟨a, by simp⟩
  | insert i s hi ih =>
    obtain ⟨r, hr⟩ := ih
    exact ⟨max (f i) r, by rw [Finset.fold_insert hi, hr, max_coe]⟩

/-- The maximum of at least one real is real, started from minus infinity. -/
theorem fold_max_bot {n : ℕ} (f : Fin (n + 1) → ℝ) : ∃ r : ℝ, Finset.univ.fold max (⊥ : EReal) (fun i => (f i : EReal)) = r := by
  classical
  rw [Fin.univ_succ, Finset.fold_cons, Finset.fold_map]
  rcases Finset.eq_empty_or_nonempty (Finset.univ : Finset (Fin n)) with h | ⟨i, -⟩
  · exact ⟨f 0, by rw [h]; simp⟩
  · have : ∀ s : Finset (Fin n), ∃ r : ℝ, max (f 0 : EReal) (s.fold max ⊥ (fun i => (f i.succ : EReal))) = r := by
      intro s
      induction s using Finset.induction_on with
      | empty => exact ⟨f 0, by simp⟩
      | insert i s hi ih =>
        obtain ⟨r, hr⟩ := ih
        exact ⟨max (f i.succ) r, by rw [Finset.fold_insert hi, max_left_comm, hr, max_coe]⟩
    exact this _

theorem exp2_coe (r : ℝ) : Ideal.exp2 (r : EReal) = ((Real.exp (r * Real.log 2) : ℝ) : EReal) := by
  rw [Ideal.exp2_coe]; congr 1
  show (2 : ℝ) ^ r = _
  rw [Real.rpow_def_of_pos (by norm_num), mul_comm]

theorem div_coe_coe (x : ℝ) {y : ℝ} (h : y ≠ 0) : Ideal.div (x : EReal) (y : EReal) = ((x / y : ℝ) : EReal) := by
  rw [Ideal.div_coe h, ← EReal.coe_mul, mul_one_div]

/-! ## Constants -/

/-- An eighth. -/
theorem ofBits_eighth : Ideal.ofBits .f32 0x3E000000#32 = ((1 / 8 : ℝ) : EReal) := by
  simp [Ideal.ofBits, Ideal.ieee, -EReal.coe_mul]; norm_num
/-- Two. -/
theorem ofBits_two : Ideal.ofBits .f32 0x40000000#32 = ((2 : ℝ) : EReal) := by
  simp [Ideal.ofBits, Ideal.ieee, -EReal.coe_mul]; norm_num
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
/-- The second head's weight before training is real. -/
theorem ofBits_lambda : ∃ r : ℝ, Ideal.ofBits .f32 0x3E4CCCCD#32 = (r : EReal) := by
  simp [Ideal.ofBits, Ideal.ieee, -EReal.coe_mul]
/-- The shift's factor is real. -/
theorem ofBits_slack : ∃ r : ℝ, Ideal.ofBits .f32 0x3F800800#32 = (r : EReal) := by
  simp [Ideal.ofBits, Ideal.ieee, -EReal.coe_mul]

/-! ## The softmax mean -/

/-- The mean of `V` weighted by `exp L`. -/
def mean {ι : Type} [Fintype ι] (L V : ι → ℝ) : ℝ := (∑ i, V i * Real.exp (L i)) / ∑ i, Real.exp (L i)

theorem sum_exp_pos {ι : Type} [Fintype ι] [Nonempty ι] (L : ι → ℝ) : 0 < ∑ i, Real.exp (L i) :=
  Finset.sum_pos (fun _ _ => Real.exp_pos _) Finset.univ_nonempty

/-- A shift of all the exponents changes nothing. -/
theorem mean_shift {ι : Type} [Fintype ι] (L V : ι → ℝ) (a : ℝ) : mean (fun i => L i - a) V = mean L V := by
  unfold mean
  simp only [Real.exp_sub]
  have h : Real.exp a ≠ 0 := Real.exp_ne_zero a
  simp only [← mul_div_assoc, ← Finset.sum_div]
  field_simp

/-- The mean with its weights divided one by one. -/
theorem mean_eq_sum {ι : Type} [Fintype ι] (L V : ι → ℝ) : mean L V = ∑ i, V i * (Real.exp (L i) / ∑ j, Real.exp (L j)) := by
  unfold mean
  rw [Finset.sum_div]
  exact Finset.sum_congr rfl fun _ _ => mul_div_assoc _ _ _

/-- The mean over re-indexed terms. -/
theorem mean_equiv {ι κ : Type} [Fintype ι] [Fintype κ] (e : ι ≃ κ) (L V : κ → ℝ) : mean (fun i => L (e i)) (fun i => V (e i)) = mean L V := by
  unfold mean
  rw [← Equiv.sum_comp e, ← Equiv.sum_comp e (fun i => Real.exp (L i))]

/-! ## Differential attention of real arguments -/

/-- The column of lane `d` of head `h`'s half `c` among the 512 of a query or key. -/
def lane (h : Fin 4) (c : Fin 2) (d : Fin 64) : Fin 512 := ⟨128 * h.val + 64 * c.val + d.val, by omega⟩

/-- The column of lane `x` of head `h` among the 512 of a value. -/
def vlane (h : Fin 4) (x : Fin 128) : Fin 512 := ⟨128 * h.val + x.val, by omega⟩

section attention
variable (A0 A1 A2 : Fin 32 → Fin 2048 → Fin 512 → ℝ)

/-- The logit of query `s` and key `κ` in half `c` of head `h`. -/
def logit (b : Fin 32) (s : Fin 2048) (h : Fin 4) (c : Fin 2) (κ : Fin 2048) : ℝ :=
  ∑ d, A0 b s (lane h c d) * (1 / 8) * A1 b κ (lane h c d)

/-- Softmax attention of half `c` of head `h`: query `s`, value lane `x`. -/
def headMean (b : Fin 32) (s : Fin 2048) (h : Fin 4) (c : Fin 2) (x : Fin 128) : ℝ :=
  mean (logit A0 A1 b s h c) (fun κ => A2 b κ (vlane h x))

/-- The difference of the two halves, the second weighted by `w`. -/
def diffRow (w : ℝ) (b : Fin 32) (s : Fin 2048) (h : Fin 4) (x : Fin 128) : EReal :=
  ((headMean A0 A1 A2 b s h 0 x - w * headMean A0 A1 A2 b s h 1 x : ℝ) : EReal)

end attention

/-- A row `o` over the root of its mean square (and a little), times 0.8. -/
def subln (o : Fin 128 → EReal) (e : Fin 128) : EReal :=
  o e * Ideal.rsqrt (Ideal.div (∑ x, o x * o x) (Ideal.ofBits .f32 0x43000000#32) + Ideal.ofBits .f32 0x3727C5AC#32) * Ideal.ofBits .f32 0x3F4CCCCD#32

end Cert.Proof

end
-- ==== Proof.Finite.lean ====
/-
  What the precondition says: every entry of every argument is a real number.
-/
module

public import proofs.«01_k».proof.Proof.Gen.Pre_finite
public import proofs.«01_k».proof.Proof.Maths
public import Idealize.ShloMosaic.Lib.ReduceAll
public import Idealize.ShloMosaic.Lib.Pointwise

@[expose] public section

set_option maxRecDepth 16384

noncomputable section

namespace Cert.Proof.Finite

open Cert.Pre_finite Cert.Pre_finite.Gen
open Idealize.ShloMosaic Idealize.SL.Sem

/-- A number whose magnitude is less than infinity is real. -/
theorem real_of_abs_lt (x : EReal) (h : Ideal.cmp .olt (max x (-x)) ⊤ = 1#1) : ∃ r : ℝ, x = (r : EReal) := by
  have h' : max x (-x) < ⊤ := by
    by_contra hn
    simp [Ideal.cmp, hn] at h
  induction x using EReal.rec with
  | bot => exact absurd h' (by simp)
  | coe r => exact ⟨r, rfl⟩
  | top => exact absurd h' (by simp)

theorem all_real {s : Shape} (a : FVec Ideal s .f32) (hb : S_.BroadcastsInDim s (![] : Fin 0 → Fin s.rank)) {axes : List (Fin s.rank)}
    (hr : s.ReducesTo axes S_) (hu : 0 < S_.numel) (j : S_.Idx)
    (e : Host.reduce IntOp.andi (cmpf .olt (Host.absf a) (broadcastInDim s ![] hb (constant S_ .f32 0x7F800000#32))) (constantI S_ 1 1#1) hr hu j = 1#1) (i : s.Idx) :
    ∃ r : ℝ, a i = (r : EReal) := by
  haveI : Subsingleton S_.Idx := ⟨fun a b => funext fun k => k.elim0⟩
  have h : cmpf .olt (Host.absf a) (broadcastInDim s ![] hb (constant S_ .f32 0x7F800000#32)) i = 1#1 := Host.reduce_andi_all _ _ hr hu j e i
  refine real_of_abs_lt (a i) ?_
  rw [← ofBits_top]
  exact h

/-- Under the precondition every entry of every argument is real. -/
theorem entries_real (x0 x1 x2 : FVec Ideal S32x2048x512 .f32) (x3 x4 x5 x6 : FVec Ideal S1x64 .f32) (h : fn x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ ∀ i, ∃ r : ℝ, x6 i = (r : EReal) := by
  have h' := congrFun h ix0
  dsimp only [fn, fn_part1] at h'
  obtain ⟨h', p6⟩ := IntOp.andi_eq_one.1 h'
  obtain ⟨h', p5⟩ := IntOp.andi_eq_one.1 h'
  obtain ⟨h', p4⟩ := IntOp.andi_eq_one.1 h'
  obtain ⟨h', p3⟩ := IntOp.andi_eq_one.1 h'
  obtain ⟨h', p2⟩ := IntOp.andi_eq_one.1 h'
  obtain ⟨p0, p1⟩ := IntOp.andi_eq_one.1 h'
  exact ⟨all_real _ _ _ _ _ p0, all_real _ _ _ _ _ p1, all_real _ _ _ _ _ p2, all_real _ _ _ _ _ p3, all_real _ _ _ _ _ p4, all_real _ _ _ _ _ p5, all_real _ _ _ _ _ p6⟩

/-- With real vectors the second head's weight is real. -/
theorem weight_real (a b c d : FVec Ideal S1x64 .f32) (ha : ∀ i, ∃ r : ℝ, a i = (r : EReal)) (hb : ∀ i, ∃ r : ℝ, b i = (r : EReal))
    (hc : ∀ i, ∃ r : ℝ, c i = (r : EReal)) (hd : ∀ i, ∃ r : ℝ, d i = (r : EReal)) :
    ∃ w : ℝ, Ideal.exp (∑ z : Fin 64, a (ix2 0 z) * b (ix2 0 z)) - Ideal.exp (∑ z : Fin 64, c (ix2 0 z) * d (ix2 0 z)) + Ideal.ofBits .f32 0x3E4CCCCD#32 = (w : EReal) := by
  choose a' ha using ha
  choose b' hb using hb
  choose c' hc using hc
  choose d' hd using hd
  obtain ⟨l, hl⟩ := ofBits_lambda
  refine ⟨Real.exp (∑ z : Fin 64, a' (ix2 0 z) * b' (ix2 0 z)) - Real.exp (∑ z : Fin 64, c' (ix2 0 z) * d' (ix2 0 z)) + l, ?_⟩
  simp only [ha, hb, hc, hd, hl, ← EReal.coe_mul, sum_coe, Ideal.exp_coe, ← EReal.coe_sub, ← EReal.coe_add]

end Cert.Proof.Finite

end
-- ==== Proof.Reference.lean ====
/-
  The reference over the extended reals, on real arguments: the same normed differences of softmax means.
-/
module

public import proofs.«01_k».proof.Proof.Gen.ReferenceIdeal.Read
public import proofs.«01_k».proof.Proof.Maths
public import Idealize.ShloMosaic.Lib.Pointwise

@[expose] public section

set_option maxRecDepth 16384

noncomputable section

namespace Cert.Proof.ReferenceIdeal

open Cert.ReferenceIdeal Cert.ReferenceIdeal.Gen Cert.ReferenceIdeal.Read
open Idealize.ShloMosaic Idealize.SL.Sem

section
variable (x0 x1 x2 : FVec Ideal S32x2048x512 .f32) (x3 x4 x5 x6 : FVec Ideal S1x64 .f32)

theorem v7_at : val_main_v7 (F := Ideal) x3 x4 x5 x6 ix0 = Ideal.exp (∑ z : Fin 64, x3 (ix2 0 z) * x4 (ix2 0 z)) - Ideal.exp (∑ z : Fin 64, x5 (ix2 0 z) * x6 (ix2 0 z))
    + Ideal.ofBits .f32 0x3E4CCCCD#32 := by
  have one : ∀ f : Fin 1 → Fin 64 → EReal, ∑ x, ∑ z, f x z = ∑ z, f 0 z := fun f => Fin.sum_univ_one _
  unfold val_main_v7 val_main_v6 val_main_v5 val_main_v4 val_main_v3 val_main_v2 val_main_v1 val_main_v0 val_main_cst val_main_cst_0 val_main_cst_1
  pointwise
  rw [one (fun x z => x3 (ix2 x z) * x4 (ix2 x z)), one (fun x z => x5 (ix2 x z) * x6 (ix2 x z))]

theorem v13_at (b : Fin 32) (h : Fin 4) (c : Fin 2) (q k : Fin 2048) : val_main_v13 (F := Ideal) x0 x1 (ix5 b h c q k)
    = ∑ d : Fin 64, x0 (ix3 b q (lane h c d)) * Ideal.ofBits .f32 0x3E000000#32 * x1 (ix3 b k (lane h c d)) := by
  unfold val_main_v13 val_main_v10 val_main_v11 val_main_v9 val_main_v8 val_main_cst_2
  pointwise
  refine Finset.sum_congr rfl fun d _ => ?_
  have e : (⟨h.val * 128 + c.val * 64 + d.val, by omega⟩ : Fin 512) = lane h c d := Fin.ext (by
    show h.val * 128 + c.val * 64 + d.val = 128 * h.val + 64 * c.val + d.val; omega)
  exact congrArg (fun z : Fin 512 => x0 (ix3 b q z) * Ideal.ofBits .f32 0x3E000000#32 * x1 (ix3 b k z)) e

theorem max_at (y : FVec Ideal S32x4x2x2048x2048 .f32) (b : Fin 32) (h : Fin 4) (c : Fin 2) (q : Fin 2048) (r : EReal)
    (hr : Finset.univ.fold max (Ideal.ofBits .f32 0xFF800000#32) (fun k : Fin 2048 => y (ix5 b h c q k)) = r) :
    Host.reduce FloatOps.maximumf y (constant S_ .f32 0xFF800000#32) reducesTo_S32x4x2x2048x2048_S32x4x2x2048_d4 h_S_ (ix4 b h c q) = r := by
  pointwise
  exact hr

theorem v16_at (b : Fin 32) (h : Fin 4) (c : Fin 2) (q : Fin 2048) (r : EReal)
    (hr : Finset.univ.fold max (Ideal.ofBits .f32 0xFF800000#32) (fun k : Fin 2048 => val_main_v13 (F := Ideal) x0 x1 (ix5 b h c q k)) = r) :
    val_main_v16 (F := Ideal) x0 x1 (ix4 b h c q) = max (Ideal.ofBits .f32 0xFF800000#32) r := by
  rw [val_main_v16_apply, val_main_v15_apply]
  unfold val_main_v14
  exact congrArg (max (Ideal.ofBits .f32 0xFF800000#32)) (max_at _ b h c q r hr)

theorem v20_at (b : Fin 32) (h : Fin 4) (c : Fin 2) (q k : Fin 2048) : val_main_v20 (F := Ideal) x0 x1 (ix5 b h c q k)
    = Ideal.exp (val_main_v13 (F := Ideal) x0 x1 (ix5 b h c q k) - val_main_v16 (F := Ideal) x0 x1 (ix4 b h c q)) := by
  unfold val_main_v20 val_main_v19 val_main_v18 val_main_v17
  generalize val_main_v13 (F := Ideal) x0 x1 = y
  generalize val_main_v16 (F := Ideal) x0 x1 = z
  pointwise

theorem v24_at (b : Fin 32) (h : Fin 4) (c : Fin 2) (q k : Fin 2048) : val_main_v24 (F := Ideal) x0 x1 (ix5 b h c q k)
    = Ideal.div (val_main_v20 (F := Ideal) x0 x1 (ix5 b h c q k)) (∑ j : Fin 2048, val_main_v20 (F := Ideal) x0 x1 (ix5 b h c q j)) := by
  unfold val_main_v24 val_main_v23 val_main_v22 val_main_v21 val_main_cst_5
  generalize val_main_v20 (F := Ideal) x0 x1 = y
  pointwise

theorem first_at (y : FVec Ideal S32x4x2x2048x2048 .f32) (b : Fin 32) (h : Fin 4) (q k : Fin 2048) (r : EReal) (hr : y (ix5 b h 0 q k) = r) :
    shapeCast S32x4x2048x2048 (extractStridedSlice S32x4x1x2048x2048 ![0, 0, 0, 0, 0] y slices_S32x4x2x2048x2048_S32x4x1x2048x2048_0_0_0_0_0)
      shapeCasts_S32x4x1x2048x2048_S32x4x2048x2048 (ix4 b h q k) = r := by
  pointwise
  exact hr

theorem second_at (y : FVec Ideal S32x4x2x2048x2048 .f32) (b : Fin 32) (h : Fin 4) (q k : Fin 2048) (r : EReal) (hr : y (ix5 b h 1 q k) = r) :
    shapeCast S32x4x2048x2048 (extractStridedSlice S32x4x1x2048x2048 ![0, 0, 1, 0, 0] y slices_S32x4x2x2048x2048_S32x4x1x2048x2048_0_0_1_0_0)
      shapeCasts_S32x4x1x2048x2048_S32x4x2048x2048 (ix4 b h q k) = r := by
  pointwise
  exact hr

theorem v31_at (b : Fin 32) (h : Fin 4) (q k : Fin 2048) (w p0 p1 : EReal) (hw : val_main_v7 (F := Ideal) x3 x4 x5 x6 ix0 = w)
    (h0 : val_main_v24 (F := Ideal) x0 x1 (ix5 b h 0 q k) = p0) (h1 : val_main_v24 (F := Ideal) x0 x1 (ix5 b h 1 q k) = p1) :
    val_main_v31 (F := Ideal) x0 x1 x3 x4 x5 x6 (ix4 b h q k) = p0 - w * p1 := by
  have ew : idx_main_v29 (ix4 b h q k) = ix0 := funext fun a => a.elim0
  have e0 : val_main_v26 (F := Ideal) x0 x1 (ix4 b h q k) = p0 := by
    unfold val_main_v26 val_main_v25
    exact first_at _ b h q k p0 h0
  have e1 : val_main_v28 (F := Ideal) x0 x1 (ix4 b h q k) = p1 := by
    unfold val_main_v28 val_main_v27
    exact second_at _ b h q k p1 h1
  rw [val_main_v31_apply, val_main_v30_apply, val_main_v29_apply, e0, e1, ew, hw]
  rfl

theorem v33_at (b : Fin 32) (q : Fin 2048) (h : Fin 4) (x : Fin 128) : val_main_v33 (F := Ideal) x0 x1 x2 x3 x4 x5 x6 (ix4 b q h x)
    = ∑ k : Fin 2048, x2 (ix3 b k (vlane h x)) * val_main_v31 (F := Ideal) x0 x1 x3 x4 x5 x6 (ix4 b h q k) := by
  unfold val_main_v33 val_main_v32 val_main_v12
  generalize val_main_v31 (F := Ideal) x0 x1 x3 x4 x5 x6 = y
  pointwise
  have e : (⟨h.val * 128 + x.val, by omega⟩ : Fin 512) = vlane h x := Fin.ext (by show h.val * 128 + x.val = 128 * h.val + x.val; omega)
  exact congrArg (fun z : Fin 512 => ∑ k : Fin 2048, x2 (ix3 b k z) * y (ix4 b h q k)) e

theorem v47_at (b : Fin 32) (q : Fin 2048) (z : Fin 512) : val_main_v47 (F := Ideal) x0 x1 x2 x3 x4 x5 x6 (ix3 b q z)
    = subln (fun x => val_main_v33 (F := Ideal) x0 x1 x2 x3 x4 x5 x6 (ix4 b q ⟨z.val / 128, by omega⟩ x)) ⟨z.val % 128, by omega⟩ := by
  unfold val_main_v47 val_main_v46 val_main_v45 val_main_v44 val_main_v43 val_main_v42 val_main_v41 val_main_v40 val_main_v39 val_main_v38 val_main_v37 val_main_v36
    val_main_v35 val_main_v34 val_main_cst_6 val_main_cst_7 val_main_cst_8 val_main_cst_9
  generalize val_main_v33 (F := Ideal) x0 x1 x2 x3 x4 x5 x6 = y
  pointwise
  rfl

/-! ## On real arguments -/

variable (A0 A1 A2 : Fin 32 → Fin 2048 → Fin 512 → ℝ) (w : ℝ)
  (h0 : ∀ b s z, x0 (ix3 b s z) = ((A0 b s z : ℝ) : EReal)) (h1 : ∀ b s z, x1 (ix3 b s z) = ((A1 b s z : ℝ) : EReal))
  (h2 : ∀ b s z, x2 (ix3 b s z) = ((A2 b s z : ℝ) : EReal))
  (hw : Ideal.exp (∑ z : Fin 64, x3 (ix2 0 z) * x4 (ix2 0 z)) - Ideal.exp (∑ z : Fin 64, x5 (ix2 0 z) * x6 (ix2 0 z)) + Ideal.ofBits .f32 0x3E4CCCCD#32 = (w : EReal))

include h0 h1 in
theorem v13_real (b : Fin 32) (h : Fin 4) (c : Fin 2) (q k : Fin 2048) :
    val_main_v13 (F := Ideal) x0 x1 (ix5 b h c q k) = ((logit A0 A1 b q h c k : ℝ) : EReal) := by
  rw [v13_at]
  unfold logit
  rw [← sum_coe]
  refine Finset.sum_congr rfl fun d _ => ?_
  rw [h0, h1, ofBits_eighth, ← EReal.coe_mul, ← EReal.coe_mul]

include h0 h1 in
/-- The softmax weights are the exponentials over their sum: the largest logit cancels. -/
theorem v24_real (b : Fin 32) (h : Fin 4) (c : Fin 2) (q : Fin 2048) : ∃ a : ℝ, ∀ k : Fin 2048, val_main_v24 (F := Ideal) x0 x1 (ix5 b h c q k)
    = ((Real.exp (logit A0 A1 b q h c k - a) / ∑ j, Real.exp (logit A0 A1 b q h c j - a) : ℝ) : EReal) := by
  obtain ⟨a, ha⟩ := fold_max_bot (logit A0 A1 b q h c)
  have h16 : val_main_v16 (F := Ideal) x0 x1 (ix4 b h c q) = (a : EReal) := by
    rw [v16_at x0 x1 b h c q a (by rw [ofBits_bot, ← ha]; exact congrArg (fun f => Finset.univ.fold max ⊥ f) (funext fun k => v13_real x0 x1 A0 A1 h0 h1 b h c q k)), ofBits_bot]
    exact max_eq_right bot_le
  have h20 : ∀ k : Fin 2048, val_main_v20 (F := Ideal) x0 x1 (ix5 b h c q k) = ((Real.exp (logit A0 A1 b q h c k - a) : ℝ) : EReal) := fun k => by
    rw [v20_at, v13_real x0 x1 A0 A1 h0 h1, h16, ← EReal.coe_sub]
    exact Ideal.exp_coe _
  refine ⟨a, fun k => ?_⟩
  rw [v24_at, h20, Finset.sum_congr rfl fun j _ => h20 j, sum_coe, div_coe_coe _ (sum_exp_pos _).ne']

include h0 h1 h2 hw in
theorem v33_real (b : Fin 32) (q : Fin 2048) (h : Fin 4) (x : Fin 128) : val_main_v33 (F := Ideal) x0 x1 x2 x3 x4 x5 x6 (ix4 b q h x) = diffRow A0 A1 A2 w b q h x := by
  obtain ⟨a, ha⟩ := v24_real x0 x1 A0 A1 h0 h1 b h 0 q
  obtain ⟨d, hd⟩ := v24_real x0 x1 A0 A1 h0 h1 b h 1 q
  have e : ∀ k : Fin 2048, x2 (ix3 b k (vlane h x)) * val_main_v31 (F := Ideal) x0 x1 x3 x4 x5 x6 (ix4 b h q k)
      = ((A2 b k (vlane h x) * (Real.exp (logit A0 A1 b q h 0 k - a) / ∑ j, Real.exp (logit A0 A1 b q h 0 j - a)
        - w * (Real.exp (logit A0 A1 b q h 1 k - d) / ∑ j, Real.exp (logit A0 A1 b q h 1 j - d))) : ℝ) : EReal) := fun k => by
    rw [v31_at x0 x1 x3 x4 x5 x6 b h q k w _ _ ((v7_at x3 x4 x5 x6).trans hw) (ha k) (hd k), h2, ← EReal.coe_mul, ← EReal.coe_sub, ← EReal.coe_mul]
  rw [v33_at, Finset.sum_congr rfl fun k _ => e k, sum_coe]
  unfold diffRow headMean
  rw [← mean_shift (logit A0 A1 b q h 0) _ a, ← mean_shift (logit A0 A1 b q h 1) _ d, mean_eq_sum, mean_eq_sum, Finset.mul_sum, ← Finset.sum_sub_distrib]
  refine congrArg _ (Finset.sum_congr rfl fun k _ => ?_)
  ring

include h0 h1 h2 hw in
theorem result_real (b : Fin 32) (q : Fin 2048) (z : Fin 512) : val_main_v47 (F := Ideal) x0 x1 x2 x3 x4 x5 x6 (ix3 b q z)
    = subln (diffRow A0 A1 A2 w b q ⟨z.val / 128, by omega⟩) ⟨z.val % 128, by omega⟩ := by
  rw [v47_at]
  exact congrArg (subln · _) (funext fun x => v33_real x0 x1 x2 x3 x4 x5 x6 A0 A1 A2 w h0 h1 h2 hw b q _ x)

end

end Cert.Proof.ReferenceIdeal

end
-- ==== Proof.Ideal.Point.lean ====
/-
  What one grid point computes, read element by element over the extended reals: on real queries, keys and values both passes give
  every column the same softmax mean.
-/
module

public import proofs.«01_k».proof.Proof.Ideal.Spec
public import proofs.«01_k».proof.Proof.Maths

@[expose] public section

set_option maxRecDepth 16384

noncomputable section

namespace Cert.Proof.KernelIdeal

open Cert.KernelIdeal Cert.KernelIdeal.Gen
open Idealize.ShloMosaic Idealize.SL.Sem

/-! ## Each stage at an index -/

theorem lanes_slt (d : Fin 128) (i : Fin 256) : IntOp.cmpi .slt (lanes (ix2 d i)) 64#32 = BitVec.ofBool (decide (d.val < 64)) := by
  have h : ∀ d : Fin 128, IntOp.cmpi .slt (BitVec.ofNat 32 d.val) 64#32 = BitVec.ofBool (decide (d.val < 64)) := by decide
  have e : lanes (ix2 d i) = BitVec.ofNat 32 d.val := by unfold lanes; pointwise
  rw [e, h d]
theorem lanes_sge (d : Fin 128) (i : Fin 256) : IntOp.cmpi .sge (lanes (ix2 d i)) 64#32 = BitVec.ofBool (decide (64 ≤ d.val)) := by
  have h : ∀ d : Fin 128, IntOp.cmpi .sge (BitVec.ofNat 32 d.val) 64#32 = BitVec.ofBool (decide (64 ≤ d.val)) := by decide
  have e : lanes (ix2 d i) = BitVec.ofNat 32 d.val := by unfold lanes; pointwise
  rw [e, h d]

/-- Which of a block's 256 queries column `n` is. -/
def col (n : Fin 512) : Fin 256 := ⟨n.val % 256, Nat.mod_lt _ (by decide)⟩

/-- A real query block twice, side by side, the lanes of the other head zero. -/
def padR (Q : Fin 128 → Fin 256 → ℝ) (d : Fin 128) (n : Fin 512) : ℝ :=
  if n.val / 256 = d.val / 64 then Q d (col n) else 0

theorem select_ofBool {α : Type} (p : Prop) [Decidable p] (a b : α) : Scalar.select (BitVec.ofBool (decide p)) a b = if p then a else b := by
  by_cases h : p <;> simp [h, Scalar.select]

theorem padded_real (q : Vec Ideal S1x1x128x256 .bf16) (Q : Fin 128 → Fin 256 → ℝ) (hq : ∀ d i, q (ix4 0 0 d i) = ((Q d i : ℝ) : EReal))
    (d : Fin 128) (n : Fin 512) : padded (F := Ideal) q (ix2 d n) = ((padR Q d n : ℝ) : EReal) := by
  unfold padded
  pointwise [lanes_slt, lanes_sge, select_ofBool, hq]
  have hd := d.isLt
  have hn := n.isLt
  unfold padR col
  by_cases h : n.val < 256
  · rw [dif_pos h]
    have e : n.val / 256 = 0 := by omega
    have e' : n.val % 256 = n.val := by omega
    simp only [e, e']
    by_cases h' : d.val < 64
    · exact (if_pos h').trans (congrArg Real.toEReal (if_pos (by omega)).symm)
    · exact (if_neg h').trans (congrArg Real.toEReal (if_neg (by omega)).symm)
  · rw [dif_neg h]
    have e : n.val / 256 = 1 := by omega
    have e' : n.val % 256 = n.val - 256 := by omega
    simp only [e, e']
    by_cases h' : 64 ≤ d.val
    · exact (if_pos h').trans (congrArg Real.toEReal (if_pos (by omega)).symm)
    · exact (if_neg h').trans (congrArg Real.toEReal (if_neg (by omega)).symm)

theorem scores_apply (k : Vec Ideal S1x512x128 .bf16) (qp : FVec Ideal S128x512 .bf16) (r n : Fin 512) :
    scores k qp (ix2 r n) = ∑ d : Fin 128, k (ix3 0 r d) * qp (ix2 d n) := by
  unfold scores
  pointwise

theorem weights_apply (s : FVec Ideal S512x512 .f32) (sh : FVec Ideal S1x512 .f32) (r n : Fin 512) :
    weights s sh (ix2 r n) = Ideal.exp2 (s (ix2 r n) - sh (ix2 0 n)) := by
  unfold weights
  pointwise
  rfl

theorem eighths_apply (p : FVec Ideal S512x512 .f32) (a : Fin 8) (n : Fin 512) :
    eighths p (ix2 a n) = ∑ b : Fin 64, p (ix2 ⟨b.val * 8 + a.val, by omega⟩ n) := by
  unfold eighths
  pointwise

theorem timesV_apply (p : FVec Ideal S512x512 .f32) (v : Vec Ideal S1x1x128x512 .bf16) (e : Fin 128) (n : Fin 512) :
    timesV p v (ix2 e n) = ∑ r : Fin 512, v (ix4 0 0 e r) * p (ix2 r n) := by
  unfold timesV
  pointwise
  split
  · rfl
  · next h =>
    have e' : 256 + (n.val - 256) = n.val := by omega
    simp only [e']

theorem shift_apply (kmax : FVec Ideal S1x512 .f32) (qp : FVec Ideal S128x512 .bf16) (n : Fin 512) :
    shift kmax qp (ix2 0 n) = Ideal.sqrt (∑ d : Fin 128, qp (ix2 d n) * qp (ix2 d n)) * kmax (ix2 0 n) * Ideal.ofBits .f32 0x3F800800#32 := by
  unfold shift
  pointwise

theorem lam_apply (a b c d : Vec Ideal S1x64 .f32) : lam a b c d (ix2 0 0)
    = Ideal.exp (∑ z : Fin 64, a (ix2 0 z) * b (ix2 0 z)) - Ideal.exp (∑ z : Fin 64, c (ix2 0 z) * d (ix2 0 z)) + Ideal.ofBits .f32 0x3E4CCCCD#32 := by
  unfold lam
  pointwise

/-- The column of query `i`'s first or second head. -/
def colOf (c : Fin 2) (i : Fin 256) : Fin 512 := ⟨256 * c.val + i.val, by omega⟩

theorem diffNorm_apply (lm : FVec Ideal S1x1 .f32) (l : FVec Ideal S1x512 .f32) (acc : FVec Ideal S128x512 .f32) (e : Fin 128) (i : Fin 256) :
    diffNorm lm l acc (ix2 e i) = Ideal.div (acc (ix2 e (colOf 0 i))) (l (ix2 0 (colOf 0 i)))
      - lm (ix2 0 0) * Ideal.div (acc (ix2 e (colOf 1 i))) (l (ix2 0 (colOf 1 i))) := by
  unfold diffNorm
  pointwise
  have h : (⟨i.val, by omega⟩ : Fin 512) = colOf 0 i := Fin.ext (by simp [colOf])
  rw [h]; rfl

theorem normStep_apply (mx : FVec Ideal S512x1 .f32) (k : Vec Ideal S1x512x128 .bf16) (r : Fin 512) :
    normStep mx k (ix2 r 0) = max (mx (ix2 r 0)) (∑ d : Fin 128, k (ix3 0 r d) * k (ix3 0 r d)) := by
  unfold normStep
  pointwise

theorem kmaxFull_apply (k : Fin 4 → Vec Ideal S1x512x128 .bf16) (z : S8x128.Idx) :
    kmaxFull k z = Ideal.sqrt (Finset.univ.fold max (Ideal.ofBits .f32 0xFF800000#32) (fun r : Fin 512 => norms k 4 (ix2 r 0))) := by
  unfold kmaxFull
  pointwise

theorem kmax_apply (k : Fin 4 → Vec Ideal S1x512x128 .bf16) (n : Fin 512) :
    kmax k (ix2 0 n) = Ideal.sqrt (Finset.univ.fold max (Ideal.ofBits .f32 0xFF800000#32) (fun r : Fin 512 => norms k 4 (ix2 r 0))) := by
  unfold kmax
  pointwise [kmaxFull_apply]
  split_ifs <;> rfl

theorem boundedL_apply (kmax : FVec Ideal S1x512 .f32) (q : Vec Ideal S1x1x128x256 .bf16) (k : Fin 4 → Vec Ideal S1x512x128 .bf16) (n : Fin 512) :
    boundedL kmax q k (ix2 0 n) = ∑ x, (eighths (boundedP kmax q k 0) (ix2 x n) + eighths (boundedP kmax q k 1) (ix2 x n)
      + eighths (boundedP kmax q k 2) (ix2 x n) + eighths (boundedP kmax q k 3) (ix2 x n)) := by
  unfold boundedL
  pointwise

theorem boundedAcc_apply (kmax : FVec Ideal S1x512 .f32) (q : Vec Ideal S1x1x128x256 .bf16) (k : Fin 4 → Vec Ideal S1x512x128 .bf16)
    (v : Fin 4 → Vec Ideal S1x1x128x512 .bf16) (e : Fin 128) (n : Fin 512) :
    boundedAcc kmax q k v (ix2 e n) = timesV (boundedP kmax q k 0) (v 0) (ix2 e n) + timesV (boundedP kmax q k 1) (v 1) (ix2 e n)
      + timesV (boundedP kmax q k 2) (v 2) (ix2 e n) + timesV (boundedP kmax q k 3) (v 3) (ix2 e n) := by
  unfold boundedAcc
  pointwise

theorem online_m (q : Vec Ideal S1x1x128x256 .bf16) (k : Fin 4 → Vec Ideal S1x512x128 .bf16) (v : Fin 4 → Vec Ideal S1x1x128x512 .bf16) (j : ℕ) (n : Fin 512) :
    (online q k v (j + 1)).1 (ix2 0 n) = max ((online q k v j).1 (ix2 0 n))
      (Finset.univ.fold max (Ideal.ofBits .f32 0xFF800000#32) (fun r : Fin 512 => scores (k (Fin.ofNat 4 j)) (padded q) (ix2 r n))) := by
  rw [online]
  pointwise

theorem online_l (q : Vec Ideal S1x1x128x256 .bf16) (k : Fin 4 → Vec Ideal S1x512x128 .bf16) (v : Fin 4 → Vec Ideal S1x1x128x512 .bf16) (j : ℕ) (n : Fin 512) :
    (online q k v (j + 1)).2.1 (ix2 0 n) = Ideal.exp2 ((online q k v j).1 (ix2 0 n) - (online q k v (j + 1)).1 (ix2 0 n)) * (online q k v j).2.1 (ix2 0 n)
      + ∑ r : Fin 512, Ideal.exp2 (scores (k (Fin.ofNat 4 j)) (padded q) (ix2 r n) - (online q k v (j + 1)).1 (ix2 0 n)) := by
  rw [online]
  pointwise [weights_apply]
  rfl

theorem online_acc (q : Vec Ideal S1x1x128x256 .bf16) (k : Fin 4 → Vec Ideal S1x512x128 .bf16) (v : Fin 4 → Vec Ideal S1x1x128x512 .bf16) (j : ℕ) (e : Fin 128)
    (n : Fin 512) :
    (online q k v (j + 1)).2.2 (ix2 e n) = (online q k v j).2.2 (ix2 e n) * Ideal.exp2 ((online q k v j).1 (ix2 0 n) - (online q k v (j + 1)).1 (ix2 0 n))
      + ∑ r : Fin 512, v (Fin.ofNat 4 j) (ix4 0 0 e r) * Ideal.exp2 (scores (k (Fin.ofNat 4 j)) (padded q) (ix2 r n) - (online q k v (j + 1)).1 (ix2 0 n)) := by
  rw [online]
  pointwise [weights_apply, timesV_apply]
  rfl

theorem finish_apply (lm : FVec Ideal S1x1 .f32) (l : FVec Ideal S1x512 .f32) (acc : FVec Ideal S128x512 .f32) (e : Fin 128) (i : Fin 256) :
    finish lm l acc (ix3 0 i e) = subln (fun x => diffNorm lm l acc (ix2 x i)) e := by
  unfold finish subln
  pointwise

end Cert.Proof.KernelIdeal

end
-- ==== Proof.Ideal.Mean.lean ====
/-
  Both passes on real queries, keys and values: the column sums and weighted values are those of one shift or another, so their
  quotient is the softmax mean.
-/
module

public import proofs.«01_k».proof.Proof.Ideal.Point

@[expose] public section

set_option maxRecDepth 16384

noncomputable section

namespace Cert.Proof.KernelIdeal

open Cert.KernelIdeal Cert.KernelIdeal.Gen
open Idealize.ShloMosaic Idealize.SL.Sem

section real
variable {q : Vec Ideal S1x1x128x256 .bf16} {k : Fin 4 → Vec Ideal S1x512x128 .bf16} {v : Fin 4 → Vec Ideal S1x1x128x512 .bf16}
variable {Q : Fin 128 → Fin 256 → ℝ} {K : Fin 4 → Fin 512 → Fin 128 → ℝ} {V : Fin 4 → Fin 128 → Fin 512 → ℝ}

/-- The score of key `r` of chunk `j` in column `n`. -/
def scoreR (Q : Fin 128 → Fin 256 → ℝ) (K : Fin 4 → Fin 512 → Fin 128 → ℝ) (j : Fin 4) (r n : Fin 512) : ℝ := ∑ d, K j r d * padR Q d n

/-- Its weight under a shift `a`. -/
def weightR (Q : Fin 128 → Fin 256 → ℝ) (K : Fin 4 → Fin 512 → Fin 128 → ℝ) (a : ℝ) (n : Fin 512) (j : Fin 4) (r : Fin 512) : ℝ :=
  Real.exp ((scoreR Q K j r n - a) * Real.log 2)

/-- The softmax mean of column `n` in the values' lane `e`. -/
def meanR (Q : Fin 128 → Fin 256 → ℝ) (K : Fin 4 → Fin 512 → Fin 128 → ℝ) (V : Fin 4 → Fin 128 → Fin 512 → ℝ) (e : Fin 128) (n : Fin 512) : ℝ :=
  mean (fun p : Fin 4 × Fin 512 => scoreR Q K p.1 p.2 n * Real.log 2) (fun p => V p.1 e p.2)

/-- Column sums and weighted values that belong to some shift. -/
def Shifted (Q : Fin 128 → Fin 256 → ℝ) (K : Fin 4 → Fin 512 → Fin 128 → ℝ) (V : Fin 4 → Fin 128 → Fin 512 → ℝ) (l : FVec Ideal S1x512 .f32)
    (acc : FVec Ideal S128x512 .f32) : Prop :=
  ∀ n, ∃ a : ℝ, l (ix2 0 n) = ((∑ j, ∑ r, weightR Q K a n j r : ℝ) : EReal)
    ∧ ∀ e, acc (ix2 e n) = ((∑ j, ∑ r, V j e r * weightR Q K a n j r : ℝ) : EReal)

/-- Their quotient does not depend on the shift. -/
theorem Shifted.div {l : FVec Ideal S1x512 .f32} {acc : FVec Ideal S128x512 .f32} (h : Shifted Q K V l acc) (e : Fin 128) (n : Fin 512) :
    Ideal.div (acc (ix2 e n)) (l (ix2 0 n)) = ((meanR Q K V e n : ℝ) : EReal) := by
  obtain ⟨a, hl, hacc⟩ := h n
  have hpos := sum_exp_pos (fun p : Fin 4 × Fin 512 => scoreR Q K p.1 p.2 n * Real.log 2 - a * Real.log 2)
  have hm := mean_shift (fun p : Fin 4 × Fin 512 => scoreR Q K p.1 p.2 n * Real.log 2) (fun p => V p.1 e p.2) (a * Real.log 2)
  rw [hacc e, hl]
  unfold meanR
  rw [← hm]
  unfold mean
  have hw : ∀ j r, weightR Q K a n j r = Real.exp (scoreR Q K j r n * Real.log 2 - a * Real.log 2) := fun j r => by rw [weightR, sub_mul]
  simp only [hw]
  rw [← Fintype.sum_prod_type' (f := fun j r => Real.exp (scoreR Q K j r n * Real.log 2 - a * Real.log 2)),
    ← Fintype.sum_prod_type' (f := fun j r => V j e r * Real.exp (scoreR Q K j r n * Real.log 2 - a * Real.log 2))]
  exact div_coe_coe _ hpos.ne'

variable (hq : ∀ d i, q (ix4 0 0 d i) = ((Q d i : ℝ) : EReal)) (hk : ∀ j r d, k j (ix3 0 r d) = ((K j r d : ℝ) : EReal))
  (hv : ∀ j e r, v j (ix4 0 0 e r) = ((V j e r : ℝ) : EReal))

include hq hk in
theorem scores_real (j : Fin 4) (r n : Fin 512) : scores (k j) (padded q) (ix2 r n) = ((scoreR Q K j r n : ℝ) : EReal) := by
  rw [scores_apply]
  simp only [hk, padded_real q Q hq, ← EReal.coe_mul]
  rw [sum_coe]; rfl

/-! ## The bounded pass -/

include hk in
theorem norms_real (m : ℕ) (r : Fin 512) : ∃ x : ℝ, 0 ≤ x ∧ norms k m (ix2 r 0) = (x : EReal) := by
  induction m with
  | zero => exact ⟨0, le_refl 0, by rw [norms]; pointwise; rfl⟩
  | succ m ih =>
    obtain ⟨x, hx, e⟩ := ih
    rw [norms, normStep_apply, e]
    simp only [hk, ← EReal.coe_mul]
    rw [sum_coe, max_coe]
    exact ⟨_, le_max_of_le_left hx, rfl⟩

include hk in
theorem kmax_real : ∃ x : ℝ, ∀ n, kmax k (ix2 0 n) = (x : EReal) := by
  choose f hf e using fun r => norms_real hk 4 r
  obtain ⟨x, hx⟩ := fold_max_bot (n := 511) f
  have h0 : 0 ≤ x := by
    have : ((0 : ℝ) : EReal) ≤ (x : EReal) := by
      rw [← hx, Finset.le_fold_max]
      exact .inr ⟨0, Finset.mem_univ _, EReal.coe_le_coe_iff.mpr (hf 0)⟩
    exact EReal.coe_le_coe_iff.mp this
  refine ⟨Real.sqrt x, fun n => ?_⟩
  rw [kmax_apply, ofBits_bot]
  simp only [e]
  rw [hx, Ideal.sqrt_coe, if_neg (not_lt.mpr h0)]

include hq hk in
theorem shift_real (n : Fin 512) : ∃ x : ℝ, shift (kmax k) (padded q) (ix2 0 n) = (x : EReal) := by
  obtain ⟨x, hx⟩ := kmax_real hk
  obtain ⟨c, hc⟩ := ofBits_slack
  rw [shift_apply, hx, hc]
  simp only [padded_real q Q hq, ← EReal.coe_mul]
  rw [sum_coe, Ideal.sqrt_coe, if_neg (not_lt.mpr (Finset.sum_nonneg fun _ _ => mul_self_nonneg _)), ← EReal.coe_mul, ← EReal.coe_mul]
  exact ⟨_, rfl⟩

include hq hk in
theorem boundedP_real (n : Fin 512) : ∃ a : ℝ, ∀ j r, boundedP (kmax k) q k j (ix2 r n) = ((weightR Q K a n j r : ℝ) : EReal) := by
  obtain ⟨a, ha⟩ := shift_real hq hk n
  refine ⟨a, fun j r => ?_⟩
  rw [boundedP, weights_apply, scores_real hq hk, ha, ← EReal.coe_sub, exp2_coe]; rfl

/-- A sum over 512 keys, regrouped by their number modulo eight. -/
theorem sum_eighths (f : Fin 512 → ℝ) : ∑ x : Fin 8, ∑ b : Fin 64, f ⟨b.val * 8 + x.val, by omega⟩ = ∑ r, f r := by
  rw [Finset.sum_comm, ← Fintype.sum_prod_type' (f := fun (b : Fin 64) (x : Fin 8) => f ⟨b.val * 8 + x.val, by omega⟩), ← Equiv.sum_comp (finProdFinEquiv (m := 64) (n := 8)) f]
  refine Finset.sum_congr rfl fun p _ => congrArg f (Fin.ext ?_)
  show p.1.val * 8 + p.2.val = p.2.val + 8 * p.1.val
  omega

include hq hk hv in
theorem bounded_shifted : Shifted Q K V (boundedL (kmax k) q k) (boundedAcc (kmax k) q k v) := fun n => by
  obtain ⟨a, ha⟩ := boundedP_real hq hk n
  refine ⟨a, ?_, fun e => ?_⟩
  · rw [boundedL_apply]
    simp only [eighths_apply, ha, sum_coe, ← EReal.coe_add]
    rw [EReal.coe_eq_coe_iff]
    simp only [Finset.sum_add_distrib, Fin.sum_univ_four]
    rw [sum_eighths (weightR Q K a n 0), sum_eighths (weightR Q K a n 1), sum_eighths (weightR Q K a n 2), sum_eighths (weightR Q K a n 3)]
  · rw [boundedAcc_apply]
    simp only [timesV_apply, ha, hv, ← EReal.coe_mul, sum_coe, ← EReal.coe_add, Fin.sum_univ_four]

/-! ## The online softmax -/

include hq hk in
theorem chunk_max (j : Fin 4) (n : Fin 512) : ∃ x : ℝ, Finset.univ.fold max (⊥ : EReal) (fun r : Fin 512 => scores (k j) (padded q) (ix2 r n)) = x := by
  simp only [scores_real hq hk]
  exact fold_max_bot (n := 511) _

/-- A shift of the weights. -/
theorem weightR_shift (a b : ℝ) (n : Fin 512) (j : Fin 4) (r : Fin 512) :
    Real.exp ((a - b) * Real.log 2) * weightR Q K a n j r = weightR Q K b n j r := by
  rw [weightR, weightR, ← Real.exp_add]; congr 1; ring

include hq hk hv in
theorem online_real (n : Fin 512) (m : ℕ) : ∃ a : ℝ, (online q k v (m + 1)).1 (ix2 0 n) = (a : EReal)
    ∧ (online q k v (m + 1)).2.1 (ix2 0 n) = ((∑ j ∈ Finset.range (m + 1), ∑ r, weightR Q K a n (Fin.ofNat 4 j) r : ℝ) : EReal)
    ∧ ∀ e, (online q k v (m + 1)).2.2 (ix2 e n) = ((∑ j ∈ Finset.range (m + 1), ∑ r, V (Fin.ofNat 4 j) e r * weightR Q K a n (Fin.ofNat 4 j) r : ℝ) : EReal) := by
  induction m with
  | zero =>
    obtain ⟨x, hx⟩ := chunk_max hq hk (Fin.ofNat 4 0) n
    have h0 : (online q k v 0).1 (ix2 0 n) = ⊥ := by rw [online, ← ofBits_bot]; rfl
    have h1 : (online q k v 0).2.1 (ix2 0 n) = 0 := by rw [online]; pointwise
    have h2 : ∀ e, (online q k v 0).2.2 (ix2 e n) = 0 := fun e => by rw [online]; pointwise
    have hm : (online q k v (0 + 1)).1 (ix2 0 n) = (x : EReal) := by rw [online_m, h0, ofBits_bot, hx]; exact max_eq_right bot_le
    refine ⟨x, hm, ?_, fun e => ?_⟩
    · rw [online_l, hm, h1, mul_zero, zero_add]
      simp only [scores_real hq hk, ← EReal.coe_sub, exp2_coe, sum_coe, zero_add, Finset.sum_range_one]; rfl
    · rw [online_acc, hm, h2, zero_mul, zero_add]
      simp only [scores_real hq hk, hv, ← EReal.coe_sub, exp2_coe, ← EReal.coe_mul, sum_coe, zero_add, Finset.sum_range_one]; rfl
  | succ m ih =>
    obtain ⟨a, ha, hl, hacc⟩ := ih
    obtain ⟨x, hx⟩ := chunk_max hq hk (Fin.ofNat 4 (m + 1)) n
    have hm : (online q k v (m + 1 + 1)).1 (ix2 0 n) = ((max a x : ℝ) : EReal) := by rw [online_m, ha, ofBits_bot, hx, max_coe]
    refine ⟨max a x, hm, ?_, fun e => ?_⟩
    · rw [online_l, hm, ha, hl]
      simp only [scores_real hq hk, ← EReal.coe_sub, exp2_coe, ← EReal.coe_mul, sum_coe, ← EReal.coe_add]
      rw [Finset.sum_range_succ _ (m + 1)]
      simp only [Finset.mul_sum, weightR_shift]; rfl
    · rw [online_acc, hm, ha, hacc]
      simp only [scores_real hq hk, hv, ← EReal.coe_sub, exp2_coe, ← EReal.coe_mul, sum_coe, ← EReal.coe_add]
      rw [Finset.sum_range_succ _ (m + 1), mul_comm]
      simp only [Finset.mul_sum, mul_left_comm _ (V _ _ _), weightR_shift]; rfl

include hq hk hv in
theorem online_shifted : Shifted Q K V (online q k v 4).2.1 (online q k v 4).2.2 := fun n => by
  obtain ⟨a, -, hl, hacc⟩ := online_real hq hk hv n 3
  have h : ∀ f : Fin 4 → ℝ, ∑ j ∈ Finset.range (3 + 1), f (Fin.ofNat 4 j) = ∑ j, f j := fun f => by
    rw [Finset.sum_range]
    exact Finset.sum_congr rfl fun j _ => congrArg f (Fin.ext (Nat.mod_eq_of_lt j.isLt))
  exact ⟨a, by rw [hl, h (fun j => ∑ r, weightR Q K a n j r)], fun e => by rw [hacc e, h (fun j => ∑ r, V j e r * weightR Q K a n j r)]⟩

/-! ## A block's result -/

/-- A block's result from sums and values of any shift: the difference of the two heads' means, normed. -/
theorem finish_real {lm : FVec Ideal S1x1 .f32} {x : ℝ} (hlm : lm (ix2 0 0) = (x : EReal)) {l : FVec Ideal S1x512 .f32} {acc : FVec Ideal S128x512 .f32}
    (h : Shifted Q K V l acc) (e : Fin 128) (i : Fin 256) :
    finish lm l acc (ix3 0 i e) = subln (fun z => ((meanR Q K V z (colOf 0 i) - x * meanR Q K V z (colOf 1 i) : ℝ) : EReal)) e := by
  rw [finish_apply]
  refine congrArg (subln · e) (funext fun z => ?_)
  rw [diffNorm_apply, h.div, h.div, hlm, ← EReal.coe_mul, ← EReal.coe_sub]

end real

/-- The body's result at a point whose staged queries, keys, values and vectors are real: row `s`, lane `e`. -/
theorem out_real (x0 : Vec Ideal S1x8x128x256 .bf16) (x1 : Vec Ideal S1x2048x128 .bf16) (x2 : Vec Ideal S1x4x128x512 .bf16) (x3 x4 x5 x6 : Vec Ideal S1x64 .f32)
    (Q : Fin 8 → Fin 128 → Fin 256 → ℝ) (K : Fin 4 → Fin 512 → Fin 128 → ℝ) (V : Fin 4 → Fin 128 → Fin 512 → ℝ) (x : ℝ)
    (hq : ∀ b d i, x0 (ix4 0 b d i) = ((Q b d i : ℝ) : EReal))
    (hk : ∀ (j : Fin 4) (r : Fin 512) d, x1 (ix3 0 ⟨512 * j.val + r.val, by omega⟩ d) = ((K j r d : ℝ) : EReal))
    (hv : ∀ j e r, x2 (ix4 0 j e r) = ((V j e r : ℝ) : EReal))
    (hlm : lam x3 x4 x5 x6 (ix2 0 0) = (x : EReal)) (s : Fin 2048) (e : Fin 128) :
    out x0 x1 x2 x3 x4 x5 x6 (ix3 0 s e)
      = subln (fun z => ((meanR (Q ⟨s.val / 256, by omega⟩) K V z (colOf 0 ⟨s.val % 256, by omega⟩)
          - x * meanR (Q ⟨s.val / 256, by omega⟩) K V z (colOf 1 ⟨s.val % 256, by omega⟩) : ℝ) : EReal)) e := by
  have hq' : ∀ b d i, qBlock x0 b (ix4 0 0 d i) = ((Q b d i : ℝ) : EReal) := fun b d i => by rw [← hq, ix4_eq_valueIdx]; rfl
  have hk' : ∀ j r d, kChunk x1 j (ix3 0 r d) = ((K j r d : ℝ) : EReal) := fun j r d => by rw [← hk, ix3_eq_valueIdx]; rfl
  have hv' : ∀ j e r, vChunk x2 j (ix4 0 0 e r) = ((V j e r : ℝ) : EReal) := fun j e r => by rw [← hv, ix4_eq_valueIdx]; rfl
  have hr : ∀ B : Fin 8 → FVec Ideal S1x256x128 .bf16, rows B (ix3 0 s e) = B ⟨s.val / 256, by omega⟩ (ix3 0 ⟨s.val % 256, by omega⟩ e) := fun B => by
    rw [ix3_eq_valueIdx]; rfl
  unfold out
  split
  · rw [hr, onlineBlock]
    exact finish_real hlm (online_shifted (hq' _) hk' hv') e _
  · rw [hr, boundedBlock, bounded]
    exact finish_real hlm (bounded_shifted (hq' _) hk' hv') e _

end Cert.Proof.KernelIdeal

end
-- ==== Proof.Ideal.Array.lean ====
/-
  The call's result array over the extended reals, on real arguments: every row of every head is the normed difference of its two
  softmax means.
-/
module

public import proofs.«01_k».proof.Proof.Ideal.Mean
public import Idealize.ShloMosaic.Lib.Pointwise
public import proofs.«01_k».proof.Proof.Ideal.Frame

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## The arrays the call stages -/

/-- The queries as staged: scaled, in eight tiles of rows, each tile transposed. -/
def queries (a : FVec Ideal S32x2048x512 .f32) : FVec Ideal S32x8x512x256 .bf16 :=
  truncf .bf16 (transpose S32x8x512x256 [0, 1, 3, 2] (shapeCast S32x8x256x512 (mulf a
      (broadcastInDim S32x2048x512 ![] bcast_S_S32x2048x512 (Host.divf (constant S_ .f32 0x3E000000#32) (Host.log (constant S_ .f32 0x40000000#32)))))
      shapeCasts_S32x2048x512_S32x8x256x512) transposes_S32x8x256x512_S32x8x512x256_0_1_3_2) bitsLt_bf16_f32

/-- The values as staged: in four chunks of rows, each chunk transposed. -/
def values (a : FVec Ideal S32x2048x512 .f32) : FVec Ideal S32x4x512x512 .bf16 :=
  truncf .bf16 (transpose S32x4x512x512 [0, 1, 3, 2] (shapeCast S32x4x512x512 a
      shapeCasts_S32x2048x512_S32x4x512x512) transposes_S32x4x512x512_S32x4x512x512_0_1_3_2) bitsLt_bf16_f32

theorem queries_apply (a : FVec Ideal S32x2048x512 .f32) (b : Fin 32) (g : Fin 8) (z : Fin 512) (i : Fin 256) :
    queries a (ix4 b g z i) = a (ix3 b ⟨256 * g.val + i.val, by omega⟩ z)
      * Ideal.div (Ideal.ofBits .f32 0x3E000000#32) (Ideal.log (Ideal.ofBits .f32 0x40000000#32)) := by
  unfold queries
  pointwise
  exact congrArg (fun r : Fin 2048 => a (ix3 b r z) * _) (Fin.ext (by show g.val * 256 + i.val = 256 * g.val + i.val; omega))

theorem values_apply (a : FVec Ideal S32x2048x512 .f32) (b : Fin 32) (j : Fin 4) (z r : Fin 512) :
    values a (ix4 b j z r) = a (ix3 b ⟨512 * j.val + r.val, by omega⟩ z) := by
  unfold values
  pointwise
  exact congrArg (fun r : Fin 2048 => a (ix3 b r z)) (Fin.ext (by show j.val * 512 + r.val = 512 * j.val + r.val; omega))

theorem V_queries (c : Dev nD) (b : Fin 32) (g : Fin 8) (z : Fin 512) (i : Fin 256) (x : EReal)
    (hx : m ((c : Thread nD τ).loc main_arg0) (ix3 b ⟨256 * g.val + i.val, by omega⟩ z) = x) :
    V m c main_v6 (ix4 b g z i) = x * Ideal.div (Ideal.ofBits .f32 0x3E000000#32) (Ideal.log (Ideal.ofBits .f32 0x40000000#32)) := by
  have h : @Eq (FVec Ideal S32x8x512x256 .bf16) (V m c main_v6) (queries (m ((c : Thread nD τ).loc main_arg0))) := by
    unfold V
    after_results_simp <;> rfl
  rw [h]
  refine (queries_apply _ b g z i).trans ?_
  exact congrArg (fun y : EReal => y * _) hx

theorem V_keys (c : Dev nD) (i : S32x2048x512.Idx) : V m c main_v10 i = m ((c : Thread nD τ).loc main_arg1) i := by
  have h : @Eq (FVec Ideal S32x2048x512 .bf16) (V m c main_v10) (truncf .bf16 (m ((c : Thread nD τ).loc main_arg1) : FVec Ideal S32x2048x512 .f32) bitsLt_bf16_f32) := by
    unfold V
    after_results_simp <;> rfl
  rw [h]; rfl

theorem V_values (c : Dev nD) (b : Fin 32) (j : Fin 4) (z r : Fin 512) :
    V m c main_v9 (ix4 b j z r) = m ((c : Thread nD τ).loc main_arg2) (ix3 b ⟨512 * j.val + r.val, by omega⟩ z) := by
  have h : @Eq (FVec Ideal S32x4x512x512 .bf16) (V m c main_v9) (values (m ((c : Thread nD τ).loc main_arg2))) := by
    unfold V
    after_results_simp <;> rfl
  rw [h]
  exact values_apply _ b j z r

/-! ## The blocks at a point -/

theorem idx0 : ∀ t : Fin cfg0.N, win0_0.index t (0 : Fin 4) = t.val / 4 ∧ win0_0.index t (1 : Fin 4) = 0 ∧ win0_0.index t (2 : Fin 4) = t.val % 4
    ∧ win0_0.index t (3 : Fin 4) = 0 := (by decide +kernel : ∀ t : Fin grid0.N, _)
theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
theorem idx2 : ∀ t : Fin cfg0.N, win0_2.index t (0 : Fin 4) = t.val / 4 ∧ win0_2.index t (1 : Fin 4) = 0 ∧ win0_2.index t (2 : Fin 4) = t.val % 4
    ∧ win0_2.index t (3 : Fin 4) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 3) = t.val / 4 ∧ win0_7.index t (1 : Fin 3) = 0 ∧ win0_7.index t (2 : Fin 3) = t.val % 4 :=
  (by decide +kernel : ∀ t : Fin grid0.N, _)

theorem lt_N (t : Fin cfg0.N) : t.val < 128 := lt_of_lt_of_eq t.isLt N_0

/-- The batch element of a point, -/
def ptB (t : Fin cfg0.N) : Fin 32 := ⟨t.val / 4, by have := lt_N t; omega⟩
/-- and its head. -/
def ptH (t : Fin cfg0.N) : Fin 4 := ⟨t.val % 4, Nat.mod_lt _ (by decide)⟩

theorem iblk0_apply (c : Dev nD) (t : Fin cfg0.N) (g : Fin 8) (d : Fin 128) (i : Fin 256) :
    iblk m c 0 t (ix4 (n0 := 1) 0 g d i) = V m c main_v6 (ix4 (ptB t) g (vlane (ptH t) d) i) := by
  obtain ⟨e0, e1, e2, e3⟩ := idx0 t
  show V m c main_v6 (((cfg0.win 0).blk t).view.emb (ix4 (n0 := 1) 0 g d i)) = _
  refine congrArg _ (funext fun a => Fin.ext ?_)
  match a with
  | ⟨0, _⟩ => show win0_0.index t (0 : Fin 4) * 1 + 1 * 0 = t.val / 4; omega
  | ⟨1, _⟩ => show win0_0.index t (1 : Fin 4) * 8 + 1 * g.val = g.val; omega
  | ⟨2, _⟩ => show win0_0.index t (2 : Fin 4) * 128 + 1 * d.val = 128 * (t.val % 4) + d.val; omega
  | ⟨3, _⟩ => show win0_0.index t (3 : Fin 4) * 256 + 1 * i.val = i.val; omega

theorem iblk1_apply (c : Dev nD) (t : Fin cfg0.N) (s : Fin 2048) (d : Fin 128) :
    iblk m c 1 t (ix3 (n0 := 1) 0 s d) = V m c main_v10 (ix3 (ptB t) s (vlane (ptH t) d)) := by
  obtain ⟨e0, e1, e2⟩ := idx1 t
  show V m c main_v10 (((cfg0.win 1).blk t).view.emb (ix3 (n0 := 1) 0 s d)) = _
  refine congrArg _ (funext fun a => Fin.ext ?_)
  match a with
  | ⟨0, _⟩ => show win0_1.index t (0 : Fin 3) * 1 + 1 * 0 = t.val / 4; omega
  | ⟨1, _⟩ => show win0_1.index t (1 : Fin 3) * 2048 + 1 * s.val = s.val; omega
  | ⟨2, _⟩ => show win0_1.index t (2 : Fin 3) * 128 + 1 * d.val = 128 * (t.val % 4) + d.val; omega

theorem iblk2_apply (c : Dev nD) (t : Fin cfg0.N) (j : Fin 4) (e : Fin 128) (r : Fin 512) :
    iblk m c 2 t (ix4 (n0 := 1) 0 j e r) = V m c main_v9 (ix4 (ptB t) j (vlane (ptH t) e) r) := by
  obtain ⟨e0, e1, e2, e3⟩ := idx2 t
  show V m c main_v9 (((cfg0.win 2).blk t).view.emb (ix4 (n0 := 1) 0 j e r)) = _
  refine congrArg _ (funext fun a => Fin.ext ?_)
  match a with
  | ⟨0, _⟩ => show win0_2.index t (0 : Fin 4) * 1 + 1 * 0 = t.val / 4; omega
  | ⟨1, _⟩ => show win0_2.index t (1 : Fin 4) * 4 + 1 * j.val = j.val; omega
  | ⟨2, _⟩ => show win0_2.index t (2 : Fin 4) * 128 + 1 * e.val = 128 * (t.val % 4) + e.val; omega
  | ⟨3, _⟩ => show win0_2.index t (3 : Fin 4) * 512 + 1 * r.val = r.val; omega

/-- An index of a 1×64 array under a block that starts at its origin. -/
theorem emb_vec (k0 k1 : ℕ) (h0 : k0 = 0) (h1 : k1 = 0) (j : S1x64.Idx) (i : S1x64.Idx) (a0 : (i 0).val = k0 * 1 + 1 * (j 0).val)
    (a1 : (i 1).val = k1 * 64 + 1 * (j 1).val) : i = j := by
  funext a; apply Fin.ext
  match a with
  | ⟨0, _⟩ => exact a0.trans (by subst h0; simp)
  | ⟨1, _⟩ => exact a1.trans (by subst h1; simp)

theorem iblk3_eq (c : Dev nD) (t : Fin cfg0.N) : iblk m c 3 t = m ((c : Thread nD τ).loc main_arg3) := by
  funext j
  show V m c main_arg3 (((cfg0.win 3).blk t).view.emb j) = _
  rw [V_main_arg3, emb_vec _ _ (idx3 t).1 (idx3 t).2 j (((cfg0.win 3).blk t).view.emb j) rfl rfl]
theorem iblk4_eq (c : Dev nD) (t : Fin cfg0.N) : iblk m c 4 t = m ((c : Thread nD τ).loc main_arg4) := by
  funext j
  show V m c main_arg4 (((cfg0.win 4).blk t).view.emb j) = _
  rw [V_main_arg4, emb_vec _ _ (idx4 t).1 (idx4 t).2 j (((cfg0.win 4).blk t).view.emb j) rfl rfl]
theorem iblk5_eq (c : Dev nD) (t : Fin cfg0.N) : iblk m c 5 t = m ((c : Thread nD τ).loc main_arg5) := by
  funext j
  show V m c main_arg5 (((cfg0.win 5).blk t).view.emb j) = _
  rw [V_main_arg5, emb_vec _ _ (idx5 t).1 (idx5 t).2 j (((cfg0.win 5).blk t).view.emb j) rfl rfl]
theorem iblk6_eq (c : Dev nD) (t : Fin cfg0.N) : iblk m c 6 t = m ((c : Thread nD τ).loc main_arg6) := by
  funext j
  show V m c main_arg6 (((cfg0.win 6).blk t).view.emb j) = _
  rw [V_main_arg6, emb_vec _ _ (idx6 t).1 (idx6 t).2 j (((cfg0.win 6).blk t).view.emb j) rfl rfl]

/-! ## A point's means are the attention's -/

section means
variable (A0 A1 A2 : Fin 32 → Fin 2048 → Fin 512 → ℝ)

/-- A sum over a head's 128 lanes in which the other half's terms are zero. -/
theorem sum_half (f g : Fin 128 → ℝ) (c : Fin 2) :
    ∑ d : Fin 128, f d * (if c.val = d.val / 64 then g d else 0)
      = ∑ d : Fin 64, f ⟨64 * c.val + d.val, by omega⟩ * g ⟨64 * c.val + d.val, by omega⟩ := by
  rw [← Equiv.sum_comp (finProdFinEquiv (m := 2) (n := 64)) (fun d : Fin 128 => f d * (if c.val = d.val / 64 then g d else 0)), Fintype.sum_prod_type,
    Finset.sum_eq_single c]
  · refine Finset.sum_congr rfl fun d _ => ?_
    have e : (finProdFinEquiv (m := 2) (n := 64) (c, d) : Fin 128) = ⟨64 * c.val + d.val, by omega⟩ := Fin.ext (by
      show d.val + 64 * c.val = 64 * c.val + d.val; omega)
    simp only [e]
    rw [if_pos (by omega)]
  · intro a _ ha
    refine Finset.sum_eq_zero fun d _ => ?_
    have e : (finProdFinEquiv (m := 2) (n := 64) (a, d) : Fin 128) = ⟨64 * a.val + d.val, by omega⟩ := Fin.ext (by
      show d.val + 64 * a.val = 64 * a.val + d.val; omega)
    simp only [e]
    rw [if_neg (fun h => ha (Fin.ext (by omega))), mul_zero]
  · exact fun h => absurd (Finset.mem_univ c) h

/-- A column's mean of scaled queries, by chunks of keys, is the head's. -/
theorem meanR_eq (b : Fin 32) (h : Fin 4) (g : Fin 8) (c : Fin 2) (i : Fin 256) (x : Fin 128) :
    meanR (fun d i => A0 b ⟨256 * g.val + i.val, by omega⟩ (vlane h d) * (1 / 8 / Real.log 2))
        (fun j r d => A1 b ⟨512 * j.val + r.val, by omega⟩ (vlane h d)) (fun j e r => A2 b ⟨512 * j.val + r.val, by omega⟩ (vlane h e)) x (colOf c i)
      = headMean A0 A1 A2 b ⟨256 * g.val + i.val, by omega⟩ h c x := by
  have hl : Real.log 2 ≠ 0 := (Real.log_pos (by norm_num)).ne'
  unfold headMean meanR
  rw [← mean_equiv (finProdFinEquiv (m := 4) (n := 512))]
  have e : ∀ p : Fin 4 × Fin 512, (finProdFinEquiv p : Fin 2048) = ⟨512 * p.1.val + p.2.val, by have := p.1.isLt; have := p.2.isLt; omega⟩ := fun p => Fin.ext (by
    show p.2.val + 512 * p.1.val = 512 * p.1.val + p.2.val; omega)
  refine congrArg₂ mean (funext fun p => ?_) (funext fun p => by rw [e])
  rw [e]
  unfold scoreR logit
  have hp : ∀ d : Fin 128, padR (fun d i => A0 b ⟨256 * g.val + i.val, by omega⟩ (vlane h d) * (1 / 8 / Real.log 2)) d (colOf c i)
      = if c.val = d.val / 64 then A0 b ⟨256 * g.val + i.val, by omega⟩ (vlane h d) * (1 / 8 / Real.log 2) else 0 := fun d => by
    unfold padR
    have h1 : (colOf c i).val / 256 = c.val := by show (256 * c.val + i.val) / 256 = c.val; omega
    have h2 : col (colOf c i) = i := Fin.ext (by show (256 * c.val + i.val) % 256 = i.val; omega)
    rw [h1, h2]
  simp only [hp]
  rw [sum_half, Finset.sum_mul]
  refine Finset.sum_congr rfl fun d _ => ?_
  have ev : vlane h ⟨64 * c.val + d.val, by omega⟩ = lane h c d := Fin.ext (by
    show 128 * h.val + (64 * c.val + d.val) = 128 * h.val + 64 * c.val + d.val; omega)
  rw [ev]
  field_simp

end means

/-! ## The result array -/

section array
variable (c : Dev nD) (A0 A1 A2 : Fin 32 → Fin 2048 → Fin 512 → ℝ) (w : ℝ)

/-- The result: row `s` of batch element `b`, column `128 h + e`. -/
def result : S32x2048x512.Idx → EReal := fun i =>
  subln (diffRow A0 A1 A2 w (i 0) (i 1) ⟨(i 2).val / 128, by have h : (i 2).val < 512 := (i 2).isLt; omega⟩) ⟨(i 2).val % 128, Nat.mod_lt _ (by decide)⟩

variable (h0 : ∀ b s z, m ((c : Thread nD τ).loc main_arg0) (ix3 b s z) = ((A0 b s z : ℝ) : EReal))
  (h1 : ∀ b s z, m ((c : Thread nD τ).loc main_arg1) (ix3 b s z) = ((A1 b s z : ℝ) : EReal))
  (h2 : ∀ b s z, m ((c : Thread nD τ).loc main_arg2) (ix3 b s z) = ((A2 b s z : ℝ) : EReal))
  (hw : lam (m ((c : Thread nD τ).loc main_arg3)) (m ((c : Thread nD τ).loc main_arg4)) (m ((c : Thread nD τ).loc main_arg5))
    (m ((c : Thread nD τ).loc main_arg6)) (ix2 0 0) = (w : EReal))

include h0 h1 h2 hw in
theorem after7_apply (t : Fin cfg0.N) (s : Fin 2048) (e : Fin 128) :
    (dats m 0 c).after 7 t (ix3 (n0 := 1) 0 s e) = subln (diffRow A0 A1 A2 w (ptB t) s (ptH t)) e := by
  have hl : ¬ ((2 : ℝ) ≤ 0) := by norm_num
  have hl' : Real.log 2 ≠ 0 := (Real.log_pos (by norm_num)).ne'
  rw [after_7, iblk3_eq, iblk4_eq, iblk5_eq, iblk6_eq]
  refine (out_real _ _ _ _ _ _ _
    (fun g d i => A0 (ptB t) ⟨256 * g.val + i.val, by omega⟩ (vlane (ptH t) d) * (1 / 8 / Real.log 2))
    (fun j r d => A1 (ptB t) ⟨512 * j.val + r.val, by omega⟩ (vlane (ptH t) d))
    (fun j e r => A2 (ptB t) ⟨512 * j.val + r.val, by omega⟩ (vlane (ptH t) e)) w ?_ ?_ ?_ hw s e).trans ?_
  · intro g d i
    rw [iblk0_apply, V_queries m c _ _ _ _ _ (h0 _ _ _), ofBits_eighth, ofBits_two, Ideal.log_coe, if_neg hl, div_coe_coe _ hl', ← EReal.coe_mul]
  · intro j r d
    rw [iblk1_apply, V_keys, h1]
  · intro j e r
    rw [iblk2_apply, V_values, h2]
  · refine congrArg (subln · e) (funext fun x => ?_)
    rw [meanR_eq, meanR_eq]
    have es : (⟨256 * (s.val / 256) + s.val % 256, by omega⟩ : Fin 2048) = s := Fin.ext (by show 256 * (s.val / 256) + s.val % 256 = s.val; omega)
    unfold diffRow
    simp only [es]

theorem emb7 (t : Fin cfg0.N) (s : Fin 2048) (e : Fin 128) :
    ((cfg0.win 7).blk t).view.emb (ix3 (n0 := 1) 0 s e) = ix3 (ptB t) s (vlane (ptH t) e) := by
  obtain ⟨e0, e1, e2⟩ := idx7 t
  funext a; apply Fin.ext
  match a with
  | ⟨0, _⟩ => show win0_7.index t (0 : Fin 3) * 1 + 1 * 0 = t.val / 4; omega
  | ⟨1, _⟩ => show win0_7.index t (1 : Fin 3) * 2048 + 1 * s.val = s.val; omega
  | ⟨2, _⟩ => show win0_7.index t (2 : Fin 3) * 128 + 1 * e.val = 128 * (t.val % 4) + e.val; omega

include h0 h1 h2 hw in
/-- What a point writes back is its block of the result. -/
theorem flushed7_eq (t : Fin cfg0.N) : (dats m 0 c).flushed 7 t = ((cfg0.win 7).blk t).view.read (Elt Ideal) (result A0 A1 A2 w) := by
  funext y
  obtain ⟨s, e, rfl⟩ : ∃ (s : Fin 2048) (e : Fin 128), y = ix3 (n0 := 1) 0 s e := ⟨y 1, y 2, by
    rw [eq_ix3 (n0 := 1) (n1 := 2048) (n2 := 128) y]; exact congrArg (ix3 · _ _) (Subsingleton.elim (α := Fin 1) _ _)⟩
  show (dats m 0 c).after 7 t (ix3 (n0 := 1) 0 s e) = result A0 A1 A2 w (((cfg0.win 7).blk t).view.emb (ix3 (n0 := 1) 0 s e))
  rw [after7_apply m c A0 A1 A2 w h0 h1 h2 hw, emb7]
  have a1 : (128 * (ptH t).val + e.val) / 128 = (ptH t).val := by omega
  have a2 : (128 * (ptH t).val + e.val) % 128 = e.val := by omega
  show _ = subln (diffRow A0 A1 A2 w (ptB t) s ⟨(128 * (ptH t).val + e.val) / 128, _⟩) ⟨(128 * (ptH t).val + e.val) % 128, _⟩
  simp only [a1, a2]

/-- Every index of the result is in some point's block. -/
theorem covered7 (i : S32x2048x512.Idx) : ∃ t : Fin cfg0.N, (cfg0.win 7).flush t = true ∧ i ∈ ((cfg0.win 7).blk t).view.set := by
  have l0 : (i 0).val < 32 := (i 0).isLt
  have l2 : (i 2).val < 512 := (i 2).isLt
  obtain ⟨t, ht⟩ : ∃ t : Fin cfg0.N, t.val = 4 * (i 0).val + (i 2).val / 128 := ⟨⟨_, lt_of_lt_of_eq (by omega) N_0.symm⟩, rfl⟩
  refine ⟨t, flush0_7 t, ?_⟩
  have e : ((cfg0.win 7).blk t).view.emb (ix3 (n0 := 1) (n1 := 2048) (n2 := 128) 0 (i 1) ⟨(i 2).val % 128, Nat.mod_lt _ (by decide)⟩) = i := by
    refine (emb7 t (i 1) _).trans ?_
    funext a; apply Fin.ext
    match a with
    | ⟨0, _⟩ => show t.val / 4 = (i 0).val; omega
    | ⟨1, _⟩ => rfl
    | ⟨2, _⟩ => show 128 * (t.val % 4) + (i 2).val % 128 = (i 2).val; omega
  exact e ▸ ((cfg0.win 7).blk t).view.emb_mem_set _

include h0 h1 h2 hw in
theorem final7 : (dats m 0 c).arrAt 7 cfg0.N = result A0 A1 A2 w :=
  (dats m 0 c).arrAt_eq_of_cover 7 (result A0 A1 A2 w) (fun t _ => flushed7_eq m c A0 A1 A2 w h0 h1 h2 hw t) covered7

/-- Every execution of the call on real arguments ends with the result array and the arguments as they began. -/
theorem run_result (ρ : Dev nD → PrngReg) (v : Dev nD → S32x2048x512.Idx → EReal) (hv : ∀ c, (dats m 0 c).arrAt 7 cfg0.N = v c) :
    θ_run defs (onTc (τ := τ) (main (F := Ideal))) ⟨m, fun _ => 0, ρ⟩ (fun r => ∀ c : Dev nD,
      r.2.mem ((c.tc : Thread nD τ).loc main_v11) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (hv c), h.2.1 c⟩) (θ_run_and (run_main m ρ) (frame m ρ))

end array

end Cert.Proof.KernelIdeal

end
-- ==== Proof.Algebraic.lean ====
/-
  The kernel's result array and the reference's are equal on finite arguments.
-/
module

public import proofs.«01_k».proof.Defs
public import proofs.«01_k».proof.Proof.Finite
public import proofs.«01_k».proof.Proof.Reference
public import proofs.«01_k».proof.Proof.Ideal.Array

@[expose] public section

set_option maxRecDepth 16384

noncomputable section

namespace Cert.Proof

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- On one device: both results are the normed differences of the softmax means. -/
theorem results_eq (c : Dev Cert.KernelIdeal.nD) (hpre : Cert.Pre_KernelIdeal_finite m)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    ∃ v : Cert.KernelIdeal.S32x2048x512.Idx → EReal,
      (Cert.Proof.KernelIdeal.dats m 0 c).arrAt 7 Cert.KernelIdeal.cfg0.N = v ∧ Cert.ReferenceIdeal.Value.res_main_v47 m' c = v := by
  obtain ⟨r0, r1, r2, r3, r4, r5, r6⟩ := Finite.entries_real _ _ _ _ _ _ _ (hpre c)
  obtain ⟨w, hw⟩ := Finite.weight_real _ _ _ _ r3 r4 r5 r6
  choose A0 hA0 using r0
  choose A1 hA1 using r1
  choose A2 hA2 using r2
  refine ⟨Cert.Proof.KernelIdeal.result (fun b s z => A0 (ix3 b s z)) (fun b s z => A1 (ix3 b s z)) (fun b s z => A2 (ix3 b s z)) w, ?_, ?_⟩
  · exact Cert.Proof.KernelIdeal.final7 m c _ _ _ w (fun b s z => hA0 _) (fun b s z => hA1 _) (fun b s z => hA2 _)
      ((Cert.Proof.KernelIdeal.lam_apply _ _ _ _).trans hw)
  · rw [Cert.ReferenceIdeal.Read.val_main_v47_eq, hag.1, hag.2.1, hag.2.2.1, hag.2.2.2.1, hag.2.2.2.2.1, hag.2.2.2.2.2.1, hag.2.2.2.2.2.2]
    funext i
    rw [eq_ix3 (n0 := 32) (n1 := 2048) (n2 := 512) i]
    exact ReferenceIdeal.result_real _ _ _ _ _ _ _ _ _ _ w (fun b s z => hA0 (ix3 b s z)) (fun b s z => hA1 (ix3 b s z)) (fun b s z => hA2 (ix3 b s z)) hw _ _ _

end Cert.Proof

end
-- ==== Proof.Out.Spec.lean ====
/-
  One row of a layer's end, over the extended reals: the output projection, the residual after it, the gated feed-forward part
  and the residual after that.
-/
module

public import Idealize.ShloMosaic.Lib.Pointwise

@[expose] public section

noncomputable section

namespace Cert.Proof.Out

open Idealize.ShloMosaic

/-- A row over the root of its mean square. -/
def rms (v : Fin 1024 → EReal) (z : Fin 1024) : EReal :=
  v z * Ideal.rsqrt (Ideal.div (∑ k, v k * v k) (Ideal.ofBits .f32 0x44800000#32) + Ideal.ofBits .f32 0x358637BD#32)

/-- A row and a branch's output, which is normed and scaled by a weight, a gate and a gain. -/
def after (v y gate gain : Fin 1024 → EReal) (w : EReal) (z : Fin 1024) : EReal := v z + w * (gate z * (rms y z * gain z))

/-- A row that is normed, scaled and shifted before a branch reads it. -/
def before (v shift scale gain : Fin 1024 → EReal) (z : Fin 1024) : EReal :=
  rms v z * gain z * (1 + scale z) + shift z

theorem after_of (v y gate gain : Fin 1024 → EReal) (w : EReal) (z : Fin 1024) : v z + rms y z * (w * gate z * gain z) = after v y gate gain w z := by
  unfold after
  congr 1
  rw [mul_assoc w, mul_left_comm, mul_left_comm (rms y z)]

theorem after_one (v y gate gain : Fin 1024 → EReal) (z : Fin 1024) : v z + rms y z * (gate z * gain z) = after v y gate gain 1 z := by
  rw [← after_of, one_mul]

theorem before_of (v shift scale gain : Fin 1024 → EReal) (z : Fin 1024) : rms v z * (gain z * (1 + scale z)) + shift z = before v shift scale gain z := by
  unfold before
  rw [mul_assoc]

/-- The two attentions' rows through the two halves of the output projection. -/
def proj (a w : Fin 512 → EReal) (p q : Fin 512 → Fin 1024 → EReal) (z : Fin 1024) : EReal := (∑ k, a k * p k z) + ∑ k, w k * q k z

/-- One gated unit of the feed-forward part. -/
def unit (h : Fin 1024 → EReal) (g u : Fin 1024 → EReal) : EReal := (∑ k, h k * g k) * Ideal.logistic (∑ k, h k * g k) * ∑ k, h k * u k

/-- The gated feed-forward part of a row. -/
def gated (h : Fin 1024 → EReal) (g u : Fin 1024 → Fin 2816 → EReal) (d : Fin 2816 → Fin 1024 → EReal) (z : Fin 1024) : EReal :=
  ∑ n, unit h (g · n) (u · n) * d n z

/-- The row after the output projection. -/
def mixed (x : Fin 1024 → EReal) (a w : Fin 512 → EReal) (mod : Fin 9 → Fin 1024 → EReal) (gpost : Fin 3 → Fin 1024 → EReal) (p q : Fin 512 → Fin 1024 → EReal) :
    Fin 1024 → EReal := after x (proj a w p q) (mod 5) (gpost 1) (1)

/-- The row at the layer's end. -/
def ended (v : Fin 1024 → EReal) (mod : Fin 9 → Fin 1024 → EReal) (gpre gpost : Fin 3 → Fin 1024 → EReal) (g u : Fin 1024 → Fin 2816 → EReal)
    (d : Fin 2816 → Fin 1024 → EReal) : Fin 1024 → EReal :=
  after v (gated (before v (mod 6) (mod 7) (gpre 2)) g u d) (mod 8) (gpost 2) (Ideal.ofBits .f32 0x3F000000#32)

end Cert.Proof.Out

end
-- ==== Proof.Out.Reference.lean ====
/-
  The reference for a layer's end, over the extended reals, read at a place of its result.
-/
module

public import proofs.«01_k».proof.Proof.Gen.Reference2Ideal.Read
public import proofs.«01_k».proof.Proof.Out.Spec

@[expose] public section

set_option maxRecDepth 16384

noncomputable section

namespace Cert.Proof.Reference2Ideal

open Cert.Reference2Ideal Cert.Reference2Ideal.Gen Cert.Reference2Ideal.Read
open Idealize.ShloMosaic Idealize.SL.Sem Cert.Proof.Out

variable (x0 : FVec Ideal S32x2048x1024 .f32) (x1 x2 : FVec Ideal S32x2048x512 .bf16) (x3 : FVec Ideal S32x9x1024 .f32) (x4 x5 : FVec Ideal S3x1024 .f32)
  (x6 : FVec Ideal S1024x1024 .f32) (x7 x8 : FVec Ideal S1024x2816 .f32) (x9 : FVec Ideal S2816x1024 .f32)

theorem v4_at (b : Fin 32) (s : Fin 2048) (z : Fin 1024) : val_main_v4 (F := Ideal) x1 x2 x6 (ix3 b s z)
    = proj (fun k => x1 (ix3 b s k)) (fun k => x2 (ix3 b s k)) (fun k z => x6 (ix2 ⟨k.val, by omega⟩ z)) (fun k z => x6 (ix2 ⟨512 + k.val, by omega⟩ z)) z := by
  unfold val_main_v4 val_main_v3 val_main_v2 val_main_v1
  pointwise
  rfl

theorem v25_at (b : Fin 32) (s : Fin 2048) (z : Fin 1024) : val_main_v25 (F := Ideal) x0 x1 x2 x3 x5 x6 (ix3 b s z)
    = after (fun k => x0 (ix3 b s k)) (fun k => val_main_v4 (F := Ideal) x1 x2 x6 (ix3 b s k)) (fun k => x3 (ix3 b 5 k)) (fun k => x5 (ix2 1 k)) 1 z := by
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v0 val_main_cst val_main_cst_0 val_main_cst_1
  generalize val_main_v4 (F := Ideal) x1 x2 x6 = y
  pointwise
  unfold after
  rw [one_mul]
  rfl

theorem v52_at (b : Fin 32) (s : Fin 2048) (z : Fin 1024) : val_main_v52 (F := Ideal) x0 x1 x2 x3 x4 x5 x6 (ix3 b s z)
    = before (fun k => val_main_v25 (F := Ideal) x0 x1 x2 x3 x5 x6 (ix3 b s k)) (fun k => x3 (ix3 b 6 k)) (fun k => x3 (ix3 b 7 k)) (fun k => x4 (ix2 2 k)) z := by
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v0 val_main_cst_2 val_main_cst_3 val_main_cst_4 val_main_cst_5
  generalize val_main_v25 (F := Ideal) x0 x1 x2 x3 x5 x6 = y
  pointwise
  rfl

theorem v57_at (b : Fin 32) (s : Fin 2048) (z : Fin 1024) : val_main_v57 (F := Ideal) x0 x1 x2 x3 x4 x5 x6 x7 x8 x9 (ix3 b s z)
    = gated (fun k => val_main_v52 (F := Ideal) x0 x1 x2 x3 x4 x5 x6 (ix3 b s k)) (fun k n => x7 (ix2 k n)) (fun k n => x8 (ix2 k n)) (fun n z => x9 (ix2 n z)) z := by
  unfold val_main_v57 val_main_v56 val_main_v55 val_main_v54 val_main_call0_v5 val_main_call0_v4 val_main_call0_v3 val_main_call0_v2 val_main_call0_v1 val_main_call0_v0 val_main_v53 val_main_call0_cst val_main_call0_cst_0
  generalize val_main_v52 (F := Ideal) x0 x1 x2 x3 x4 x5 x6 = y
  pointwise
  rfl

theorem v80_at (b : Fin 32) (s : Fin 2048) (z : Fin 1024) : val_main_v80 (F := Ideal) x0 x1 x2 x3 x4 x5 x6 x7 x8 x9 (ix3 b s z)
    = after (fun k => val_main_v25 (F := Ideal) x0 x1 x2 x3 x5 x6 (ix3 b s k)) (fun k => val_main_v57 (F := Ideal) x0 x1 x2 x3 x4 x5 x6 x7 x8 x9 (ix3 b s k))
      (fun k => x3 (ix3 b 8 k)) (fun k => x5 (ix2 2 k)) (Ideal.ofBits .f32 0x3F000000#32) z := by
  unfold val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v0 val_main_cst_6 val_main_cst_7 val_main_cst_8 val_main_cst_9
  generalize val_main_v25 (F := Ideal) x0 x1 x2 x3 x5 x6 = v
  generalize val_main_v57 (F := Ideal) x0 x1 x2 x3 x4 x5 x6 x7 x8 x9 = y
  pointwise
  rfl

/-- The reference's result, read at a place: one row's `ended` of its `mixed`. -/
theorem result_at (b : Fin 32) (s : Fin 2048) (z : Fin 1024) : val_main_v80 (F := Ideal) x0 x1 x2 x3 x4 x5 x6 x7 x8 x9 (ix3 b s z)
    = ended (mixed (fun k => x0 (ix3 b s k)) (fun k => x1 (ix3 b s k)) (fun k => x2 (ix3 b s k)) (fun j k => x3 (ix3 b j k)) (fun j k => x5 (ix2 j k))
        (fun k z => x6 (ix2 ⟨k.val, by omega⟩ z)) (fun k z => x6 (ix2 ⟨512 + k.val, by omega⟩ z)))
      (fun j k => x3 (ix3 b j k)) (fun j k => x4 (ix2 j k)) (fun j k => x5 (ix2 j k)) (fun k n => x7 (ix2 k n)) (fun k n => x8 (ix2 k n)) (fun n z => x9 (ix2 n z)) z := by
  rw [v80_at]
  simp only [v57_at, v52_at, v25_at, v4_at]
  rfl

end Cert.Proof.Reference2Ideal

end
-- ==== Proof.Out.Units.lean ====
/-
  The eleven groups of gated units that a row block stores side by side, read back as one array.
-/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

noncomputable section

namespace Cert.Proof.Kernel2Ideal

open Cert.Kernel2Ideal Cert.Kernel2Ideal.Gen
open Idealize.ShloMosaic Idealize.SL.Sem

/-- Eleven groups of 256 columns side by side. -/
def gather (U : Fin 11 → FVec Ideal S256x256 .bf16) : FVec Ideal S256x2816 .bf16 := fun j =>
  U ⟨(j 1).val / 256, by have := (j 1).isLt; change (j 1).val < 2816 at this; omega⟩ (ix2 (j 0) ⟨(j 1).val % 256, Nat.mod_lt _ (by decide)⟩)

/-- The same groups in the rows from `o` on of the array that holds them. -/
def held (o : ℕ) (U : Fin 11 → FVec Ideal S256x256 .bf16) : FVec Ideal S512x2816 .bf16 := fun y =>
  U ⟨(y 1).val / 256, by have := (y 1).isLt; change (y 1).val < 2816 at this; omega⟩ (ix2 ⟨((y 0).val - o) % 256, Nat.mod_lt _ (by decide)⟩ ⟨(y 1).val % 256, Nat.mod_lt _ (by decide)⟩)

/-- Where group `k` lies. -/
abbrev place (o k : ℕ) (h : ∀ a, (![o, k] : Fin 2 → ℕ) a + (![256, 256] : Fin 2 → ℕ) a ≤ S512x2816.size a) : Rect S512x2816 := Rect.unit ![o, k] ![256, 256] h

theorem held_place (o : ℕ) (U : Fin 11 → FVec Ideal S256x256 .bf16) (k : Fin 11) (n : ℕ) (hn : n = 256 * k.val)
    (h : ∀ a, (![o, n] : Fin 2 → ℕ) a + (![256, 256] : Fin 2 → ℕ) a ≤ S512x2816.size a) (x : (place o n h).shape.Idx) : U k x = held o U ((place o n h).emb x) := by
  subst hn
  obtain ⟨a, b, rfl⟩ : ∃ (a b : Fin 256), x = ix2 a b := ⟨x 0, x 1, eq_ix2 x⟩
  have e : ∀ (q : Fin 11) (r s : Fin 256), q = k → r = a → s = b → U k (ix2 a b) = U q (ix2 r s) := by rintro _ _ _ rfl rfl rfl; rfl
  refine e _ _ _ (Fin.ext ?_) (Fin.ext ?_) (Fin.ext ?_)
  · show (256 * k.val + 1 * b.val) / 256 = k.val
    omega
  · show (o + 1 * a.val - o) % 256 = a.val
    omega
  · show (256 * k.val + 1 * b.val) % 256 = b.val
    omega

theorem mem_place (o : ℕ) (n : ℕ) (h : ∀ a, (![o, n] : Fin 2 → ℕ) a + (![256, 256] : Fin 2 → ℕ) a ≤ S512x2816.size a) (y : S512x2816.Idx)
    (h0 : o ≤ (y 0).val ∧ (y 0).val < o + 256) (h1 : (y 1).val / 256 * 256 = n) : y ∈ (place o n h).set := by
  rw [Rect.mem_set_unit]
  intro a
  match a with
  | ⟨0, _⟩ => exact h0
  | ⟨1, _⟩ => show n ≤ (y 1).val ∧ (y 1).val < n + 256; omega

/-- Eleven stores side by side, over any earlier ones, and the load of the rows they cover. -/
theorem units_read {σ : RefSig} (v : View σ .tc .vmem S512x2816 .bf16) (o : ℕ) (u0 u1 u2 u3 u4 u5 u6 u7 u8 u9 u10 : FVec Ideal S256x256 .bf16) (L : List (View.Piece (Elt Ideal) S512x2816 .bf16))
    (h0 h1 h2 h3 h4 h5 h6 h7 h8 h9 h10 h) :
    v.readCov (⟨Rect.unit ![o, 2560] ![256, 256] h10, u10⟩ :: ⟨Rect.unit ![o, 2304] ![256, 256] h9, u9⟩ :: ⟨Rect.unit ![o, 2048] ![256, 256] h8, u8⟩
      :: ⟨Rect.unit ![o, 1792] ![256, 256] h7, u7⟩ :: ⟨Rect.unit ![o, 1536] ![256, 256] h6, u6⟩ :: ⟨Rect.unit ![o, 1280] ![256, 256] h5, u5⟩
      :: ⟨Rect.unit ![o, 1024] ![256, 256] h4, u4⟩ :: ⟨Rect.unit ![o, 768] ![256, 256] h3, u3⟩ :: ⟨Rect.unit ![o, 512] ![256, 256] h2, u2⟩
      :: ⟨Rect.unit ![o, 256] ![256, 256] h1, u1⟩ :: ⟨Rect.unit ![o, 0] ![256, 256] h0, u0⟩ :: L) (Rect.unit ![o, 0] ![256, 2816] h).toLoadRect
      = gather ![u0, u1, u2, u3, u4, u5, u6, u7, u8, u9, u10] := by
  rw [View.readCov_eq_canon']
  funext j
  obtain ⟨a, b, rfl⟩ : ∃ (a : Fin 256) (b : Fin 2816), j = ix2 a b := ⟨j 0, j 1, eq_ix2 j⟩
  let U : Fin 11 → FVec Ideal S256x256 .bf16 := ![u0, u1, u2, u3, u4, u5, u6, u7, u8, u9, u10]
  let y : S512x2816.Idx := (Rect.unit (s := S512x2816) ![o, 0] ![256, 2816] h).toLoadRect.idx (ix2 a b)
  have e0 : (y 0).val = o + 1 * a.val := rfl
  have e1 : (y 1).val = 0 + 1 * b.val := rfl
  have p := View.canon_append_of_piecesOf (Val := Elt Ideal) (s := S512x2816) (e := .bf16) (held o U) L [⟨place o 2560 h10, u10⟩, ⟨place o 2304 h9, u9⟩, ⟨place o 2048 h8, u8⟩, ⟨place o 1792 h7, u7⟩,
    ⟨place o 1536 h6, u6⟩, ⟨place o 1280 h5, u5⟩, ⟨place o 1024 h4, u4⟩, ⟨place o 768 h3, u3⟩, ⟨place o 512 h2, u2⟩, ⟨place o 256 h1, u1⟩, ⟨place o 0 h0, u0⟩]
    ⟨held_place o U 10 2560 rfl h10, held_place o U 9 2304 rfl h9, held_place o U 8 2048 rfl h8, held_place o U 7 1792 rfl h7, held_place o U 6 1536 rfl h6,
      held_place o U 5 1280 rfl h5, held_place o U 4 1024 rfl h4, held_place o U 3 768 rfl h3, held_place o U 2 512 rfl h2, held_place o U 1 256 rfl h1,
      held_place o U 0 0 rfl h0, trivial⟩ y
  refine (p ?_).trans ?_
  · have m := fun n hh (hn : b.val / 256 * 256 = n) => mem_place o n hh y (by rw [e0]; omega) (by rw [e1]; omega)
    obtain hk | hk | hk | hk | hk | hk | hk | hk | hk | hk | hk : b.val / 256 * 256 = 0 ∨ b.val / 256 * 256 = 256 ∨ b.val / 256 * 256 = 512 ∨ b.val / 256 * 256 = 768
      ∨ b.val / 256 * 256 = 1024 ∨ b.val / 256 * 256 = 1280 ∨ b.val / 256 * 256 = 1536 ∨ b.val / 256 * 256 = 1792 ∨ b.val / 256 * 256 = 2048 ∨ b.val / 256 * 256 = 2304
      ∨ b.val / 256 * 256 = 2560 := by omega
    · exact ⟨⟨place o 0 h0, u0⟩, by simp, m _ h0 hk⟩
    · exact ⟨⟨place o 256 h1, u1⟩, by simp, m _ h1 hk⟩
    · exact ⟨⟨place o 512 h2, u2⟩, by simp, m _ h2 hk⟩
    · exact ⟨⟨place o 768 h3, u3⟩, by simp, m _ h3 hk⟩
    · exact ⟨⟨place o 1024 h4, u4⟩, by simp, m _ h4 hk⟩
    · exact ⟨⟨place o 1280 h5, u5⟩, by simp, m _ h5 hk⟩
    · exact ⟨⟨place o 1536 h6, u6⟩, by simp, m _ h6 hk⟩
    · exact ⟨⟨place o 1792 h7, u7⟩, by simp, m _ h7 hk⟩
    · exact ⟨⟨place o 2048 h8, u8⟩, by simp, m _ h8 hk⟩
    · exact ⟨⟨place o 2304 h9, u9⟩, by simp, m _ h9 hk⟩
    · exact ⟨⟨place o 2560 h10, u10⟩, by simp, m _ h10 hk⟩
  · have e : ∀ (q k : Fin 11) (r r' s s' : Fin 256), q = k → r = r' → s = s' → U q (ix2 r s) = U k (ix2 r' s') := by rintro _ _ _ _ _ _ rfl rfl rfl; rfl
    refine e _ _ _ _ _ _ (Fin.ext ?_) (Fin.ext ?_) (Fin.ext ?_)
    · show (0 + 1 * b.val) / 256 = b.val / 256
      omega
    · show (o + 1 * a.val - o) % 256 = a.val
      omega
    · show (0 + 1 * b.val) % 256 = b.val % 256
      omega

end Cert.Proof.Kernel2Ideal

end
-- ==== Proof.Out.Body.lean ====
/-
  What one grid point leaves in the result's block: four groups of 256 rows, each through the output projection and the gated part.
-/
module

public import proofs.«01_k».proof.Proof.Out.Units

@[expose] public section

set_option maxRecDepth 16384

noncomputable section

namespace Cert.Proof.Kernel2Ideal

open Cert.Kernel2Ideal Cert.Kernel2Ideal.Gen Cert.Kernel2Ideal.Value
open Idealize.ShloMosaic Idealize.ShloMosaic.TcCoe Idealize.SL.Sem

section
variable (x0 : Vec Ideal S1x1024x1024 .f32) (x1 x2 : Vec Ideal S1x1024x512 .bf16) (x3 : Vec Ideal S1x9x1024 .f32) (x4 x5 : Vec Ideal S3x1024 .f32)
  (x6 x7 : Vec Ideal S512x1024 .bf16) (x8 x9 : Vec Ideal S1024x2816 .bf16) (x10 : Vec Ideal S2816x1024 .bf16)
  (o : ℕ) (h : ∀ a, (![0, o, 0] : Fin 3 → ℕ) a + S1x256x1024.size a ≤ S1x1024x1024.size a) (h' : ∀ a, (![0, o, 0] : Fin 3 → ℕ) a + S1x256x512.size a ≤ S1x1024x512.size a)

/-- The rows from `o` on after the output projection. -/
def mixedRows : FVec Ideal S256x1024 .f32 :=
  k0_pay2 (View.ld x1 (Rect.unit ![0, o, 0] S1x256x512.size h')) x6 (View.ld x2 (Rect.unit ![0, o, 0] S1x256x512.size h')) x7
    (View.ld x0 (Rect.unit ![0, o, 0] S1x256x1024.size h)) (View.ld x3 (Rect.unit ![0, 5, 0] S1x1x1024.size inb_S1x9x1024_S1x1x1024_0_5_0))
    (View.ld x5 (Rect.unit ![1, 0] S1x1024.size inb_S3x1024_S1x1024_1_0))

/-- Those rows normed, scaled and shifted. -/
def normedRows : FVec Ideal S256x1024 .bf16 :=
  k0_pay4 (mixedRows x0 x1 x2 x3 x5 x6 x7 o h h') (View.ld x3 (Rect.unit ![0, 6, 0] S1x1x1024.size inb_S1x9x1024_S1x1x1024_0_6_0))
    (View.ld x3 (Rect.unit ![0, 7, 0] S1x1x1024.size inb_S1x9x1024_S1x1x1024_0_7_0)) (View.ld x4 (Rect.unit ![2, 0] S1x1024.size inb_S3x1024_S1x1024_2_0))

theorem cols_le (k : Fin 11) : ∀ a, (![0, 256 * k.val] : Fin 2 → ℕ) a + S1024x256.size a ≤ S1024x2816.size a := fun a => by
  match a with
  | ⟨0, _⟩ => exact le_refl 1024
  | ⟨1, _⟩ => show 256 * k.val + 256 ≤ 2816; omega

/-- One group of gated units. -/
def unitCols (y : FVec Ideal S256x1024 .bf16) (k : Fin 11) : FVec Ideal S256x256 .bf16 :=
  k0_pay7 y (View.ld x8 (Rect.unit ![0, 256 * k.val] S1024x256.size (cols_le k))) y (View.ld x9 (Rect.unit ![0, 256 * k.val] S1024x256.size (cols_le k)))

/-- The eleven groups of gated units of the rows `y`, listed. -/
def allUnits (y : FVec Ideal S256x1024 .bf16) : FVec Ideal S256x2816 .bf16 :=
  gather ![unitCols x8 x9 y 0, unitCols x8 x9 y 1, unitCols x8 x9 y 2, unitCols x8 x9 y 3, unitCols x8 x9 y 4, unitCols x8 x9 y 5, unitCols x8 x9 y 6,
    unitCols x8 x9 y 7, unitCols x8 x9 y 8, unitCols x8 x9 y 9, unitCols x8 x9 y 10]

/-- The rows from `o` on as the point leaves them. -/
def endedRows : FVec Ideal S1x256x1024 .f32 :=
  k0_pay43 (k0_pay25 (allUnits x8 x9 (normedRows x0 x1 x2 x3 x4 x5 x6 x7 o h h')) x10) (k0_pay42 (k0_pay3 (mixedRows x0 x1 x2 x3 x5 x6 x7 o h h')))
    (View.ld x3 (Rect.unit ![0, 8, 0] S1x1x1024.size inb_S1x9x1024_S1x1x1024_0_8_0)) (View.ld x5 (Rect.unit ![2, 0] S1x1024.size inb_S3x1024_S1x1024_2_0))

end

section
variable (m : (ℓ : Loc nD τ sig) → Buf (Elt Ideal) ℓ) (c : Dev nD) (t : Fin cfg0.N)

/-- The rows from `o` on of a point's block, after the projection and at the end. -/
abbrev mixedAt (o : ℕ) (h : ∀ a, (![0, o, 0] : Fin 3 → ℕ) a + S1x256x1024.size a ≤ S1x1024x1024.size a) (h' : ∀ a, (![0, o, 0] : Fin 3 → ℕ) a + S1x256x512.size a ≤ S1x1024x512.size a) : FVec Ideal S1x256x1024 .f32 :=
  k0_pay3 (mixedRows (iblk m c 0 t) (iblk m c 1 t) (iblk m c 2 t) (iblk m c 3 t) (iblk m c 5 t) (iblk m c 6 t) (iblk m c 7 t) o h h')
abbrev endedAt (o : ℕ) (h : ∀ a, (![0, o, 0] : Fin 3 → ℕ) a + S1x256x1024.size a ≤ S1x1024x1024.size a) (h' : ∀ a, (![0, o, 0] : Fin 3 → ℕ) a + S1x256x512.size a ≤ S1x1024x512.size a) : FVec Ideal S1x256x1024 .f32 :=
  endedRows (iblk m c 0 t) (iblk m c 1 t) (iblk m c 2 t) (iblk m c 3 t) (iblk m c 4 t) (iblk m c 5 t) (iblk m c 6 t) (iblk m c 7 t) (iblk m c 8 t) (iblk m c 9 t) (iblk m c 10 t) o h h'

theorem out_eq : outsAt0 m c t = View.canon (Val := Elt Ideal)
    [⟨Rect.unit ![0, 768, 0] ![1, 256, 1024] inb_S1x1024x1024_S1x256x1024_0_768_0, endedAt m c t 768 inb_S1x1024x1024_S1x256x1024_0_768_0 inb_S1x1024x512_S1x256x512_0_768_0⟩,
      ⟨Rect.unit ![0, 512, 0] ![1, 256, 1024] inb_S1x1024x1024_S1x256x1024_0_512_0, endedAt m c t 512 inb_S1x1024x1024_S1x256x1024_0_512_0 inb_S1x1024x512_S1x256x512_0_512_0⟩,
      ⟨Rect.unit ![0, 768, 0] ![1, 256, 1024] inb_S1x1024x1024_S1x256x1024_0_768_0, mixedAt m c t 768 inb_S1x1024x1024_S1x256x1024_0_768_0 inb_S1x1024x512_S1x256x512_0_768_0⟩,
      ⟨Rect.unit ![0, 256, 0] ![1, 256, 1024] inb_S1x1024x1024_S1x256x1024_0_256_0, endedAt m c t 256 inb_S1x1024x1024_S1x256x1024_0_256_0 inb_S1x1024x512_S1x256x512_0_256_0⟩,
      ⟨Rect.unit ![0, 512, 0] ![1, 256, 1024] inb_S1x1024x1024_S1x256x1024_0_512_0, mixedAt m c t 512 inb_S1x1024x1024_S1x256x1024_0_512_0 inb_S1x1024x512_S1x256x512_0_512_0⟩,
      ⟨Rect.unit ![0, 0, 0] ![1, 256, 1024] inb_S1x1024x1024_S1x256x1024_0_0_0, endedAt m c t 0 inb_S1x1024x1024_S1x256x1024_0_0_0 inb_S1x1024x512_S1x256x512_0_0_0⟩,
      ⟨Rect.unit ![0, 256, 0] ![1, 256, 1024] inb_S1x1024x1024_S1x256x1024_0_256_0, mixedAt m c t 256 inb_S1x1024x1024_S1x256x1024_0_256_0 inb_S1x1024x512_S1x256x512_0_256_0⟩,
      ⟨Rect.unit ![0, 0, 0] ![1, 256, 1024] inb_S1x1024x1024_S1x256x1024_0_0_0, mixedAt m c t 0 inb_S1x1024x1024_S1x256x1024_0_0_0 inb_S1x1024x512_S1x256x512_0_0_0⟩] := by
  unfold outsAt0
  frame_open
  simp (disch := decide) only [↓ View.readCov_skip, ↓ View.readCov_cons_toLoadRect]
  simp only [↓ units_read]
  frame_out
  rfl

end

end Cert.Proof.Kernel2Ideal

end
-- ==== Proof.Out.Rows.lean ====
/-
  What the body's operations leave in a group of 256 rows, read row by row.
-/
module

public import proofs.«01_k».proof.Proof.Out.Body
public import proofs.«01_k».proof.Proof.Out.Spec

@[expose] public section

set_option maxRecDepth 16384

noncomputable section

namespace Cert.Proof.Kernel2Ideal

open Cert.Kernel2Ideal Cert.Kernel2Ideal.Gen
open Idealize.ShloMosaic Idealize.ShloMosaic.TcCoe Idealize.SL.Sem Cert.Proof.Out

/-- The first projection's group of rows. -/
theorem pay2_at (a : FVec Ideal S1x256x512 .bf16) (p : FVec Ideal S512x1024 .bf16) (w : FVec Ideal S1x256x512 .bf16) (q : FVec Ideal S512x1024 .bf16)
    (x : FVec Ideal S1x256x1024 .f32) (gate : FVec Ideal S1x1x1024 .f32) (gain : FVec Ideal S1x1024 .f32) (i : Fin 256) (z : Fin 1024) :
    k0_pay2 (F := Ideal) a p w q x gate gain (ix2 i z)
      = after (fun k => x (ix3 0 i k)) (proj (fun k => a (ix3 0 i k)) (fun k => w (ix3 0 i k)) (fun k z => p (ix2 k z)) (fun k z => q (ix2 k z)))
        (fun k => gate (ix3 0 0 k)) (fun k => gain (ix2 0 k)) 1 z := by
  unfold k0_pay2
  pointwise
  exact after_one (fun k => x (ix3 0 i k)) (proj (fun k => a (ix3 0 i k)) (fun k => w (ix3 0 i k)) (fun k z => p (ix2 k z)) (fun k z => q (ix2 k z))) (fun k => gate (ix3 0 0 k)) (fun k => gain (ix2 0 k)) z

theorem pay4_at (v : FVec Ideal S256x1024 .f32) (shift scale : FVec Ideal S1x1x1024 .f32) (gain : FVec Ideal S1x1024 .f32) (i : Fin 256) (z : Fin 1024) :
    k0_pay4 (F := Ideal) v shift scale gain (ix2 i z) = before (fun k => v (ix2 i k)) (fun k => shift (ix3 0 0 k)) (fun k => scale (ix3 0 0 k)) (fun k => gain (ix2 0 k)) z := by
  unfold k0_pay4
  pointwise
  exact before_of (fun k => v (ix2 i k)) (fun k => shift (ix3 0 0 k)) (fun k => scale (ix3 0 0 k)) (fun k => gain (ix2 0 k)) z

theorem pay7_at (y : FVec Ideal S256x1024 .bf16) (g u : FVec Ideal S1024x256 .bf16) (i n : Fin 256) :
    k0_pay7 (F := Ideal) y g y u (ix2 i n) = unit (fun k => y (ix2 i k)) (fun k => g (ix2 k n)) (fun k => u (ix2 k n)) := by
  unfold k0_pay7
  pointwise
  rfl

theorem pay43_at (h : FVec Ideal S256x2816 .bf16) (d : FVec Ideal S2816x1024 .bf16) (v : FVec Ideal S256x1024 .f32) (gate : FVec Ideal S1x1x1024 .f32)
    (gain : FVec Ideal S1x1024 .f32) (i : Fin 256) (z : Fin 1024) :
    k0_pay43 (F := Ideal) (k0_pay25 (F := Ideal) h d) (k0_pay42 (F := Ideal) (k0_pay3 (F := Ideal) v)) gate gain (ix3 0 i z)
      = after (fun k => v (ix2 i k)) (fun z => ∑ n, h (ix2 i n) * d (ix2 n z)) (fun k => gate (ix3 0 0 k)) (fun k => gain (ix2 0 k)) (Ideal.ofBits .f32 0x3F000000#32) z := by
  unfold k0_pay43 k0_pay25 k0_pay42 k0_pay3
  pointwise
  exact after_of (fun k => v (ix2 i k)) (fun z => ∑ n, h (ix2 i n) * d (ix2 n z)) (fun k => gate (ix3 0 0 k)) (fun k => gain (ix2 0 k)) _ z

section
variable (x0 : FVec Ideal S1x1024x1024 .f32) (x1 x2 : FVec Ideal S1x1024x512 .bf16) (x3 : FVec Ideal S1x9x1024 .f32) (x4 x5 : FVec Ideal S3x1024 .f32)
  (x6 x7 : FVec Ideal S512x1024 .bf16) (x8 x9 : FVec Ideal S1024x2816 .bf16) (x10 : FVec Ideal S2816x1024 .bf16)

/-! ## Loads, read at a place -/

theorem ld_rows (o : ℕ) (h) (i : Fin 256) (r : Fin 1024) (hr : r.val = o + i.val) (k : Fin 1024) :
    View.ld (Val := Elt Ideal) (e' := .f32) (S := S1x1024x1024) x0 (Rect.unit ![0, o, 0] S1x256x1024.size h) (ix3 (n0 := 1) 0 i k) = x0 (ix3 0 r k) := by
  refine congrArg x0 (funext fun a => Fin.ext ?_)
  match a with
  | ⟨0, _⟩ => rfl
  | ⟨1, _⟩ => show o + 1 * i.val = r.val; omega
  | ⟨2, _⟩ => show 0 + 1 * k.val = k.val; omega

theorem ld_heads (o : ℕ) (h) (i : Fin 256) (r : Fin 1024) (hr : r.val = o + i.val) (k : Fin 512) :
    View.ld (Val := Elt Ideal) (e' := .bf16) (S := S1x1024x512) x1 (Rect.unit ![0, o, 0] S1x256x512.size h) (ix3 (n0 := 1) 0 i k) = x1 (ix3 0 r k) := by
  refine congrArg x1 (funext fun a => Fin.ext ?_)
  match a with
  | ⟨0, _⟩ => rfl
  | ⟨1, _⟩ => show o + 1 * i.val = r.val; omega
  | ⟨2, _⟩ => show 0 + 1 * k.val = k.val; omega

theorem ld_mod (o : ℕ) (h) (j : Fin 9) (hj : j.val = o) (k : Fin 1024) :
    View.ld (Val := Elt Ideal) (e' := .f32) (S := S1x9x1024) x3 (Rect.unit ![0, o, 0] S1x1x1024.size h) (ix3 (n0 := 1) (n1 := 1) 0 0 k) = x3 (ix3 0 j k) := by
  refine congrArg x3 (funext fun a => Fin.ext ?_)
  match a with
  | ⟨0, _⟩ => rfl
  | ⟨1, _⟩ => show o + 1 * 0 = j.val; omega
  | ⟨2, _⟩ => show 0 + 1 * k.val = k.val; omega

theorem ld_gain (o : ℕ) (h) (j : Fin 3) (hj : j.val = o) (k : Fin 1024) :
    View.ld (Val := Elt Ideal) (e' := .f32) (S := S3x1024) x4 (Rect.unit ![o, 0] S1x1024.size h) (ix2 (n0 := 1) 0 k) = x4 (ix2 j k) := by
  refine congrArg x4 (funext fun a => Fin.ext ?_)
  match a with
  | ⟨0, _⟩ => show o + 1 * 0 = j.val; omega
  | ⟨1, _⟩ => show 0 + 1 * k.val = k.val; omega

theorem ld_cols (k : Fin 11) (z : Fin 1024) (n : Fin 256) :
    View.ld (Val := Elt Ideal) (e' := .bf16) (S := S1024x2816) x8 (Rect.unit ![0, 256 * k.val] S1024x256.size (cols_le k)) (ix2 z n) = x8 (ix2 z ⟨256 * k.val + n.val, by omega⟩) := by
  refine congrArg x8 (funext fun a => Fin.ext ?_)
  match a with
  | ⟨0, _⟩ => show 0 + 1 * z.val = z.val; omega
  | ⟨1, _⟩ => show 256 * k.val + 1 * n.val = 256 * k.val + n.val; omega

/-! ## A group's rows -/

theorem unitCols_at (y : FVec Ideal S256x1024 .bf16) (k : Fin 11) (i n : Fin 256) : unitCols x8 x9 y k (ix2 i n)
    = unit (fun z => y (ix2 i z)) (fun z => x8 (ix2 z ⟨256 * k.val + n.val, by omega⟩)) (fun z => x9 (ix2 z ⟨256 * k.val + n.val, by omega⟩)) := by
  unfold unitCols
  exact (pay7_at _ _ _ _ _).trans (congrArg₂ (unit fun z => y (ix2 i z)) (funext fun z => ld_cols x8 k z n) (funext fun z => ld_cols x9 k z n))

theorem allUnits_at (y : FVec Ideal S256x1024 .bf16) (i : Fin 256) (n : Fin 2816) : allUnits x8 x9 y (ix2 i n)
    = unit (fun z => y (ix2 i z)) (fun z => x8 (ix2 z n)) (fun z => x9 (ix2 z n)) := by
  have e : allUnits x8 x9 y = gather (unitCols x8 x9 y) := by
    unfold allUnits
    refine congrArg gather (funext fun k => ?_)
    fin_cases k <;> rfl
  rw [e]
  show unitCols x8 x9 y ⟨n.val / 256, _⟩ (ix2 i ⟨n.val % 256, _⟩) = _
  rw [unitCols_at]
  have en : (⟨256 * (n.val / 256) + n.val % 256, by omega⟩ : Fin 2816) = n := Fin.ext (by show 256 * (n.val / 256) + n.val % 256 = n.val; omega)
  simp only [en]

variable (o : ℕ) (h : ∀ a, (![0, o, 0] : Fin 3 → ℕ) a + S1x256x1024.size a ≤ S1x1024x1024.size a) (h' : ∀ a, (![0, o, 0] : Fin 3 → ℕ) a + S1x256x512.size a ≤ S1x1024x512.size a)
  (i : Fin 256) (r : Fin 1024) (hr : r.val = o + i.val)

include hr in
theorem mixedRows_at (z : Fin 1024) : mixedRows x0 x1 x2 x3 x5 x6 x7 o h h' (ix2 i z)
    = mixed (fun k => x0 (ix3 0 r k)) (fun k => x1 (ix3 0 r k)) (fun k => x2 (ix3 0 r k)) (fun j k => x3 (ix3 0 j k)) (fun j k => x5 (ix2 j k))
        (fun k z => x6 (ix2 k z)) (fun k z => x7 (ix2 k z)) z := by
  unfold mixedRows
  refine (pay2_at _ _ _ _ _ _ _ _ _).trans ?_
  simp only [ld_rows x0 o h i r hr, ld_heads x1 o h' i r hr, ld_heads x2 o h' i r hr, ld_mod x3 5 _ 5 rfl, ld_gain x5 1 _ 1 rfl]
  rfl

include hr in
/-- A row as a point leaves it. -/
theorem endedRows_at (z : Fin 1024) : endedRows x0 x1 x2 x3 x4 x5 x6 x7 x8 x9 x10 o h h' (ix3 0 i z)
    = ended (mixed (fun k => x0 (ix3 0 r k)) (fun k => x1 (ix3 0 r k)) (fun k => x2 (ix3 0 r k)) (fun j k => x3 (ix3 0 j k)) (fun j k => x5 (ix2 j k))
        (fun k z => x6 (ix2 k z)) (fun k z => x7 (ix2 k z)))
      (fun j k => x3 (ix3 0 j k)) (fun j k => x4 (ix2 j k)) (fun j k => x5 (ix2 j k)) (fun k n => x8 (ix2 k n)) (fun k n => x9 (ix2 k n)) (fun n z => x10 (ix2 n z)) z := by
  unfold endedRows
  refine (pay43_at _ _ _ _ _ _ _).trans ?_
  simp only [allUnits_at, mixedRows_at x0 x1 x2 x3 x5 x6 x7 o h h' i r hr, ld_mod x3 8 _ 8 rfl, ld_gain x5 2 _ 2 rfl]
  unfold normedRows
  simp only [pay4_at, mixedRows_at x0 x1 x2 x3 x5 x6 x7 o h h' i r hr, ld_mod x3 6 _ 6 rfl, ld_mod x3 7 _ 7 rfl, ld_gain x4 2 _ 2 rfl]
  rfl

end

end Cert.Proof.Kernel2Ideal

end
-- ==== Proof.Out.Array.lean ====
/-
  The second call's result array over the extended reals: every row is its layer's end.
-/
module

public import proofs.«01_k».proof.Proof.Out.Rows

@[expose] public section

set_option maxRecDepth 16384

noncomputable section

namespace Cert.Proof.Kernel2Ideal

open Cert.Kernel2Ideal Cert.Kernel2Ideal.Gen Cert.Kernel2Ideal.Value
open Idealize.ShloMosaic Idealize.ShloMosaic.TcCoe Idealize.SL.Sem Cert.Proof.Out

variable (m : (ℓ : Loc nD τ sig) → Buf (Elt Ideal) ℓ)

/-! ## The arrays the call stages -/

/-- The output projection's first half as staged, -/
def firstHalf (a : FVec Ideal S1024x1024 .f32) : FVec Ideal S512x1024 .bf16 :=
  extractStridedSlice S512x1024 ![0, 0] (truncf .bf16 a bitsLt_bf16_f32) slices_S1024x1024_S512x1024_0_0
/-- and its second. -/
def secondHalf (a : FVec Ideal S1024x1024 .f32) : FVec Ideal S512x1024 .bf16 :=
  extractStridedSlice S512x1024 ![512, 0] (truncf .bf16 a bitsLt_bf16_f32) slices_S1024x1024_S512x1024_512_0

theorem firstHalf_at (a : FVec Ideal S1024x1024 .f32) (k : Fin 512) (z : Fin 1024) : firstHalf a (ix2 k z) = a (ix2 ⟨k.val, by omega⟩ z) := by
  unfold firstHalf
  pointwise

theorem secondHalf_at (a : FVec Ideal S1024x1024 .f32) (k : Fin 512) (z : Fin 1024) : secondHalf a (ix2 k z) = a (ix2 ⟨512 + k.val, by omega⟩ z) := by
  unfold secondHalf
  pointwise

theorem V_firstHalf (c : Dev nD) : @Eq (FVec Ideal S512x1024 .bf16) (V m c main_v1) (firstHalf (m ((c : Thread nD τ).loc main_arg6))) := by
  unfold V
  after_results_simp <;> rfl
theorem V_secondHalf (c : Dev nD) : @Eq (FVec Ideal S512x1024 .bf16) (V m c main_v2) (secondHalf (m ((c : Thread nD τ).loc main_arg6))) := by
  unfold V
  after_results_simp <;> rfl
theorem V_gates (c : Dev nD) : @Eq (FVec Ideal S1024x2816 .bf16) (V m c main_v3) (m ((c : Thread nD τ).loc main_arg7)) := by
  unfold V
  after_results_simp <;> rfl
theorem V_ups (c : Dev nD) : @Eq (FVec Ideal S1024x2816 .bf16) (V m c main_v4) (m ((c : Thread nD τ).loc main_arg8)) := by
  unfold V
  after_results_simp <;> rfl
theorem V_downs (c : Dev nD) : @Eq (FVec Ideal S2816x1024 .bf16) (V m c main_v5) (m ((c : Thread nD τ).loc main_arg9)) := by
  unfold V
  after_results_simp <;> rfl

/-! ## The blocks at a point -/

theorem idx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem idx1 : ∀ t : Fin cfg0.N, win0_1.index t (0 : Fin 3) = t.val / 2 ∧ win0_1.index t (1 : Fin 3) = t.val % 2 ∧ win0_1.index t (2 : Fin 3) = 0 :=
  (by decide +kernel : ∀ t : Fin grid0.N, _)
theorem idx2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)
theorem idx3 : ∀ t : Fin cfg0.N, win0_3.index t (0 : Fin 3) = t.val / 2 ∧ win0_3.index t (1 : Fin 3) = 0 ∧ win0_3.index t (2 : Fin 3) = 0 :=
  (by decide +kernel : ∀ t : Fin grid0.N, _)
theorem idx11 : ∀ t : Fin cfg0.N, win0_11.index t (0 : Fin 3) = t.val / 2 ∧ win0_11.index t (1 : Fin 3) = t.val % 2 ∧ win0_11.index t (2 : Fin 3) = 0 :=
  (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = 0 := (by decide +kernel : ∀ t : Fin grid0.N, _)

theorem lt_N (t : Fin cfg0.N) : t.val < 64 := lt_of_lt_of_eq t.isLt N_0

/-- The batch element of a point, -/
def ptB (t : Fin cfg0.N) : Fin 32 := ⟨t.val / 2, by have := lt_N t; omega⟩
/-- and the row of the array that is row `r` of its block. -/
def ptS (t : Fin cfg0.N) (r : Fin 1024) : Fin 2048 := ⟨1024 * (t.val % 2) + r.val, by omega⟩

theorem iblk0_apply (c : Dev nD) (t : Fin cfg0.N) (r k : Fin 1024) :
    iblk m c 0 t (ix3 (n0 := 1) 0 r k) = m ((c : Thread nD τ).loc main_arg0) (ix3 (ptB t) (ptS t r) k) := by
  obtain ⟨e0, e1, e2⟩ := idx0 t
  show V m c main_arg0 (((cfg0.win 0).blk t).view.emb (ix3 (n0 := 1) 0 r k)) = _
  rw [V_main_arg0]
  refine congrArg _ (funext fun a => Fin.ext ?_)
  match a with
  | ⟨0, _⟩ => show win0_0.index t (0 : Fin 3) * 1 + 1 * 0 = t.val / 2; omega
  | ⟨1, _⟩ => show win0_0.index t (1 : Fin 3) * 1024 + 1 * r.val = 1024 * (t.val % 2) + r.val; omega
  | ⟨2, _⟩ => show win0_0.index t (2 : Fin 3) * 1024 + 1 * k.val = k.val; omega

theorem iblk1_apply (c : Dev nD) (t : Fin cfg0.N) (r : Fin 1024) (k : Fin 512) :
    iblk m c 1 t (ix3 (n0 := 1) 0 r k) = m ((c : Thread nD τ).loc main_arg1) (ix3 (ptB t) (ptS t r) k) := by
  obtain ⟨e0, e1, e2⟩ := idx1 t
  show V m c main_arg1 (((cfg0.win 1).blk t).view.emb (ix3 (n0 := 1) 0 r k)) = _
  rw [V_main_arg1]
  refine congrArg _ (funext fun a => Fin.ext ?_)
  match a with
  | ⟨0, _⟩ => show win0_1.index t (0 : Fin 3) * 1 + 1 * 0 = t.val / 2; omega
  | ⟨1, _⟩ => show win0_1.index t (1 : Fin 3) * 1024 + 1 * r.val = 1024 * (t.val % 2) + r.val; omega
  | ⟨2, _⟩ => show win0_1.index t (2 : Fin 3) * 512 + 1 * k.val = k.val; omega

theorem iblk2_apply (c : Dev nD) (t : Fin cfg0.N) (r : Fin 1024) (k : Fin 512) :
    iblk m c 2 t (ix3 (n0 := 1) 0 r k) = m ((c : Thread nD τ).loc main_arg2) (ix3 (ptB t) (ptS t r) k) := by
  obtain ⟨e0, e1, e2⟩ := idx2 t
  show V m c main_arg2 (((cfg0.win 2).blk t).view.emb (ix3 (n0 := 1) 0 r k)) = _
  rw [V_main_arg2]
  refine congrArg _ (funext fun a => Fin.ext ?_)
  match a with
  | ⟨0, _⟩ => show win0_2.index t (0 : Fin 3) * 1 + 1 * 0 = t.val / 2; omega
  | ⟨1, _⟩ => show win0_2.index t (1 : Fin 3) * 1024 + 1 * r.val = 1024 * (t.val % 2) + r.val; omega
  | ⟨2, _⟩ => show win0_2.index t (2 : Fin 3) * 512 + 1 * k.val = k.val; omega

theorem iblk3_apply (c : Dev nD) (t : Fin cfg0.N) (j : Fin 9) (k : Fin 1024) :
    iblk m c 3 t (ix3 (n0 := 1) 0 j k) = m ((c : Thread nD τ).loc main_arg3) (ix3 (ptB t) j k) := by
  obtain ⟨e0, e1, e2⟩ := idx3 t
  show V m c main_arg3 (((cfg0.win 3).blk t).view.emb (ix3 (n0 := 1) 0 j k)) = _
  rw [V_main_arg3]
  refine congrArg _ (funext fun a => Fin.ext ?_)
  match a with
  | ⟨0, _⟩ => show win0_3.index t (0 : Fin 3) * 1 + 1 * 0 = t.val / 2; omega
  | ⟨1, _⟩ => show win0_3.index t (1 : Fin 3) * 9 + 1 * j.val = j.val; omega
  | ⟨2, _⟩ => show win0_3.index t (2 : Fin 3) * 1024 + 1 * k.val = k.val; omega

/-- An index of a matrix under a block that starts at its origin. -/
theorem emb_mat {n0 n1 : ℕ} (k0 k1 : ℕ) (h0 : k0 = 0) (h1 : k1 = 0) (j i : (Shape.mk 2 ![n0, n1]).Idx) (a0 : (i 0).val = k0 * n0 + 1 * (j 0).val)
    (a1 : (i 1).val = k1 * n1 + 1 * (j 1).val) : i = j := by
  funext a; apply Fin.ext
  match a with
  | ⟨0, _⟩ => exact a0.trans (by subst h0; simp)
  | ⟨1, _⟩ => exact a1.trans (by subst h1; simp)

theorem iblk4_eq (c : Dev nD) (t : Fin cfg0.N) : @Eq (FVec Ideal S3x1024 .f32) (iblk m c 4 t) (m ((c : Thread nD τ).loc main_arg4)) := by
  funext j
  show V m c main_arg4 (((cfg0.win 4).blk t).view.emb j) = _
  rw [emb_mat _ _ (idx4 t).1 (idx4 t).2 j (((cfg0.win 4).blk t).view.emb j) rfl rfl]
  exact congrFun (V_main_arg4 m c) j
theorem iblk5_eq (c : Dev nD) (t : Fin cfg0.N) : @Eq (FVec Ideal S3x1024 .f32) (iblk m c 5 t) (m ((c : Thread nD τ).loc main_arg5)) := by
  funext j
  show V m c main_arg5 (((cfg0.win 5).blk t).view.emb j) = _
  rw [emb_mat _ _ (idx5 t).1 (idx5 t).2 j (((cfg0.win 5).blk t).view.emb j) rfl rfl]
  exact congrFun (V_main_arg5 m c) j
theorem iblk6_eq (c : Dev nD) (t : Fin cfg0.N) : @Eq (FVec Ideal S512x1024 .bf16) (iblk m c 6 t) (firstHalf (m ((c : Thread nD τ).loc main_arg6))) := by
  funext j
  show V m c main_v1 (((cfg0.win 6).blk t).view.emb j) = _
  rw [emb_mat _ _ (idx6 t).1 (idx6 t).2 j (((cfg0.win 6).blk t).view.emb j) rfl rfl]
  exact congrFun (V_firstHalf m c) j
theorem iblk7_eq (c : Dev nD) (t : Fin cfg0.N) : @Eq (FVec Ideal S512x1024 .bf16) (iblk m c 7 t) (secondHalf (m ((c : Thread nD τ).loc main_arg6))) := by
  funext j
  show V m c main_v2 (((cfg0.win 7).blk t).view.emb j) = _
  rw [emb_mat _ _ (idx7 t).1 (idx7 t).2 j (((cfg0.win 7).blk t).view.emb j) rfl rfl]
  exact congrFun (V_secondHalf m c) j
theorem iblk8_eq (c : Dev nD) (t : Fin cfg0.N) : @Eq (FVec Ideal S1024x2816 .bf16) (iblk m c 8 t) (m ((c : Thread nD τ).loc main_arg7)) := by
  funext j
  show V m c main_v3 (((cfg0.win 8).blk t).view.emb j) = _
  rw [emb_mat _ _ (idx8 t).1 (idx8 t).2 j (((cfg0.win 8).blk t).view.emb j) rfl rfl]
  exact congrFun (V_gates m c) j
theorem iblk9_eq (c : Dev nD) (t : Fin cfg0.N) : @Eq (FVec Ideal S1024x2816 .bf16) (iblk m c 9 t) (m ((c : Thread nD τ).loc main_arg8)) := by
  funext j
  show V m c main_v4 (((cfg0.win 9).blk t).view.emb j) = _
  rw [emb_mat _ _ (idx9 t).1 (idx9 t).2 j (((cfg0.win 9).blk t).view.emb j) rfl rfl]
  exact congrFun (V_ups m c) j
theorem iblk10_eq (c : Dev nD) (t : Fin cfg0.N) : @Eq (FVec Ideal S2816x1024 .bf16) (iblk m c 10 t) (m ((c : Thread nD τ).loc main_arg9)) := by
  funext j
  show V m c main_v5 (((cfg0.win 10).blk t).view.emb j) = _
  rw [emb_mat _ _ (idx10 t).1 (idx10 t).2 j (((cfg0.win 10).blk t).view.emb j) rfl rfl]
  exact congrFun (V_downs m c) j

/-! ## What a point leaves, row by row -/

section
variable (c : Dev nD)

/-- The result: row `s` of batch element `b`. -/
def result : S32x2048x1024.Idx → EReal := fun y =>
  ended (mixed (fun k => m ((c : Thread nD τ).loc main_arg0) (ix3 (y 0) (y 1) k)) (fun k => m ((c : Thread nD τ).loc main_arg1) (ix3 (y 0) (y 1) k))
      (fun k => m ((c : Thread nD τ).loc main_arg2) (ix3 (y 0) (y 1) k)) (fun j k => m ((c : Thread nD τ).loc main_arg3) (ix3 (y 0) j k))
      (fun j k => m ((c : Thread nD τ).loc main_arg5) (ix2 j k)) (fun k z => m ((c : Thread nD τ).loc main_arg6) (ix2 ⟨k.val, by omega⟩ z))
      (fun k z => m ((c : Thread nD τ).loc main_arg6) (ix2 ⟨512 + k.val, by omega⟩ z)))
    (fun j k => m ((c : Thread nD τ).loc main_arg3) (ix3 (y 0) j k)) (fun j k => m ((c : Thread nD τ).loc main_arg4) (ix2 j k))
    (fun j k => m ((c : Thread nD τ).loc main_arg5) (ix2 j k)) (fun k n => m ((c : Thread nD τ).loc main_arg7) (ix2 k n))
    (fun k n => m ((c : Thread nD τ).loc main_arg8) (ix2 k n)) (fun n z => m ((c : Thread nD τ).loc main_arg9) (ix2 n z)) (y 2)

variable (t : Fin cfg0.N)

theorem endedAt_apply (o : ℕ) (h) (h') (i : Fin 256) (r : Fin 1024) (hr : r.val = o + i.val) (z : Fin 1024) :
    endedAt m c t o h h' (ix3 0 i z) = result m c (ix3 (ptB t) (ptS t r) z) := by
  refine (endedRows_at _ _ _ _ _ _ _ _ _ _ _ o h h' i r hr z).trans ?_
  rw [iblk4_eq, iblk5_eq, iblk6_eq, iblk7_eq, iblk8_eq, iblk9_eq, iblk10_eq]
  simp only [iblk0_apply, iblk1_apply, iblk2_apply, iblk3_apply, firstHalf_at, secondHalf_at]
  rfl

/-- The last store to a group of rows is what they hold, -/
theorem canon_top (o : ℕ) (h : ∀ a, (![0, o, 0] : Fin 3 → ℕ) a + (![1, 256, 1024] : Fin 3 → ℕ) a ≤ S1x1024x1024.size a) (w : FVec Ideal S1x256x1024 .f32)
    (L : List (View.Piece (Elt Ideal) S1x1024x1024 .f32)) (i : Fin 256) (r z : Fin 1024) (hr : r.val = o + i.val) :
    View.canon (Val := Elt Ideal) (⟨Rect.unit (s := S1x1024x1024) ![0, o, 0] ![1, 256, 1024] h, w⟩ :: L) (ix3 (n0 := 1) 0 r z) = w (ix3 0 i z) := by
  have e : (ix3 (n0 := 1) 0 r z : S1x1024x1024.Idx) = (Rect.unit (s := S1x1024x1024) ![0, o, 0] ![1, 256, 1024] h).emb (ix3 (n0 := 1) 0 i z) := by
    funext a; apply Fin.ext
    match a with
    | ⟨0, _⟩ => rfl
    | ⟨1, _⟩ => show r.val = o + 1 * i.val; omega
    | ⟨2, _⟩ => show z.val = 0 + 1 * z.val; omega
  rw [e]
  exact View.canon_cons_emb _ _ _ _

/-- and a store to other rows leaves them. -/
theorem canon_skip (o : ℕ) (h : ∀ a, (![0, o, 0] : Fin 3 → ℕ) a + (![1, 256, 1024] : Fin 3 → ℕ) a ≤ S1x1024x1024.size a) (w : FVec Ideal S1x256x1024 .f32)
    (L : List (View.Piece (Elt Ideal) S1x1024x1024 .f32)) (r z : Fin 1024) (hr : r.val < o ∨ o + 256 ≤ r.val) :
    View.canon (Val := Elt Ideal) (⟨Rect.unit (s := S1x1024x1024) ![0, o, 0] ![1, 256, 1024] h, w⟩ :: L) (ix3 (n0 := 1) 0 r z)
      = View.canon (Val := Elt Ideal) L (ix3 (n0 := 1) 0 r z) := by
  refine View.canon_cons_of_not_mem _ _ fun hm => ?_
  have h1 := (Rect.mem_set_unit (inb := h).mp hm) (1 : Fin 3)
  change o ≤ r.val ∧ r.val < o + 256 at h1
  omega

theorem leaves (r z : Fin 1024) : outsAt0 m c t (ix3 (n0 := 1) 0 r z) = result m c (ix3 (ptB t) (ptS t r) z) := by
  rw [out_eq]
  obtain hr | hr | hr | hr : r.val < 256 ∨ (256 ≤ r.val ∧ r.val < 512) ∨ (512 ≤ r.val ∧ r.val < 768) ∨ 768 ≤ r.val := by omega
  · rw [canon_skip 768 _ _ _ _ _ (by omega), canon_skip 512 _ _ _ _ _ (by omega), canon_skip 768 _ _ _ _ _ (by omega), canon_skip 256 _ _ _ _ _ (by omega),
      canon_skip 512 _ _ _ _ _ (by omega), canon_top 0 _ _ _ ⟨r.val, hr⟩ r z (by show r.val = 0 + r.val; omega)]
    exact endedAt_apply m c t 0 _ _ _ r (by show r.val = 0 + r.val; omega) z
  · rw [canon_skip 768 _ _ _ _ _ (by omega), canon_skip 512 _ _ _ _ _ (by omega), canon_skip 768 _ _ _ _ _ (by omega),
      canon_top 256 _ _ _ ⟨r.val - 256, by omega⟩ r z (by show r.val = 256 + (r.val - 256); omega)]
    exact endedAt_apply m c t 256 _ _ _ r (by show r.val = 256 + (r.val - 256); omega) z
  · rw [canon_skip 768 _ _ _ _ _ (by omega), canon_top 512 _ _ _ ⟨r.val - 512, by omega⟩ r z (by show r.val = 512 + (r.val - 512); omega)]
    exact endedAt_apply m c t 512 _ _ _ r (by show r.val = 512 + (r.val - 512); omega) z
  · rw [canon_top 768 _ _ _ ⟨r.val - 768, by omega⟩ r z (by show r.val = 768 + (r.val - 768); omega)]
    exact endedAt_apply m c t 768 _ _ _ r (by show r.val = 768 + (r.val - 768); omega) z

/-! ## The result array -/

theorem emb11 (r z : Fin 1024) : ((cfg0.win 11).blk t).view.emb (ix3 (n0 := 1) 0 r z) = ix3 (ptB t) (ptS t r) z := by
  obtain ⟨e0, e1, e2⟩ := idx11 t
  funext a; apply Fin.ext
  match a with
  | ⟨0, _⟩ => show win0_11.index t (0 : Fin 3) * 1 + 1 * 0 = t.val / 2; omega
  | ⟨1, _⟩ => show win0_11.index t (1 : Fin 3) * 1024 + 1 * r.val = 1024 * (t.val % 2) + r.val; omega
  | ⟨2, _⟩ => show win0_11.index t (2 : Fin 3) * 1024 + 1 * z.val = z.val; omega

/-- What a point writes back is its block of the result. -/
theorem flushed_eq : (dats m 0 c).flushed 11 t = ((cfg0.win 11).blk t).view.read (Elt Ideal) (result m c) := by
  rw [flushed11]
  funext y
  obtain ⟨r, z, rfl⟩ : ∃ (r z : Fin 1024), y = ix3 (n0 := 1) 0 r z := ⟨y 1, y 2, by
    rw [eq_ix3 (n0 := 1) (n1 := 1024) (n2 := 1024) y]; exact congrArg (ix3 · _ _) (Subsingleton.elim (α := Fin 1) _ _)⟩
  show outsAt0 m c t (ix3 (n0 := 1) 0 r z) = result m c (((cfg0.win 11).blk t).view.emb (ix3 (n0 := 1) 0 r z))
  rw [leaves, emb11]

omit t in
/-- Every index of the result is in some point's block. -/
theorem covered (i : S32x2048x1024.Idx) : ∃ t : Fin cfg0.N, (cfg0.win 11).flush t = true ∧ i ∈ ((cfg0.win 11).blk t).view.set := by
  have l0 : (i 0).val < 32 := (i 0).isLt
  have l1 : (i 1).val < 2048 := (i 1).isLt
  obtain ⟨t, ht⟩ : ∃ t : Fin cfg0.N, t.val = 2 * (i 0).val + (i 1).val / 1024 := ⟨⟨_, lt_of_lt_of_eq (by omega) N_0.symm⟩, rfl⟩
  refine ⟨t, flush0_11 t, ?_⟩
  have e : ((cfg0.win 11).blk t).view.emb (ix3 (n0 := 1) (n1 := 1024) (n2 := 1024) 0 ⟨(i 1).val % 1024, Nat.mod_lt _ (by decide)⟩ (i 2)) = i := by
    refine (emb11 t _ _).trans ?_
    funext a; apply Fin.ext
    match a with
    | ⟨0, _⟩ => show t.val / 2 = (i 0).val; omega
    | ⟨1, _⟩ => show 1024 * (t.val % 2) + (i 1).val % 1024 = (i 1).val; omega
    | ⟨2, _⟩ => rfl
  exact e ▸ ((cfg0.win 11).blk t).view.emb_mem_set _

omit t in
theorem final : (dats m 0 c).arrAt 11 cfg0.N = result m c :=
  (dats m 0 c).arrAt_eq_of_cover 11 (result m c) (fun t _ => flushed_eq m c t) covered

end

end Cert.Proof.Kernel2Ideal

end
-- ==== Proof.Out.Algebraic.lean ====
/-
  The second kernel's result array and its reference's are equal on all arguments.
-/
module

public import proofs.«01_k».proof.Defs
public import proofs.«01_k».proof.Proof.Out.Reference
public import proofs.«01_k».proof.Proof.Out.Array

@[expose] public section

set_option maxRecDepth 16384

noncomputable section

namespace Cert.Proof.Out

open Idealize.ShloMosaic Idealize.SL.Sem

/-- Both runs end with every row its layer's end. -/
theorem algebraic : Cert.algebraic_Kernel2Ideal_Reference2Ideal := by
  intro m ρ m' ρ' _ hag
  refine ⟨fun c => Cert.Proof.Kernel2Ideal.result m c, ?_, ?_⟩
  · exact (θ_run Cert.Kernel2Ideal.defs _ _).mono (fun r h c => ⟨(h c).1.trans (Cert.Proof.Kernel2Ideal.final m c), (h c).2⟩)
      (Cert.Kernel2Ideal.Value.run_blocks m ρ)
  · refine (θ_run Cert.Reference2Ideal.defs _ _).mono (fun r h c => ⟨(h c).1.trans ?_, (h c).2⟩) (Cert.Reference2Ideal.Value.run (F := Ideal) m' ρ')
    obtain ⟨e0, e1, e2, e3, e4, e5, e6, e7, e8, e9⟩ := hag c
    rw [Cert.Reference2Ideal.Read.val_main_v80_eq, e0, e1, e2, e3, e4, e5, e6, e7, e8, e9]
    funext i
    rw [eq_ix3 (n0 := 32) (n1 := 2048) (n2 := 1024) i]
    exact Cert.Proof.Reference2Ideal.result_at _ _ _ _ _ _ _ _ _ _ _ _ _

end Cert.Proof.Out

end
-- ==== Proof.In.Spec.lean ====
/-
  One row of a layer's beginning, over the extended reals: the gated feed-forward part and the residual after it, and the rotated
  projections that the attentions read.
-/
module

public import proofs.«01_k».proof.Proof.Out.Spec

@[expose] public section

noncomputable section

namespace Cert.Proof.In

open Idealize.ShloMosaic Cert.Proof.Out

/-- Both branches of a choice lead to one value. -/
theorem dite_of {c : Prop} [Decidable c] {A : c → EReal} {B : ¬c → EReal} {R : EReal} (hA : ∀ h, A h = R) (hB : ∀ h, B h = R) : dite c A B = R := by
  by_cases h : c
  · rw [dif_pos h, hA]
  · rw [dif_neg h, hB]

/-- A row after the gated feed-forward part. -/
def fed (x : Fin 1024 → EReal) (mod : Fin 9 → Fin 1024 → EReal) (gpre gpost : Fin 3 → Fin 1024 → EReal) (g u : Fin 1024 → Fin 2816 → EReal)
    (d : Fin 2816 → Fin 1024 → EReal) : Fin 1024 → EReal :=
  after x (gated (before x (mod 0) (mod 1) (gpre 0)) g u d) (mod 2) (gpost 0) (Ideal.ofBits .f32 0x3F000000#32)

/-- That row as the attentions read it. -/
def mix (v : Fin 1024 → EReal) (mod : Fin 9 → Fin 1024 → EReal) (gpre : Fin 3 → Fin 1024 → EReal) : Fin 1024 → EReal :=
  before v (mod 3) (mod 4) (gpre 1)

/-- The place in a head that a rotation mixes with `d`. -/
def partner (d : Fin 64) : Fin 64 := ⟨if d.val < 32 then d.val + 32 else d.val - 32, by have := d.isLt; split <;> omega⟩

/-- One place of a head, rotated by angles of these cosines and signed sines. -/
def turn (p c s : Fin 64 → EReal) (d : Fin 64) : EReal := p d * c d + p (partner d) * s d

/-- A row through one head of a projection, rotated. -/
def rotated (y : Fin 1024 → EReal) (w : Fin 1024 → Fin 64 → EReal) (c s : Fin 64 → EReal) : Fin 64 → EReal := turn (fun d => ∑ k, y k * w k d) c s

/-- The cosines of a head's places, whose angles repeat after 32 places, -/
def cosines (a : Fin 32 → EReal) (d : Fin 64) : EReal := Ideal.cos (a ⟨d.val % 32, Nat.mod_lt _ (by decide)⟩)
/-- and the sines, signed as a rotation takes them. -/
def sines (a : Fin 32 → EReal) (d : Fin 64) : EReal :=
  if d.val < 32 then -Ideal.sin (a ⟨d.val % 32, Nat.mod_lt _ (by decide)⟩) else Ideal.sin (a ⟨d.val % 32, Nat.mod_lt _ (by decide)⟩)

/-- A row through the 64 columns of a projection from `o` on, rotated by the angles `a`. -/
def head (y : Fin 1024 → EReal) (w : Fin 1024 → Fin 2304 → EReal) (o : ℕ) (ho : o + 64 ≤ 2304) (a : Fin 32 → EReal) : Fin 64 → EReal :=
  rotated y (fun k d => w k ⟨o + d.val, by omega⟩) (cosines a) (sines a)

theorem head_congr (y : Fin 1024 → EReal) (w : Fin 1024 → Fin 2304 → EReal) (a : Fin 32 → EReal) {o o' : ℕ} {ho : o + 64 ≤ 2304} {ho' : o' + 64 ≤ 2304} {d d' : Fin 64}
    (h : o = o') (hd : d.val = d'.val) : head y w o ho a d = head y w o' ho' a d' := by
  subst h
  obtain rfl := Fin.ext hd
  rfl

/-- The sign that one half of a head takes with its partner is as well the sine's. -/
theorem turn_of (p : Fin 64 → EReal) (a : Fin 32 → EReal) (d : Fin 64) (x : EReal) (h1 : d.val < 32 → x = -p (partner d)) (h2 : ¬d.val < 32 → x = p (partner d)) :
    p d * cosines a d + x * Ideal.sin (a ⟨d.val % 32, Nat.mod_lt _ (by decide)⟩) = turn p (cosines a) (sines a) d := by
  unfold turn sines
  by_cases h : d.val < 32
  · rw [if_pos h, h1 h, neg_mul, mul_neg]
  · rw [if_neg h, h2 h]

end Cert.Proof.In

end
-- ==== Proof.In.Reference.lean ====
/-
  The reference for a layer's beginning, over the extended reals, read at a place of each of its seven results.
-/
module

public import proofs.«01_k».proof.Proof.Gen.Reference3Ideal.Read
public import proofs.«01_k».proof.Proof.In.Spec

@[expose] public section

set_option maxRecDepth 16384

noncomputable section

namespace Cert.Proof.Reference3Ideal

open Cert.Reference3Ideal Cert.Reference3Ideal.Gen Cert.Reference3Ideal.Read
open Idealize.ShloMosaic Idealize.SL.Sem Cert.Proof.Out Cert.Proof.In

variable (x0 : FVec Ideal S32x2048x1024 .f32) (x1 : FVec Ideal S32x9x1024 .f32) (x2 x3 : FVec Ideal S3x1024 .f32)
  (x4 x5 : FVec Ideal S1024x2816 .f32) (x6 : FVec Ideal S2816x1024 .f32) (x7 : FVec Ideal S1024x2304 .f32)

/-! ## The row through the gated part -/

theorem v49_at (b : Fin 32) (s : Fin 2048) (z : Fin 1024) : val_main_v49 (F := Ideal) x0 x1 x2 (ix3 b s z)
    = before (fun k => x0 (ix3 b s k)) (fun k => x1 (ix3 b 0 k)) (fun k => x1 (ix3 b 1 k)) (fun k => x2 (ix2 0 k)) z := by
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v0 val_main_cst_4 val_main_cst_5 val_main_cst_6 val_main_cst_7
  pointwise
  rfl

theorem v54_at (b : Fin 32) (s : Fin 2048) (z : Fin 1024) : val_main_v54 (F := Ideal) x0 x1 x2 x4 x5 x6 (ix3 b s z)
    = gated (fun k => val_main_v49 (F := Ideal) x0 x1 x2 (ix3 b s k)) (fun k n => x4 (ix2 k n)) (fun k n => x5 (ix2 k n)) (fun n z => x6 (ix2 n z)) z := by
  unfold val_main_v54 val_main_v53 val_main_v52 val_main_v51 val_main_call0_v5 val_main_call0_v4 val_main_call0_v3 val_main_call0_v2 val_main_call0_v1 val_main_call0_v0 val_main_v50 val_main_call0_cst val_main_call0_cst_0
  generalize val_main_v49 (F := Ideal) x0 x1 x2 = y
  pointwise
  rfl

theorem v77_at (b : Fin 32) (s : Fin 2048) (z : Fin 1024) : val_main_v77 (F := Ideal) x0 x1 x2 x3 x4 x5 x6 (ix3 b s z)
    = after (fun k => x0 (ix3 b s k)) (fun k => val_main_v54 (F := Ideal) x0 x1 x2 x4 x5 x6 (ix3 b s k)) (fun k => x1 (ix3 b 2 k)) (fun k => x3 (ix2 0 k)) (Ideal.ofBits .f32 0x3F000000#32) z := by
  unfold val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v0 val_main_cst_8 val_main_cst_9 val_main_cst_10 val_main_cst_11
  generalize val_main_v54 (F := Ideal) x0 x1 x2 x4 x5 x6 = y
  pointwise
  rfl

theorem v104_at (b : Fin 32) (s : Fin 2048) (z : Fin 1024) : val_main_v104 (F := Ideal) x0 x1 x2 x3 x4 x5 x6 (ix3 b s z)
    = before (fun k => val_main_v77 (F := Ideal) x0 x1 x2 x3 x4 x5 x6 (ix3 b s k)) (fun k => x1 (ix3 b 3 k)) (fun k => x1 (ix3 b 4 k)) (fun k => x2 (ix2 1 k)) z := by
  unfold val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v0 val_main_cst_12 val_main_cst_13 val_main_cst_14 val_main_cst_15
  generalize val_main_v77 (F := Ideal) x0 x1 x2 x3 x4 x5 x6 = y
  pointwise
  rfl

/-- A row after the gated part, -/
def row (b : Fin 32) (s : Fin 2048) : Fin 1024 → EReal :=
  fed (fun k => x0 (ix3 b s k)) (fun j k => x1 (ix3 b j k)) (fun j k => x2 (ix2 j k)) (fun j k => x3 (ix2 j k)) (fun k n => x4 (ix2 k n)) (fun k n => x5 (ix2 k n)) (fun n z => x6 (ix2 n z))

/-- and as the attentions read it. -/
def mixRow (b : Fin 32) (s : Fin 2048) : Fin 1024 → EReal := mix (row x0 x1 x2 x3 x4 x5 x6 b s) (fun j k => x1 (ix3 b j k)) (fun j k => x2 (ix2 j k))

/-- The first result, read at a place. -/
theorem row_at (b : Fin 32) (s : Fin 2048) (z : Fin 1024) : val_main_v77 (F := Ideal) x0 x1 x2 x3 x4 x5 x6 (ix3 b s z) = row x0 x1 x2 x3 x4 x5 x6 b s z := by
  rw [v77_at]
  simp only [v54_at, v49_at]
  rfl

theorem mixRow_at (b : Fin 32) (s : Fin 2048) (z : Fin 1024) : val_main_v104 (F := Ideal) x0 x1 x2 x3 x4 x5 x6 (ix3 b s z) = mixRow x0 x1 x2 x3 x4 x5 x6 b s z := by
  rw [v104_at]
  simp only [row_at]
  rfl

/-! ## The projection and the rotations -/

/-- A column of the projection. -/
theorem v105_at (b : Fin 32) (s : Fin 2048) (p : Fin 2304) : val_main_v105 (F := Ideal) x0 x1 x2 x3 x4 x5 x6 x7 (ix3 b s p)
    = ∑ k, mixRow x0 x1 x2 x3 x4 x5 x6 b s k * x7 (ix2 k p) := by
  unfold val_main_v105
  have hy := mixRow_at x0 x1 x2 x3 x4 x5 x6 b s
  generalize val_main_v104 (F := Ideal) x0 x1 x2 x3 x4 x5 x6 = y at hy ⊢
  pointwise
  exact Finset.sum_congr rfl fun k _ => congrArg (· * _) (hy k)

/-- The angles of a place in the sequence. -/
def angles (s : Fin 2048) (d : Fin 32) : EReal := val_main_v17 (F := Ideal) (ix2 s d)

theorem cos_at (s : Fin 2048) (d : Fin 64) : val_main_v20 (F := Ideal) (ix4 0 s 0 d) = cosines (angles s) d := by
  unfold val_main_v20 val_main_v19 val_main_v18 cosines angles
  generalize val_main_v17 (F := Ideal) = a
  pointwise
  refine congrArg Ideal.cos ?_
  split_ifs with h
  · exact congrArg (fun e => a (ix2 s e)) (Fin.ext (by show d.val = d.val % 32; omega))
  · exact congrArg (fun e => a (ix2 s e)) (Fin.ext (by show d.val - 32 = d.val % 32; omega))
  · rename_i n
    exact absurd rfl n

theorem sin_at (s : Fin 2048) (d : Fin 64) : val_main_v22 (F := Ideal) (ix4 0 s 0 d) = Ideal.sin (angles s ⟨d.val % 32, Nat.mod_lt _ (by decide)⟩) := by
  unfold val_main_v22 val_main_v21 val_main_v18 angles
  generalize val_main_v17 (F := Ideal) = a
  pointwise
  refine congrArg Ideal.sin ?_
  split_ifs with h
  · exact congrArg (fun e => a (ix2 s e)) (Fin.ext (by show d.val = d.val % 32; omega))
  · exact congrArg (fun e => a (ix2 s e)) (Fin.ext (by show d.val - 32 = d.val % 32; omega))
  · rename_i n
    exact absurd rfl n

/-- A row's projection, rotated: a head that is the 64 columns from `o` on. -/
theorem head_of (y : FVec Ideal S32x2048x2304 .f32) (b : Fin 32) (s : Fin 2048) (d : Fin 64) (hy : ∀ p, y (ix3 b s p) = ∑ k, mixRow x0 x1 x2 x3 x4 x5 x6 b s k * x7 (ix2 k p))
    (o : ℕ) (ho : o + 64 ≤ 2304) (p : Fin 2304) (q : d.val < 32 → Fin 2304) (r : ¬d.val < 32 → Fin 2304) (hp : p.val = o + d.val) (hq : ∀ h, (q h).val = o + (32 + d.val))
    (hr : ∀ h, (r h).val = o + (d.val - 32)) :
    y (ix3 b s p) * val_main_v20 (F := Ideal) (ix4 0 s 0 d) + (if h : d.val < 32 then -y (ix3 b s (q h)) else y (ix3 b s (r h))) * val_main_v22 (F := Ideal) (ix4 0 s 0 d)
      = head (mixRow x0 x1 x2 x3 x4 x5 x6 b s) (fun k p => x7 (ix2 k p)) o ho (angles s) d := by
  rw [cos_at, sin_at]
  have e : head (mixRow x0 x1 x2 x3 x4 x5 x6 b s) (fun k p => x7 (ix2 k p)) o ho (angles s) d
      = turn (fun d => y (ix3 b s ⟨o + d.val, by omega⟩)) (cosines (angles s)) (sines (angles s)) d := by
    simp only [hy]
    rfl
  rw [e, ← turn_of _ _ _ (if h : d.val < 32 then -y (ix3 b s (q h)) else y (ix3 b s (r h)))]
  · exact congrArg (fun p => y (ix3 b s p) * _ + _) (Fin.ext hp)
  · intro h
    rw [dif_pos h]
    refine congrArg (fun p => -y (ix3 b s p)) (Fin.ext ((hq h).trans ?_))
    simp only [partner, if_pos h]
    omega
  · intro h
    rw [dif_neg h]
    refine congrArg (fun p => y (ix3 b s p)) (Fin.ext ((hr h).trans ?_))
    simp only [partner, if_neg h]

theorem v121_at (b : Fin 32) (s : Fin 2048) (h : Fin 8) (d : Fin 64) : val_main_v121 (F := Ideal) x0 x1 x2 x3 x4 x5 x6 x7 (ix4 b s h d)
    = head (mixRow x0 x1 x2 x3 x4 x5 x6 b s) (fun k p => x7 (ix2 k p)) (64 * h.val) (by omega) (angles s) d := by
  unfold val_main_v121 val_main_v120 val_main_v119 val_main_v118 val_main_v117 val_main_v116 val_main_v115 val_main_v114 val_main_v113 val_main_v112  val_main_v106
  have hy := v105_at x0 x1 x2 x3 x4 x5 x6 x7 b s
  generalize val_main_v105 (F := Ideal) x0 x1 x2 x3 x4 x5 x6 x7 = y at hy ⊢
  pointwise
  exact head_of x0 x1 x2 x3 x4 x5 x6 x7 y b s d hy _ _ _ _ _ (by dsimp only; omega) (fun _ => by dsimp only; omega) (fun _ => by dsimp only; omega)

theorem v140_at (b : Fin 32) (s : Fin 2048) (h : Fin 8) (d : Fin 64) : val_main_v140 (F := Ideal) x0 x1 x2 x3 x4 x5 x6 x7 (ix4 b s h d)
    = head (mixRow x0 x1 x2 x3 x4 x5 x6 b s) (fun k p => x7 (ix2 k p)) (1536 + 64 * h.val) (by omega) (angles s) d := by
  unfold val_main_v140 val_main_v139 val_main_v138 val_main_v137 val_main_v136 val_main_v135 val_main_v134 val_main_v133 val_main_v132 val_main_v131  val_main_v109
  have hy := v105_at x0 x1 x2 x3 x4 x5 x6 x7 b s
  generalize val_main_v105 (F := Ideal) x0 x1 x2 x3 x4 x5 x6 x7 = y at hy ⊢
  pointwise
  exact head_of x0 x1 x2 x3 x4 x5 x6 x7 y b s d hy _ _ _ _ _ (by dsimp only; omega) (fun _ => by dsimp only; omega) (fun _ => by dsimp only; omega)

theorem v159_at (b : Fin 32) (s : Fin 2048) (h : Fin 8) (d : Fin 64) : val_main_v159 (F := Ideal) x0 x1 x2 x3 x4 x5 x6 x7 (ix4 b s h d)
    = head (mixRow x0 x1 x2 x3 x4 x5 x6 b s) (fun k p => x7 (ix2 k p)) (512 + 64 * h.val) (by omega) (angles s) d := by
  unfold val_main_v159 val_main_v158 val_main_v157 val_main_v156 val_main_v155 val_main_v154 val_main_v153 val_main_v152 val_main_v151 val_main_v150  val_main_v107
  have hy := v105_at x0 x1 x2 x3 x4 x5 x6 x7 b s
  generalize val_main_v105 (F := Ideal) x0 x1 x2 x3 x4 x5 x6 x7 = y at hy ⊢
  pointwise
  exact head_of x0 x1 x2 x3 x4 x5 x6 x7 y b s d hy _ _ _ _ _ (by dsimp only; omega) (fun _ => by dsimp only; omega) (fun _ => by dsimp only; omega)

theorem v171_at (b : Fin 32) (s : Fin 2048) (h : Fin 2) (d : Fin 64) : val_main_v171 (F := Ideal) x0 x1 x2 x3 x4 x5 x6 x7 (ix4 b s h d)
    = head (mixRow x0 x1 x2 x3 x4 x5 x6 b s) (fun k p => x7 (ix2 k p)) (2048 + 64 * h.val) (by omega) (angles s) d := by
  unfold val_main_v171 val_main_v170 val_main_v169 val_main_v168 val_main_v167 val_main_v166 val_main_v165 val_main_v164 val_main_v163 val_main_v162  val_main_v110
  have hy := v105_at x0 x1 x2 x3 x4 x5 x6 x7 b s
  generalize val_main_v105 (F := Ideal) x0 x1 x2 x3 x4 x5 x6 x7 = y at hy ⊢
  pointwise
  exact head_of x0 x1 x2 x3 x4 x5 x6 x7 y b s d hy _ _ _ _ _ (by dsimp only; omega) (fun _ => by dsimp only; omega) (fun _ => by dsimp only; omega)

/-! ## The other six results, read at a place -/

/-- Queries of the first attention. -/
theorem v127_at (b : Fin 32) (n : Fin 8) (j : Fin 512) (i : Fin 256) : val_main_v127 (F := Ideal) x0 x1 x2 x3 x4 x5 x6 x7 (ix4 b n j i)
    = head (mixRow x0 x1 x2 x3 x4 x5 x6 b ⟨256 * n.val + i.val, by omega⟩) (fun k p => x7 (ix2 k p)) (64 * (j.val / 64)) (by omega)
        (angles ⟨256 * n.val + i.val, by omega⟩) ⟨j.val % 64, Nat.mod_lt _ (by decide)⟩ * Ideal.ofBits .f32 0x3E38AA3B#32 := by
  have es : (⟨256 * n.val + i.val, by omega⟩ : Fin 2048) = ⟨n.val * 256 + i.val, by omega⟩ := Fin.ext (by show 256 * n.val + i.val = n.val * 256 + i.val; omega)
  rw [es]
  unfold val_main_v127 val_main_v126 val_main_v125 val_main_v124 val_main_v123 val_main_v122  val_main_cst_16
  have hy := v121_at x0 x1 x2 x3 x4 x5 x6 x7
  generalize val_main_v121 (F := Ideal) x0 x1 x2 x3 x4 x5 x6 x7 = y at hy ⊢
  pointwise
  exact congrArg (· * _) (hy _ _ _ _)

/-- Queries of the second. -/
theorem v146_at (b : Fin 32) (n : Fin 8) (j : Fin 512) (i : Fin 256) : val_main_v146 (F := Ideal) x0 x1 x2 x3 x4 x5 x6 x7 (ix4 b n j i)
    = head (mixRow x0 x1 x2 x3 x4 x5 x6 b ⟨256 * n.val + i.val, by omega⟩) (fun k p => x7 (ix2 k p)) (1536 + 64 * (j.val / 64)) (by omega)
        (angles ⟨256 * n.val + i.val, by omega⟩) ⟨j.val % 64, Nat.mod_lt _ (by decide)⟩ * Ideal.ofBits .f32 0x3E38AA3B#32 := by
  have es : (⟨256 * n.val + i.val, by omega⟩ : Fin 2048) = ⟨n.val * 256 + i.val, by omega⟩ := Fin.ext (by show 256 * n.val + i.val = n.val * 256 + i.val; omega)
  rw [es]
  unfold val_main_v146 val_main_v145 val_main_v144 val_main_v143 val_main_v142 val_main_v141  val_main_cst_17
  have hy := v140_at x0 x1 x2 x3 x4 x5 x6 x7
  generalize val_main_v140 (F := Ideal) x0 x1 x2 x3 x4 x5 x6 x7 = y at hy ⊢
  pointwise
  exact congrArg (· * _) (hy _ _ _ _)

/-- Values of the first attention. -/
theorem v130_at (b : Fin 32) (n : Fin 4) (j : Fin 512) (i : Fin 512) : val_main_v130 (F := Ideal) x0 x1 x2 x3 x4 x5 x6 x7 (ix4 b n j i)
    = ∑ k, mixRow x0 x1 x2 x3 x4 x5 x6 b ⟨512 * n.val + i.val, by omega⟩ k * x7 (ix2 k ⟨1024 + j.val, by omega⟩) := by
  have es : (⟨512 * n.val + i.val, by omega⟩ : Fin 2048) = ⟨n.val * 512 + i.val, by omega⟩ := Fin.ext (by show 512 * n.val + i.val = n.val * 512 + i.val; omega)
  rw [es]
  unfold val_main_v130 val_main_v129 val_main_v128  val_main_v108
  have hy := v105_at x0 x1 x2 x3 x4 x5 x6 x7
  generalize val_main_v105 (F := Ideal) x0 x1 x2 x3 x4 x5 x6 x7 = y at hy ⊢
  pointwise
  exact hy _ _ _

/-- Values of the second. -/
theorem v149_at (b : Fin 32) (n : Fin 4) (j : Fin 128) (i : Fin 512) : val_main_v149 (F := Ideal) x0 x1 x2 x3 x4 x5 x6 x7 (ix4 b n j i)
    = ∑ k, mixRow x0 x1 x2 x3 x4 x5 x6 b ⟨512 * n.val + i.val, by omega⟩ k * x7 (ix2 k ⟨2176 + j.val, by omega⟩) := by
  have es : (⟨512 * n.val + i.val, by omega⟩ : Fin 2048) = ⟨n.val * 512 + i.val, by omega⟩ := Fin.ext (by show 512 * n.val + i.val = n.val * 512 + i.val; omega)
  rw [es]
  unfold val_main_v149 val_main_v148 val_main_v147  val_main_v111
  have hy := v105_at x0 x1 x2 x3 x4 x5 x6 x7
  generalize val_main_v105 (F := Ideal) x0 x1 x2 x3 x4 x5 x6 x7 = y at hy ⊢
  pointwise
  exact hy _ _ _

/-- Keys of the first attention. -/
theorem v161_at (b : Fin 32) (s : Fin 2048) (j : Fin 512) : val_main_v161 (F := Ideal) x0 x1 x2 x3 x4 x5 x6 x7 (ix3 b s j)
    = head (mixRow x0 x1 x2 x3 x4 x5 x6 b s) (fun k p => x7 (ix2 k p)) (512 + 64 * (j.val / 64)) (by omega) (angles s) ⟨j.val % 64, Nat.mod_lt _ (by decide)⟩ := by
  unfold val_main_v161 val_main_v160
  have hy := v159_at x0 x1 x2 x3 x4 x5 x6 x7
  generalize val_main_v159 (F := Ideal) x0 x1 x2 x3 x4 x5 x6 x7 = y at hy ⊢
  pointwise
  exact hy _ _ _ _

/-- Keys of the second. -/
theorem v173_at (b : Fin 32) (s : Fin 2048) (j : Fin 128) : val_main_v173 (F := Ideal) x0 x1 x2 x3 x4 x5 x6 x7 (ix3 b s j)
    = head (mixRow x0 x1 x2 x3 x4 x5 x6 b s) (fun k p => x7 (ix2 k p)) (2048 + 64 * (j.val / 64)) (by omega) (angles s) ⟨j.val % 64, Nat.mod_lt _ (by decide)⟩ := by
  unfold val_main_v173 val_main_v172
  have hy := v171_at x0 x1 x2 x3 x4 x5 x6 x7
  generalize val_main_v171 (F := Ideal) x0 x1 x2 x3 x4 x5 x6 x7 = y at hy ⊢
  pointwise
  exact hy _ _ _ _

end Cert.Proof.Reference3Ideal

end
-- ==== Proof.In.Body.lean ====
/-
  What one grid point of the call that begins a layer leaves in its seven blocks: four groups of 256 rows, each through the gated
  part, the projections and the rotations.
-/
module

public import proofs.«01_k».proof.Proof.Gen.Kernel3Ideal.Value
public import proofs.«01_k».proof.Proof.Out.Units

@[expose] public section

set_option maxRecDepth 16384

noncomputable section

namespace Cert.Proof.Kernel3Ideal

open Cert.Kernel3Ideal Cert.Kernel3Ideal.Gen Cert.Kernel3Ideal.Value
open Idealize.ShloMosaic Idealize.ShloMosaic.TcCoe Idealize.SL.Sem
open Cert.Proof.Kernel2Ideal (gather units_read)

section
variable (x0 : Vec Ideal S1x1024x1024 .f32) (x1 : Vec Ideal S1x9x1024 .f32) (x2 x3 : Vec Ideal S3x1024 .f32) (x4 x5 : Vec Ideal S1024x2816 .bf16)
  (x6 : Vec Ideal S2816x1024 .bf16) (x7 : Vec Ideal S1664x1024 .bf16) (x8 : Vec Ideal S1024x640 .bf16) (x9 x10 : Vec Ideal S64x1024 .f32)
  (x11 x12 : Vec Ideal S1024x128 .f32)
  (o : ℕ) (h : ∀ a, (![0, o, 0] : Fin 3 → ℕ) a + S1x256x1024.size a ≤ S1x1024x1024.size a)

/-- The rows from `o` on, normed, scaled and shifted for the gated part. -/
def normedRows : FVec Ideal S256x1024 .bf16 :=
  k0_pay47 (k0_pay45 (View.ld x0 (Rect.unit ![0, o, 0] S1x256x1024.size h)))
    (k0_pay46 (View.ld x1 (Rect.unit ![0, 0, 0] S1x1x1024.size inb_S1x9x1024_S1x1x1024_0_0_0)))
    (View.ld x1 (Rect.unit ![0, 1, 0] S1x1x1024.size inb_S1x9x1024_S1x1x1024_0_1_0)) (View.ld x2 (Rect.unit ![0, 0] S1x1024.size inb_S3x1024_S1x1024_0_0))

theorem cols_le (k : Fin 11) : ∀ a, (![0, 256 * k.val] : Fin 2 → ℕ) a + S1024x256.size a ≤ S1024x2816.size a := fun a => by
  match a with
  | ⟨0, _⟩ => exact le_refl 1024
  | ⟨1, _⟩ => show 256 * k.val + 256 ≤ 2816; omega

/-- One group of gated units. -/
def unitCols (y : FVec Ideal S256x1024 .bf16) (k : Fin 11) : FVec Ideal S256x256 .bf16 :=
  k0_pay7 y (View.ld x4 (Rect.unit ![0, 256 * k.val] S1024x256.size (cols_le k))) y (View.ld x5 (Rect.unit ![0, 256 * k.val] S1024x256.size (cols_le k)))

/-- The eleven groups of gated units of the rows `y`, listed. -/
def allUnits (y : FVec Ideal S256x1024 .bf16) : FVec Ideal S256x2816 .bf16 :=
  gather ![unitCols x4 x5 y 0, unitCols x4 x5 y 1, unitCols x4 x5 y 2, unitCols x4 x5 y 3, unitCols x4 x5 y 4, unitCols x4 x5 y 5, unitCols x4 x5 y 6,
    unitCols x4 x5 y 7, unitCols x4 x5 y 8, unitCols x4 x5 y 9, unitCols x4 x5 y 10]

/-- The rows from `o` on after the gated part, -/
def fedRows : FVec Ideal S256x1024 .f32 :=
  k0_pay42 (k0_pay48 (allUnits x4 x5 (normedRows x0 x1 x2 o h)) x6) (View.ld x0 (Rect.unit ![0, o, 0] S1x256x1024.size h))
    (View.ld x1 (Rect.unit ![0, 2, 0] S1x1x1024.size inb_S1x9x1024_S1x1x1024_0_2_0)) (View.ld x3 (Rect.unit ![0, 0] S1x1024.size inb_S3x1024_S1x1024_0_0))

/-- and those normed, scaled and shifted for the attentions. -/
def mixRows : FVec Ideal S256x1024 .bf16 :=
  k0_pay44 (fedRows x0 x1 x2 x3 x4 x5 x6 o h) (View.ld x1 (Rect.unit ![0, 3, 0] S1x1x1024.size inb_S1x9x1024_S1x1x1024_0_3_0))
    (View.ld x1 (Rect.unit ![0, 4, 0] S1x1x1024.size inb_S1x9x1024_S1x1x1024_0_4_0)) (View.ld x2 (Rect.unit ![1, 0] S1x1024.size inb_S3x1024_S1x1024_1_0))

end

section
variable (y : FVec Ideal S256x1024 .bf16) (x7 : Vec Ideal S1664x1024 .bf16) (x8 : Vec Ideal S1024x640 .bf16)

/-- Queries of the rows `y`, transposed and rotated: from one product, -/
def queryCols (w : FVec Ideal S512x1024 .bf16) (cs sn : FVec Ideal S64x256 .f32) : FVec Ideal S1x1x512x256 .bf16 :=
  k0_pay75 (k0_pay59 cs) (k0_pay60 sn) (k0_pay69 y w) (k0_pay70 y (k0_pay59 cs) (k0_pay60 sn) w) (k0_pay71 y (k0_pay59 cs) (k0_pay60 sn) w)
    (k0_pay72 y (k0_pay59 cs) (k0_pay60 sn) w) (k0_pay73 y (k0_pay59 cs) (k0_pay60 sn) w) (k0_pay74 y (k0_pay59 cs) (k0_pay60 sn) w)

/-- a group of rotated keys, columns 0 to 127 of the product, -/
def keyCols0 (cs sn : FVec Ideal S256x128 .f32) : FVec Ideal S1x256x128 .bf16 := k0_pay53 k0_pay2 (k0_pay50 cs) (k0_pay51 sn) (k0_pay52 y x8) 96#32
/-- columns 128 to 255, -/
def keyCols1 (cs sn : FVec Ideal S256x128 .f32) : FVec Ideal S1x256x128 .bf16 := k0_pay54 k0_pay2 (k0_pay49 y x8) (k0_pay50 cs) (k0_pay51 sn)
/-- columns 256 to 383, -/
def keyCols2 (cs sn : FVec Ideal S256x128 .f32) : FVec Ideal S1x256x128 .bf16 := k0_pay55 k0_pay2 (k0_pay49 y x8) (k0_pay50 cs) (k0_pay51 sn)
/-- columns 384 to 511, -/
def keyCols3 (cs sn : FVec Ideal S256x128 .f32) : FVec Ideal S1x256x128 .bf16 := k0_pay57 (k0_pay56 k0_pay2 (k0_pay49 y x8) (k0_pay50 cs) (k0_pay51 sn))
/-- and columns 512 to 639. -/
def keyCols4 (cs sn : FVec Ideal S256x128 .f32) : FVec Ideal S1x256x128 .bf16 := k0_pay58 k0_pay2 (k0_pay49 y x8) (k0_pay50 cs) (k0_pay51 sn)

end

section
variable (m : (ℓ : Loc nD τ sig) → Buf (Elt Ideal) ℓ) (c : Dev nD) (t : Fin cfg0.N)
  (o : ℕ) (h : ∀ a, (![0, o, 0] : Fin 3 → ℕ) a + S1x256x1024.size a ≤ S1x1024x1024.size a)

/-- The rows from `o` on of a point's block after the gated part, -/
abbrev fedAt : FVec Ideal S1x256x1024 .f32 :=
  k0_pay43 (fedRows (iblk m c 0 t) (iblk m c 1 t) (iblk m c 2 t) (iblk m c 3 t) (iblk m c 4 t) (iblk m c 5 t) (iblk m c 6 t) o h)
/-- as the attentions read them, -/
abbrev mixAt : FVec Ideal S256x1024 .bf16 :=
  mixRows (iblk m c 0 t) (iblk m c 1 t) (iblk m c 2 t) (iblk m c 3 t) (iblk m c 4 t) (iblk m c 5 t) (iblk m c 6 t) o h
/-- the point's rows of weights for queries and values, -/
abbrev wtAt (p : ℕ) (hp : ∀ a, (![p, 0] : Fin 2 → ℕ) a + S512x1024.size a ≤ S1664x1024.size a) : FVec Ideal S512x1024 .bf16 :=
  View.ld (Val := Elt Ideal) (e' := .bf16) (S := S1664x1024) (iblk m c 7 t) (Rect.unit ![p, 0] S512x1024.size hp)
/-- the columns from `o` on of the angles' tables for queries, -/
abbrev colsAt9 (hc : ∀ a, (![0, o] : Fin 2 → ℕ) a + S64x256.size a ≤ S64x1024.size a) : FVec Ideal S64x256 .f32 :=
  View.ld (Val := Elt Ideal) (e' := .f32) (S := S64x1024) (iblk m c 9 t) (Rect.unit ![0, o] S64x256.size hc)
abbrev colsAt10 (hc : ∀ a, (![0, o] : Fin 2 → ℕ) a + S64x256.size a ≤ S64x1024.size a) : FVec Ideal S64x256 .f32 :=
  View.ld (Val := Elt Ideal) (e' := .f32) (S := S64x1024) (iblk m c 10 t) (Rect.unit ![0, o] S64x256.size hc)
/-- and the rows from `o` on of those for keys. -/
abbrev rowsAt11 (hk : ∀ a, (![o, 0] : Fin 2 → ℕ) a + S256x128.size a ≤ S1024x128.size a) : FVec Ideal S256x128 .f32 :=
  View.ld (Val := Elt Ideal) (e' := .f32) (S := S1024x128) (iblk m c 11 t) (Rect.unit ![o, 0] S256x128.size hk)
abbrev rowsAt12 (hk : ∀ a, (![o, 0] : Fin 2 → ℕ) a + S256x128.size a ≤ S1024x128.size a) : FVec Ideal S256x128 .f32 :=
  View.ld (Val := Elt Ideal) (e' := .f32) (S := S1024x128) (iblk m c 12 t) (Rect.unit ![o, 0] S256x128.size hk)

theorem out_fed : (outsAt0 m c t).1 = View.canon (Val := Elt Ideal)
    [⟨Rect.unit ![0, 768, 0] ![1, 256, 1024] inb_S1x1024x1024_S1x256x1024_0_768_0, fedAt m c t 768 inb_S1x1024x1024_S1x256x1024_0_768_0⟩,
      ⟨Rect.unit ![0, 512, 0] ![1, 256, 1024] inb_S1x1024x1024_S1x256x1024_0_512_0, fedAt m c t 512 inb_S1x1024x1024_S1x256x1024_0_512_0⟩,
      ⟨Rect.unit ![0, 256, 0] ![1, 256, 1024] inb_S1x1024x1024_S1x256x1024_0_256_0, fedAt m c t 256 inb_S1x1024x1024_S1x256x1024_0_256_0⟩,
      ⟨Rect.unit ![0, 0, 0] ![1, 256, 1024] inb_S1x1024x1024_S1x256x1024_0_0_0, fedAt m c t 0 inb_S1x1024x1024_S1x256x1024_0_0_0⟩] := by
  unfold outsAt0
  frame_open
  simp (disch := decide) only [↓ View.readCov_skip, ↓ View.readCov_cons_toLoadRect]
  simp only [↓ units_read]
  frame_out
  rfl

theorem out_qa : (outsAt0 m c t).2.1 = View.canon (Val := Elt Ideal)
    [⟨Rect.unit ![0, 3, 0, 0] ![1, 1, 512, 256] inb_S1x4x512x256_S1x1x512x256_0_3_0_0, queryCols (mixAt m c t 768 inb_S1x1024x1024_S1x256x1024_0_768_0) (wtAt m c t 0 inb_S1664x1024_S512x1024_0_0) (colsAt9 m c t 768 inb_S64x1024_S64x256_0_768) (colsAt10 m c t 768 inb_S64x1024_S64x256_0_768)⟩,
      ⟨Rect.unit ![0, 2, 0, 0] ![1, 1, 512, 256] inb_S1x4x512x256_S1x1x512x256_0_2_0_0, queryCols (mixAt m c t 512 inb_S1x1024x1024_S1x256x1024_0_512_0) (wtAt m c t 0 inb_S1664x1024_S512x1024_0_0) (colsAt9 m c t 512 inb_S64x1024_S64x256_0_512) (colsAt10 m c t 512 inb_S64x1024_S64x256_0_512)⟩,
      ⟨Rect.unit ![0, 1, 0, 0] ![1, 1, 512, 256] inb_S1x4x512x256_S1x1x512x256_0_1_0_0, queryCols (mixAt m c t 256 inb_S1x1024x1024_S1x256x1024_0_256_0) (wtAt m c t 0 inb_S1664x1024_S512x1024_0_0) (colsAt9 m c t 256 inb_S64x1024_S64x256_0_256) (colsAt10 m c t 256 inb_S64x1024_S64x256_0_256)⟩,
      ⟨Rect.unit ![0, 0, 0, 0] ![1, 1, 512, 256] inb_S1x4x512x256_S1x1x512x256_0_0_0_0, queryCols (mixAt m c t 0 inb_S1x1024x1024_S1x256x1024_0_0_0) (wtAt m c t 0 inb_S1664x1024_S512x1024_0_0) (colsAt9 m c t 0 inb_S64x1024_S64x256_0_0) (colsAt10 m c t 0 inb_S64x1024_S64x256_0_0)⟩] := by
  unfold outsAt0
  frame_open
  simp (disch := decide) only [↓ View.readCov_skip, ↓ View.readCov_cons_toLoadRect]
  simp only [↓ units_read]
  frame_out
  rfl

theorem out_qw : (outsAt0 m c t).2.2.2.1 = View.canon (Val := Elt Ideal)
    [⟨Rect.unit ![0, 3, 0, 0] ![1, 1, 512, 256] inb_S1x4x512x256_S1x1x512x256_0_3_0_0, queryCols (mixAt m c t 768 inb_S1x1024x1024_S1x256x1024_0_768_0) (wtAt m c t 1024 inb_S1664x1024_S512x1024_1024_0) (colsAt9 m c t 768 inb_S64x1024_S64x256_0_768) (colsAt10 m c t 768 inb_S64x1024_S64x256_0_768)⟩,
      ⟨Rect.unit ![0, 2, 0, 0] ![1, 1, 512, 256] inb_S1x4x512x256_S1x1x512x256_0_2_0_0, queryCols (mixAt m c t 512 inb_S1x1024x1024_S1x256x1024_0_512_0) (wtAt m c t 1024 inb_S1664x1024_S512x1024_1024_0) (colsAt9 m c t 512 inb_S64x1024_S64x256_0_512) (colsAt10 m c t 512 inb_S64x1024_S64x256_0_512)⟩,
      ⟨Rect.unit ![0, 1, 0, 0] ![1, 1, 512, 256] inb_S1x4x512x256_S1x1x512x256_0_1_0_0, queryCols (mixAt m c t 256 inb_S1x1024x1024_S1x256x1024_0_256_0) (wtAt m c t 1024 inb_S1664x1024_S512x1024_1024_0) (colsAt9 m c t 256 inb_S64x1024_S64x256_0_256) (colsAt10 m c t 256 inb_S64x1024_S64x256_0_256)⟩,
      ⟨Rect.unit ![0, 0, 0, 0] ![1, 1, 512, 256] inb_S1x4x512x256_S1x1x512x256_0_0_0_0, queryCols (mixAt m c t 0 inb_S1x1024x1024_S1x256x1024_0_0_0) (wtAt m c t 1024 inb_S1664x1024_S512x1024_1024_0) (colsAt9 m c t 0 inb_S64x1024_S64x256_0_0) (colsAt10 m c t 0 inb_S64x1024_S64x256_0_0)⟩] := by
  unfold outsAt0
  frame_open
  simp (disch := decide) only [↓ View.readCov_skip, ↓ View.readCov_cons_toLoadRect]
  simp only [↓ units_read]
  frame_out
  rfl

theorem out_va : (outsAt0 m c t).2.2.1 = View.canon (Val := Elt Ideal)
    [⟨Rect.unit ![0, 1, 0, 256] ![1, 1, 512, 256] inb_S1x2x512x512_S1x1x512x256_0_1_0_256, k0_pay76 (F := Ideal) (mixAt m c t 768 inb_S1x1024x1024_S1x256x1024_0_768_0) (wtAt m c t 512 inb_S1664x1024_S512x1024_512_0)⟩,
      ⟨Rect.unit ![0, 1, 0, 0] ![1, 1, 512, 256] inb_S1x2x512x512_S1x1x512x256_0_1_0_0, k0_pay76 (F := Ideal) (mixAt m c t 512 inb_S1x1024x1024_S1x256x1024_0_512_0) (wtAt m c t 512 inb_S1664x1024_S512x1024_512_0)⟩,
      ⟨Rect.unit ![0, 0, 0, 256] ![1, 1, 512, 256] inb_S1x2x512x512_S1x1x512x256_0_0_0_256, k0_pay76 (F := Ideal) (mixAt m c t 256 inb_S1x1024x1024_S1x256x1024_0_256_0) (wtAt m c t 512 inb_S1664x1024_S512x1024_512_0)⟩,
      ⟨Rect.unit ![0, 0, 0, 0] ![1, 1, 512, 256] inb_S1x2x512x512_S1x1x512x256_0_0_0_0, k0_pay76 (F := Ideal) (mixAt m c t 0 inb_S1x1024x1024_S1x256x1024_0_0_0) (wtAt m c t 512 inb_S1664x1024_S512x1024_512_0)⟩] := by
  unfold outsAt0
  frame_open
  simp (disch := decide) only [↓ View.readCov_skip, ↓ View.readCov_cons_toLoadRect]
  simp only [↓ units_read]
  frame_out
  rfl

theorem out_vw : (outsAt0 m c t).2.2.2.2.1 = View.canon (Val := Elt Ideal)
    [⟨Rect.unit ![0, 1, 0, 256] ![1, 1, 128, 256] inb_S1x2x128x512_S1x1x128x256_0_1_0_256, k0_pay77 (F := Ideal) (mixAt m c t 768 inb_S1x1024x1024_S1x256x1024_0_768_0) (View.ld (Val := Elt Ideal) (e' := .bf16) (S := S1664x1024) (iblk m c 7 t) (Rect.unit ![1536, 0] S128x1024.size inb_S1664x1024_S128x1024_1536_0))⟩,
      ⟨Rect.unit ![0, 1, 0, 0] ![1, 1, 128, 256] inb_S1x2x128x512_S1x1x128x256_0_1_0_0, k0_pay77 (F := Ideal) (mixAt m c t 512 inb_S1x1024x1024_S1x256x1024_0_512_0) (View.ld (Val := Elt Ideal) (e' := .bf16) (S := S1664x1024) (iblk m c 7 t) (Rect.unit ![1536, 0] S128x1024.size inb_S1664x1024_S128x1024_1536_0))⟩,
      ⟨Rect.unit ![0, 0, 0, 256] ![1, 1, 128, 256] inb_S1x2x128x512_S1x1x128x256_0_0_0_256, k0_pay77 (F := Ideal) (mixAt m c t 256 inb_S1x1024x1024_S1x256x1024_0_256_0) (View.ld (Val := Elt Ideal) (e' := .bf16) (S := S1664x1024) (iblk m c 7 t) (Rect.unit ![1536, 0] S128x1024.size inb_S1664x1024_S128x1024_1536_0))⟩,
      ⟨Rect.unit ![0, 0, 0, 0] ![1, 1, 128, 256] inb_S1x2x128x512_S1x1x128x256_0_0_0_0, k0_pay77 (F := Ideal) (mixAt m c t 0 inb_S1x1024x1024_S1x256x1024_0_0_0) (View.ld (Val := Elt Ideal) (e' := .bf16) (S := S1664x1024) (iblk m c 7 t) (Rect.unit ![1536, 0] S128x1024.size inb_S1664x1024_S128x1024_1536_0))⟩] := by
  unfold outsAt0
  frame_open
  simp (disch := decide) only [↓ View.readCov_skip, ↓ View.readCov_cons_toLoadRect]
  simp only [↓ units_read]
  frame_out
  rfl

theorem out_ka : (outsAt0 m c t).2.2.2.2.2.1 = View.canon (Val := Elt Ideal)
    [⟨Rect.unit ![0, 768, 384] ![1, 256, 128] inb_S1x1024x512_S1x256x128_0_768_384, keyCols3 (mixAt m c t 768 inb_S1x1024x1024_S1x256x1024_0_768_0) (iblk m c 8 t) (rowsAt11 m c t 768 inb_S1024x128_S256x128_768_0) (rowsAt12 m c t 768 inb_S1024x128_S256x128_768_0)⟩,
      ⟨Rect.unit ![0, 768, 256] ![1, 256, 128] inb_S1x1024x512_S1x256x128_0_768_256, keyCols2 (mixAt m c t 768 inb_S1x1024x1024_S1x256x1024_0_768_0) (iblk m c 8 t) (rowsAt11 m c t 768 inb_S1024x128_S256x128_768_0) (rowsAt12 m c t 768 inb_S1024x128_S256x128_768_0)⟩,
      ⟨Rect.unit ![0, 768, 128] ![1, 256, 128] inb_S1x1024x512_S1x256x128_0_768_128, keyCols1 (mixAt m c t 768 inb_S1x1024x1024_S1x256x1024_0_768_0) (iblk m c 8 t) (rowsAt11 m c t 768 inb_S1024x128_S256x128_768_0) (rowsAt12 m c t 768 inb_S1024x128_S256x128_768_0)⟩,
      ⟨Rect.unit ![0, 768, 0] ![1, 256, 128] inb_S1x1024x512_S1x256x128_0_768_0, keyCols0 (mixAt m c t 768 inb_S1x1024x1024_S1x256x1024_0_768_0) (iblk m c 8 t) (rowsAt11 m c t 768 inb_S1024x128_S256x128_768_0) (rowsAt12 m c t 768 inb_S1024x128_S256x128_768_0)⟩,
      ⟨Rect.unit ![0, 512, 384] ![1, 256, 128] inb_S1x1024x512_S1x256x128_0_512_384, keyCols3 (mixAt m c t 512 inb_S1x1024x1024_S1x256x1024_0_512_0) (iblk m c 8 t) (rowsAt11 m c t 512 inb_S1024x128_S256x128_512_0) (rowsAt12 m c t 512 inb_S1024x128_S256x128_512_0)⟩,
      ⟨Rect.unit ![0, 512, 256] ![1, 256, 128] inb_S1x1024x512_S1x256x128_0_512_256, keyCols2 (mixAt m c t 512 inb_S1x1024x1024_S1x256x1024_0_512_0) (iblk m c 8 t) (rowsAt11 m c t 512 inb_S1024x128_S256x128_512_0) (rowsAt12 m c t 512 inb_S1024x128_S256x128_512_0)⟩,
      ⟨Rect.unit ![0, 512, 128] ![1, 256, 128] inb_S1x1024x512_S1x256x128_0_512_128, keyCols1 (mixAt m c t 512 inb_S1x1024x1024_S1x256x1024_0_512_0) (iblk m c 8 t) (rowsAt11 m c t 512 inb_S1024x128_S256x128_512_0) (rowsAt12 m c t 512 inb_S1024x128_S256x128_512_0)⟩,
      ⟨Rect.unit ![0, 512, 0] ![1, 256, 128] inb_S1x1024x512_S1x256x128_0_512_0, keyCols0 (mixAt m c t 512 inb_S1x1024x1024_S1x256x1024_0_512_0) (iblk m c 8 t) (rowsAt11 m c t 512 inb_S1024x128_S256x128_512_0) (rowsAt12 m c t 512 inb_S1024x128_S256x128_512_0)⟩,
      ⟨Rect.unit ![0, 256, 384] ![1, 256, 128] inb_S1x1024x512_S1x256x128_0_256_384, keyCols3 (mixAt m c t 256 inb_S1x1024x1024_S1x256x1024_0_256_0) (iblk m c 8 t) (rowsAt11 m c t 256 inb_S1024x128_S256x128_256_0) (rowsAt12 m c t 256 inb_S1024x128_S256x128_256_0)⟩,
      ⟨Rect.unit ![0, 256, 256] ![1, 256, 128] inb_S1x1024x512_S1x256x128_0_256_256, keyCols2 (mixAt m c t 256 inb_S1x1024x1024_S1x256x1024_0_256_0) (iblk m c 8 t) (rowsAt11 m c t 256 inb_S1024x128_S256x128_256_0) (rowsAt12 m c t 256 inb_S1024x128_S256x128_256_0)⟩,
      ⟨Rect.unit ![0, 256, 128] ![1, 256, 128] inb_S1x1024x512_S1x256x128_0_256_128, keyCols1 (mixAt m c t 256 inb_S1x1024x1024_S1x256x1024_0_256_0) (iblk m c 8 t) (rowsAt11 m c t 256 inb_S1024x128_S256x128_256_0) (rowsAt12 m c t 256 inb_S1024x128_S256x128_256_0)⟩,
      ⟨Rect.unit ![0, 256, 0] ![1, 256, 128] inb_S1x1024x512_S1x256x128_0_256_0, keyCols0 (mixAt m c t 256 inb_S1x1024x1024_S1x256x1024_0_256_0) (iblk m c 8 t) (rowsAt11 m c t 256 inb_S1024x128_S256x128_256_0) (rowsAt12 m c t 256 inb_S1024x128_S256x128_256_0)⟩,
      ⟨Rect.unit ![0, 0, 384] ![1, 256, 128] inb_S1x1024x512_S1x256x128_0_0_384, keyCols3 (mixAt m c t 0 inb_S1x1024x1024_S1x256x1024_0_0_0) (iblk m c 8 t) (rowsAt11 m c t 0 inb_S1024x128_S256x128_0_0) (rowsAt12 m c t 0 inb_S1024x128_S256x128_0_0)⟩,
      ⟨Rect.unit ![0, 0, 256] ![1, 256, 128] inb_S1x1024x512_S1x256x128_0_0_256, keyCols2 (mixAt m c t 0 inb_S1x1024x1024_S1x256x1024_0_0_0) (iblk m c 8 t) (rowsAt11 m c t 0 inb_S1024x128_S256x128_0_0) (rowsAt12 m c t 0 inb_S1024x128_S256x128_0_0)⟩,
      ⟨Rect.unit ![0, 0, 128] ![1, 256, 128] inb_S1x1024x512_S1x256x128_0_0_128, keyCols1 (mixAt m c t 0 inb_S1x1024x1024_S1x256x1024_0_0_0) (iblk m c 8 t) (rowsAt11 m c t 0 inb_S1024x128_S256x128_0_0) (rowsAt12 m c t 0 inb_S1024x128_S256x128_0_0)⟩,
      ⟨Rect.unit ![0, 0, 0] ![1, 256, 128] inb_S1x1024x512_S1x256x128_0_0_0, keyCols0 (mixAt m c t 0 inb_S1x1024x1024_S1x256x1024_0_0_0) (iblk m c 8 t) (rowsAt11 m c t 0 inb_S1024x128_S256x128_0_0) (rowsAt12 m c t 0 inb_S1024x128_S256x128_0_0)⟩] := by
  unfold outsAt0
  frame_open
  simp (disch := decide) only [↓ View.readCov_skip, ↓ View.readCov_cons_toLoadRect]
  simp only [↓ units_read]
  frame_out
  rfl

theorem out_kw : (outsAt0 m c t).2.2.2.2.2.2 = View.canon (Val := Elt Ideal)
    [⟨Rect.unit ![0, 768, 0] ![1, 256, 128] inb_S1x1024x128_S1x256x128_0_768_0, keyCols4 (mixAt m c t 768 inb_S1x1024x1024_S1x256x1024_0_768_0) (iblk m c 8 t) (rowsAt11 m c t 768 inb_S1024x128_S256x128_768_0) (rowsAt12 m c t 768 inb_S1024x128_S256x128_768_0)⟩,
      ⟨Rect.unit ![0, 512, 0] ![1, 256, 128] inb_S1x1024x128_S1x256x128_0_512_0, keyCols4 (mixAt m c t 512 inb_S1x1024x1024_S1x256x1024_0_512_0) (iblk m c 8 t) (rowsAt11 m c t 512 inb_S1024x128_S256x128_512_0) (rowsAt12 m c t 512 inb_S1024x128_S256x128_512_0)⟩,
      ⟨Rect.unit ![0, 256, 0] ![1, 256, 128] inb_S1x1024x128_S1x256x128_0_256_0, keyCols4 (mixAt m c t 256 inb_S1x1024x1024_S1x256x1024_0_256_0) (iblk m c 8 t) (rowsAt11 m c t 256 inb_S1024x128_S256x128_256_0) (rowsAt12 m c t 256 inb_S1024x128_S256x128_256_0)⟩,
      ⟨Rect.unit ![0, 0, 0] ![1, 256, 128] inb_S1x1024x128_S1x256x128_0_0_0, keyCols4 (mixAt m c t 0 inb_S1x1024x1024_S1x256x1024_0_0_0) (iblk m c 8 t) (rowsAt11 m c t 0 inb_S1024x128_S256x128_0_0) (rowsAt12 m c t 0 inb_S1024x128_S256x128_0_0)⟩] := by
  unfold outsAt0
  frame_open
  simp (disch := decide) only [↓ View.readCov_skip, ↓ View.readCov_cons_toLoadRect]
  simp only [↓ units_read]
  frame_out
  rfl

end

end Cert.Proof.Kernel3Ideal

end
-- ==== Proof.In.Rows.lean ====
/-
  What the body's operations leave in a group of 256 rows, read row by row.
-/
module

public import proofs.«01_k».proof.Proof.In.Body
public import proofs.«01_k».proof.Proof.In.Spec

@[expose] public section

set_option maxRecDepth 16384

noncomputable section

namespace Cert.Proof.Kernel3Ideal

open Cert.Kernel3Ideal Cert.Kernel3Ideal.Gen
open Idealize.ShloMosaic Idealize.ShloMosaic.TcCoe Idealize.SL.Sem Cert.Proof.Out Cert.Proof.In
open Cert.Proof.Kernel2Ideal (gather)

/-! ## The rows of the gated part -/

theorem pay47_at (v : FVec Ideal S1x256x1024 .f32) (shift scale : FVec Ideal S1x1x1024 .f32) (gain : FVec Ideal S1x1024 .f32) (i : Fin 256) (z : Fin 1024) :
    k0_pay47 (F := Ideal) (k0_pay45 (F := Ideal) v) (k0_pay46 (F := Ideal) shift) scale gain (ix2 i z)
      = before (fun k => v (ix3 0 i k)) (fun k => shift (ix3 0 0 k)) (fun k => scale (ix3 0 0 k)) (fun k => gain (ix2 0 k)) z := by
  unfold k0_pay47 k0_pay45 k0_pay46
  pointwise
  exact before_of (fun k => v (ix3 0 i k)) (fun k => shift (ix3 0 0 k)) (fun k => scale (ix3 0 0 k)) (fun k => gain (ix2 0 k)) z

theorem pay7_at (y : FVec Ideal S256x1024 .bf16) (g u : FVec Ideal S1024x256 .bf16) (i n : Fin 256) :
    k0_pay7 (F := Ideal) y g y u (ix2 i n) = unit (fun k => y (ix2 i k)) (fun k => g (ix2 k n)) (fun k => u (ix2 k n)) := by
  unfold k0_pay7
  pointwise
  rfl

theorem pay42_at (h : FVec Ideal S256x2816 .bf16) (d : FVec Ideal S2816x1024 .bf16) (v : FVec Ideal S1x256x1024 .f32) (gate : FVec Ideal S1x1x1024 .f32)
    (gain : FVec Ideal S1x1024 .f32) (i : Fin 256) (z : Fin 1024) :
    k0_pay42 (F := Ideal) (k0_pay48 (F := Ideal) h d) v gate gain (ix2 i z)
      = after (fun k => v (ix3 0 i k)) (fun z => ∑ n, h (ix2 i n) * d (ix2 n z)) (fun k => gate (ix3 0 0 k)) (fun k => gain (ix2 0 k)) (Ideal.ofBits .f32 0x3F000000#32) z := by
  unfold k0_pay42 k0_pay48
  pointwise
  exact after_of (fun k => v (ix3 0 i k)) (fun z => ∑ n, h (ix2 i n) * d (ix2 n z)) (fun k => gate (ix3 0 0 k)) (fun k => gain (ix2 0 k)) _ z

theorem pay43_at (v : FVec Ideal S256x1024 .f32) (i : Fin 256) (z : Fin 1024) : k0_pay43 (F := Ideal) v (ix3 0 i z) = v (ix2 i z) := by
  unfold k0_pay43
  pointwise

theorem pay44_at (v : FVec Ideal S256x1024 .f32) (shift scale : FVec Ideal S1x1x1024 .f32) (gain : FVec Ideal S1x1024 .f32) (i : Fin 256) (z : Fin 1024) :
    k0_pay44 (F := Ideal) v shift scale gain (ix2 i z) = before (fun k => v (ix2 i k)) (fun k => shift (ix3 0 0 k)) (fun k => scale (ix3 0 0 k)) (fun k => gain (ix2 0 k)) z := by
  unfold k0_pay44
  pointwise
  exact before_of (fun k => v (ix2 i k)) (fun k => shift (ix3 0 0 k)) (fun k => scale (ix3 0 0 k)) (fun k => gain (ix2 0 k)) z

section
variable (x0 : FVec Ideal S1x1024x1024 .f32) (x1 : FVec Ideal S1x9x1024 .f32) (x2 x3 : FVec Ideal S3x1024 .f32) (x4 x5 : FVec Ideal S1024x2816 .bf16)
  (x6 : FVec Ideal S2816x1024 .bf16)

theorem ld_rows (o : ℕ) (h) (i : Fin 256) (r : Fin 1024) (hr : r.val = o + i.val) (k : Fin 1024) :
    View.ld (Val := Elt Ideal) (e' := .f32) (S := S1x1024x1024) x0 (Rect.unit ![0, o, 0] S1x256x1024.size h) (ix3 (n0 := 1) 0 i k) = x0 (ix3 0 r k) := by
  refine congrArg x0 (funext fun a => Fin.ext ?_)
  match a with
  | ⟨0, _⟩ => rfl
  | ⟨1, _⟩ => show o + 1 * i.val = r.val; omega
  | ⟨2, _⟩ => show 0 + 1 * k.val = k.val; omega

theorem ld_mod (o : ℕ) (h) (j : Fin 9) (hj : j.val = o) (k : Fin 1024) :
    View.ld (Val := Elt Ideal) (e' := .f32) (S := S1x9x1024) x1 (Rect.unit ![0, o, 0] S1x1x1024.size h) (ix3 (n0 := 1) (n1 := 1) 0 0 k) = x1 (ix3 0 j k) := by
  refine congrArg x1 (funext fun a => Fin.ext ?_)
  match a with
  | ⟨0, _⟩ => rfl
  | ⟨1, _⟩ => show o + 1 * 0 = j.val; omega
  | ⟨2, _⟩ => show 0 + 1 * k.val = k.val; omega

/-- A unit-stride load of a matrix, read at a place. -/
theorem ld_mat {e' : EltTy} {n0 n1 l0 l1 : ℕ} (x : (Shape.mk 2 ![n0, n1]).Idx → Elt Ideal e') (p q : ℕ)
    (h : ∀ a, (![p, q] : Fin 2 → ℕ) a + (Shape.mk 2 ![l0, l1]).size a ≤ (Shape.mk 2 ![n0, n1]).size a) (i : Fin l0) (j : Fin l1) (i' : Fin n0) (j' : Fin n1)
    (hi : i'.val = p + i.val) (hj : j'.val = q + j.val) :
    View.ld (Val := Elt Ideal) (e' := e') (S := Shape.mk 2 ![n0, n1]) x (Rect.unit ![p, q] (Shape.mk 2 ![l0, l1]).size h) (ix2 i j) = x (ix2 i' j') := by
  refine congrArg x (funext fun a => Fin.ext ?_)
  match a with
  | ⟨0, _⟩ => show p + 1 * i.val = i'.val; omega
  | ⟨1, _⟩ => show q + 1 * j.val = j'.val; omega

theorem ld_gain (o : ℕ) (h) (j : Fin 3) (hj : j.val = o) (k : Fin 1024) :
    View.ld (Val := Elt Ideal) (e' := .f32) (S := S3x1024) x2 (Rect.unit ![o, 0] S1x1024.size h) (ix2 (n0 := 1) 0 k) = x2 (ix2 j k) :=
  ld_mat (e' := .f32) (n0 := 3) (n1 := 1024) (l0 := 1) (l1 := 1024) x2 o 0 h 0 k j k (by rw [hj]; rfl) (by omega)

theorem ld_cols (k : Fin 11) (z : Fin 1024) (n : Fin 256) :
    View.ld (Val := Elt Ideal) (e' := .bf16) (S := S1024x2816) x4 (Rect.unit ![0, 256 * k.val] S1024x256.size (cols_le k)) (ix2 z n) = x4 (ix2 z ⟨256 * k.val + n.val, by omega⟩) :=
  ld_mat (e' := .bf16) (n0 := 1024) (n1 := 2816) (l0 := 1024) (l1 := 256) x4 0 (256 * k.val) (cols_le k) z n z ⟨256 * k.val + n.val, by omega⟩ (by omega) rfl

theorem unitCols_at (y : FVec Ideal S256x1024 .bf16) (k : Fin 11) (i n : Fin 256) : unitCols x4 x5 y k (ix2 i n)
    = unit (fun z => y (ix2 i z)) (fun z => x4 (ix2 z ⟨256 * k.val + n.val, by omega⟩)) (fun z => x5 (ix2 z ⟨256 * k.val + n.val, by omega⟩)) := by
  unfold unitCols
  exact (pay7_at _ _ _ _ _).trans (congrArg₂ (unit fun z => y (ix2 i z)) (funext fun z => ld_cols x4 k z n) (funext fun z => ld_cols x5 k z n))

theorem allUnits_at (y : FVec Ideal S256x1024 .bf16) (i : Fin 256) (n : Fin 2816) : allUnits x4 x5 y (ix2 i n)
    = unit (fun z => y (ix2 i z)) (fun z => x4 (ix2 z n)) (fun z => x5 (ix2 z n)) := by
  have e : allUnits x4 x5 y = gather (unitCols x4 x5 y) := by
    unfold allUnits
    refine congrArg gather (funext fun k => ?_)
    fin_cases k <;> rfl
  rw [e]
  show unitCols x4 x5 y ⟨n.val / 256, _⟩ (ix2 i ⟨n.val % 256, _⟩) = _
  rw [unitCols_at]
  have en : (⟨256 * (n.val / 256) + n.val % 256, by omega⟩ : Fin 2816) = n := Fin.ext (by show 256 * (n.val / 256) + n.val % 256 = n.val; omega)
  simp only [en]

variable (o : ℕ) (h : ∀ a, (![0, o, 0] : Fin 3 → ℕ) a + S1x256x1024.size a ≤ S1x1024x1024.size a)
  (i : Fin 256) (r : Fin 1024) (hr : r.val = o + i.val)

include hr in
/-- A row after the gated part, -/
theorem fedRows_at (z : Fin 1024) : fedRows x0 x1 x2 x3 x4 x5 x6 o h (ix2 i z)
    = fed (fun k => x0 (ix3 0 r k)) (fun j k => x1 (ix3 0 j k)) (fun j k => x2 (ix2 j k)) (fun j k => x3 (ix2 j k)) (fun k n => x4 (ix2 k n)) (fun k n => x5 (ix2 k n))
        (fun n z => x6 (ix2 n z)) z := by
  unfold fedRows
  refine (pay42_at _ _ _ _ _ _ _).trans ?_
  simp only [allUnits_at, ld_rows x0 o h i r hr, ld_mod x1 2 _ 2 rfl, ld_gain x3 0 _ 0 rfl]
  unfold normedRows
  simp only [pay47_at, ld_rows x0 o h i r hr, ld_mod x1 0 _ 0 rfl, ld_mod x1 1 _ 1 rfl, ld_gain x2 0 _ 0 rfl]
  rfl

include hr in
/-- and as the attentions read it. -/
theorem mixRows_at (z : Fin 1024) : mixRows x0 x1 x2 x3 x4 x5 x6 o h (ix2 i z)
    = mix (fed (fun k => x0 (ix3 0 r k)) (fun j k => x1 (ix3 0 j k)) (fun j k => x2 (ix2 j k)) (fun j k => x3 (ix2 j k)) (fun k n => x4 (ix2 k n)) (fun k n => x5 (ix2 k n))
        (fun n z => x6 (ix2 n z))) (fun j k => x1 (ix3 0 j k)) (fun j k => x2 (ix2 j k)) z := by
  unfold mixRows
  refine (pay44_at _ _ _ _ _ _).trans ?_
  simp only [fedRows_at x0 x1 x2 x3 x4 x5 x6 o h i r hr, ld_mod x1 3 _ 3 rfl, ld_mod x1 4 _ 4 rfl, ld_gain x2 1 _ 1 rfl]
  rfl

end

/-! ## Queries and values, transposed -/

section
variable (y : FVec Ideal S256x1024 .bf16)

/-- One place of the queries' block from one head's place `e`, its partner and the angle's. -/
theorem query_of (T : FVec Ideal S512x256 .f32) (cs sn : FVec Ideal S64x256 .f32) (i : Fin 256) (j a : Fin 512) (b : Fin 64) (e : ℕ) (p : e < 32 → Fin 512)
    (q : ¬e < 32 → Fin 512) (he : e = j.val % 64) (hb : b.val = e) (ha : a.val = j.val) (hp : ∀ h, (p h).val = j.val + 32) (hq : ∀ h, (q h).val = j.val - 32) :
    (T (ix2 a i) * cs (ix2 b i) + (if h : e < 32 then T (ix2 (p h) i) else T (ix2 (q h) i)) * sn (ix2 b i)) * Ideal.ofBits .f32 0x3E38AA3B#32
      = turn (fun d => T (ix2 ⟨64 * (j.val / 64) + d.val, by have := j.isLt; have := d.isLt; omega⟩ i)) (fun d => cs (ix2 d i)) (fun d => sn (ix2 d i))
          ⟨j.val % 64, Nat.mod_lt _ (by decide)⟩ * Ideal.ofBits .f32 0x3E38AA3B#32 := by
  obtain rfl : b = ⟨j.val % 64, Nat.mod_lt _ (by decide)⟩ := Fin.ext (by rw [hb, he])
  obtain rfl : a = j := Fin.ext ha
  have ea : (⟨64 * (a.val / 64) + a.val % 64, by omega⟩ : Fin 512) = a := Fin.ext (by show 64 * (a.val / 64) + a.val % 64 = a.val; omega)
  have ep : (if h : e < 32 then T (ix2 (p h) i) else T (ix2 (q h) i))
      = T (ix2 ⟨64 * (a.val / 64) + (partner ⟨a.val % 64, Nat.mod_lt _ (by decide)⟩).val, by have := (partner ⟨a.val % 64, Nat.mod_lt _ (by decide)⟩).isLt; omega⟩ i) := by
    refine dite_of (fun h => ?_) (fun h => ?_)
    · refine congrArg (fun n => T (ix2 n i)) (Fin.ext ?_)
      rw [hp]
      simp only [partner, if_pos (he ▸ h)]
      omega
    · refine congrArg (fun n => T (ix2 n i)) (Fin.ext ?_)
      rw [hq]
      simp only [partner, if_neg (he ▸ h)]
      omega
  rw [ep]
  unfold turn
  simp only [ea]

theorem pay69_at (w : FVec Ideal S512x1024 .bf16) (j : Fin 512) (i : Fin 256) : k0_pay69 (F := Ideal) y w (ix2 j i) = ∑ k, y (ix2 i k) * w (ix2 j k) := by
  unfold k0_pay69
  pointwise
  exact Finset.sum_congr rfl fun k _ => mul_comm _ _

theorem queryCols_at (w : FVec Ideal S512x1024 .bf16) (cs sn : FVec Ideal S64x256 .f32) (j : Fin 512) (i : Fin 256) :
    queryCols y w cs sn (ix4 0 0 j i)
      = rotated (fun k => y (ix2 i k)) (fun k d => w (ix2 ⟨64 * (j.val / 64) + d.val, by omega⟩ k)) (fun d => cs (ix2 d i)) (fun d => sn (ix2 d i))
          ⟨j.val % 64, Nat.mod_lt _ (by decide)⟩ * Ideal.ofBits .f32 0x3E38AA3B#32 := by
  have e : ∀ R, turn (fun d => k0_pay69 (F := Ideal) y w (ix2 ⟨64 * (j.val / 64) + d.val, by omega⟩ i)) (fun d => cs (ix2 d i)) (fun d => sn (ix2 d i))
          ⟨j.val % 64, Nat.mod_lt _ (by decide)⟩ * Ideal.ofBits .f32 0x3E38AA3B#32 = R → queryCols y w cs sn (ix4 0 0 j i) = R := by
    intro R hR
    unfold queryCols k0_pay75 k0_pay59 k0_pay60 k0_pay70 k0_pay71 k0_pay72 k0_pay73 k0_pay74
    generalize k0_pay69 (F := Ideal) y w = T at hR ⊢
    pointwise
    have hj := j.isLt
    refine dite_of (fun h0 => ?_) fun h0 => dite_of (fun h1 => ?_) fun h1 => dite_of (fun h2 => ?_) fun h2 => dite_of (fun h3 => ?_) fun h3 =>
      dite_of (fun h4 => ?_) fun h4 => dite_of (fun h5 => ?_) fun h5 => dite_of (fun h6 => ?_) fun h6 => ?_
    all_goals exact (query_of T cs sn i j _ _ _ _ _ (by dsimp only; omega) rfl (by first | rfl | (dsimp only; omega)) (fun h => by dsimp only; omega)
      (fun h => by first | rfl | (dsimp only at h ⊢; omega))).trans hR

  exact (e _ rfl).trans (congrArg (fun p => turn p _ _ _ * _) (funext fun d => pay69_at y w _ i))

theorem pay76_at (w : FVec Ideal S512x1024 .bf16) (j : Fin 512) (i : Fin 256) : k0_pay76 (F := Ideal) y w (ix4 0 0 j i) = ∑ k, y (ix2 i k) * w (ix2 j k) := by
  unfold k0_pay76
  pointwise
  exact Finset.sum_congr rfl fun k _ => mul_comm _ _

theorem pay77_at (w : FVec Ideal S128x1024 .bf16) (j : Fin 128) (i : Fin 256) : k0_pay77 (F := Ideal) y w (ix4 0 0 j i) = ∑ k, y (ix2 i k) * w (ix2 j k) := by
  unfold k0_pay77
  pointwise
  exact Finset.sum_congr rfl fun k _ => mul_comm _ _

/-! ## Keys -/

theorem mask_at (i : Fin 256) (j : Fin 128) : k0_pay2 (ix2 i j) = BitVec.ofBool (decide (j.val % 64 < 32)) := by
  unfold k0_pay2
  pointwise
  revert j
  decide

theorem pay49_at (w : FVec Ideal S1024x640 .bf16) (i : Fin 256) (j : Fin 640) : k0_pay49 (F := Ideal) y w (ix2 i j) = ∑ k, y (ix2 i k) * w (ix2 k j) := by
  unfold k0_pay49
  pointwise

/-- One place of 128 columns of keys: the column 96 or 32 places on, around the 128, is its partner. -/
theorem key_of (T cs sn : FVec Ideal S256x128 .f32) (K : Fin 640 → EReal) (o : ℕ) (ho : o ≤ 512) (i : Fin 256) (j : Fin 128)
    (hT : ∀ j : Fin 128, T (ix2 i j) = K ⟨o + j.val, by omega⟩) (a b : Fin 128) (ha : a.val = (j.val + 128 - 96) % 128) (hb : b.val = (j.val + 128 - 32) % 128) :
    T (ix2 i j) * cs (ix2 i j) + Scalar.select (BitVec.ofBool (decide (j.val % 64 < 32))) (T (ix2 i a)) (T (ix2 i b)) * sn (ix2 i j)
      = turn (fun d => K ⟨o + (64 * (j.val / 64) + d.val), by omega⟩) (fun d => cs (ix2 i ⟨64 * (j.val / 64) + d.val, by omega⟩))
          (fun d => sn (ix2 i ⟨64 * (j.val / 64) + d.val, by omega⟩)) ⟨j.val % 64, Nat.mod_lt _ (by decide)⟩ := by
  have ej : (⟨64 * (j.val / 64) + j.val % 64, by omega⟩ : Fin 128) = j := Fin.ext (by show 64 * (j.val / 64) + j.val % 64 = j.val; omega)
  have es : Scalar.select (BitVec.ofBool (decide (j.val % 64 < 32))) (T (ix2 i a)) (T (ix2 i b))
      = K ⟨o + (64 * (j.val / 64) + (partner ⟨j.val % 64, Nat.mod_lt _ (by decide)⟩).val), by have := (partner ⟨j.val % 64, Nat.mod_lt _ (by decide)⟩).isLt; omega⟩ := by
    by_cases h : j.val % 64 < 32
    · rw [decide_eq_true h]
      refine (hT a).trans (congrArg K (Fin.ext ?_))
      simp only [partner, if_pos h]
      omega
    · rw [decide_eq_false h]
      refine (hT b).trans (congrArg K (Fin.ext ?_))
      simp only [partner, if_neg h]
      omega
  rw [es, hT j]
  unfold turn
  simp only [ej]
  have eo : (⟨o + (64 * (j.val / 64) + j.val % 64), by omega⟩ : Fin 640) = ⟨o + j.val, by omega⟩ := Fin.ext (by show o + (64 * (j.val / 64) + j.val % 64) = o + j.val; omega)
  rw [eo]

variable (w : FVec Ideal S1024x640 .bf16) (cs sn : FVec Ideal S256x128 .f32) (i : Fin 256) (j : Fin 128)

/-- The columns from `o` on of the keys' block, rotated. -/
def keyOf (o : ℕ) (ho : o ≤ 512) : EReal :=
  rotated (fun k => y (ix2 i k)) (fun k d => w (ix2 k ⟨o + (64 * (j.val / 64) + d.val), by omega⟩)) (fun d => cs (ix2 i ⟨64 * (j.val / 64) + d.val, by omega⟩))
    (fun d => sn (ix2 i ⟨64 * (j.val / 64) + d.val, by omega⟩)) ⟨j.val % 64, Nat.mod_lt _ (by decide)⟩

theorem keyOf_of (T : FVec Ideal S256x128 .f32) (o : ℕ) (ho : o ≤ 512) (hT : ∀ j : Fin 128, T (ix2 i j) = k0_pay49 (F := Ideal) y w (ix2 i ⟨o + j.val, by omega⟩))
    (a b : Fin 128) (ha : a.val = (j.val + 128 - 96) % 128) (hb : b.val = (j.val + 128 - 32) % 128) :
    T (ix2 i j) * cs (ix2 i j) + Scalar.select (k0_pay2 (ix2 i j)) (T (ix2 i a)) (T (ix2 i b)) * sn (ix2 i j) = keyOf y w cs sn i j o ho := by
  rw [mask_at, key_of T cs sn (fun n => k0_pay49 (F := Ideal) y w (ix2 i n)) o ho i j hT a b ha hb]
  simp only [pay49_at]
  rfl

theorem keyCols0_at : keyCols0 y w cs sn (ix3 0 i j) = keyOf y w cs sn i j 0 (by decide) := by
  unfold keyCols0 k0_pay53 k0_pay52 k0_pay50 k0_pay51
  have hT : ∀ j : Fin 128, extractStridedSlice S256x128 ![0, 0] (k0_pay49 (F := Ideal) y w) slices_S256x640_o0_0_S256x128 (ix2 i j)
      = k0_pay49 (F := Ideal) y w (ix2 i ⟨0 + j.val, by omega⟩) := fun j => by pointwise
  generalize extractStridedSlice S256x128 ![0, 0] (k0_pay49 (F := Ideal) y w) slices_S256x640_o0_0_S256x128 = T at hT ⊢
  pointwise
  exact keyOf_of y w cs sn i j T 0 (by decide) hT _ _ rfl rfl

theorem keyCols1_at : keyCols1 y w cs sn (ix3 0 i j) = keyOf y w cs sn i j 128 (by decide) := by
  unfold keyCols1 k0_pay54 k0_pay50 k0_pay51
  have hT : ∀ j : Fin 128, extractStridedSlice S256x128 ![0, 128] (k0_pay49 (F := Ideal) y w) slices_S256x640_o0_128_S256x128 (ix2 i j)
      = k0_pay49 (F := Ideal) y w (ix2 i ⟨128 + j.val, by omega⟩) := fun j => by pointwise
  generalize extractStridedSlice S256x128 ![0, 128] (k0_pay49 (F := Ideal) y w) slices_S256x640_o0_128_S256x128 = T at hT ⊢
  pointwise
  exact keyOf_of y w cs sn i j T 128 (by decide) hT _ _ rfl rfl

theorem keyCols2_at : keyCols2 y w cs sn (ix3 0 i j) = keyOf y w cs sn i j 256 (by decide) := by
  unfold keyCols2 k0_pay55 k0_pay50 k0_pay51
  have hT : ∀ j : Fin 128, extractStridedSlice S256x128 ![0, 256] (k0_pay49 (F := Ideal) y w) slices_S256x640_o0_256_S256x128 (ix2 i j)
      = k0_pay49 (F := Ideal) y w (ix2 i ⟨256 + j.val, by omega⟩) := fun j => by pointwise
  generalize extractStridedSlice S256x128 ![0, 256] (k0_pay49 (F := Ideal) y w) slices_S256x640_o0_256_S256x128 = T at hT ⊢
  pointwise
  exact keyOf_of y w cs sn i j T 256 (by decide) hT _ _ rfl rfl

theorem keyCols3_at : keyCols3 y w cs sn (ix3 0 i j) = keyOf y w cs sn i j 384 (by decide) := by
  unfold keyCols3 k0_pay57 k0_pay56 k0_pay50 k0_pay51
  have hT : ∀ j : Fin 128, extractStridedSlice S256x128 ![0, 384] (k0_pay49 (F := Ideal) y w) slices_S256x640_o0_384_S256x128 (ix2 i j)
      = k0_pay49 (F := Ideal) y w (ix2 i ⟨384 + j.val, by omega⟩) := fun j => by pointwise
  generalize extractStridedSlice S256x128 ![0, 384] (k0_pay49 (F := Ideal) y w) slices_S256x640_o0_384_S256x128 = T at hT ⊢
  pointwise
  exact keyOf_of y w cs sn i j T 384 (by decide) hT _ _ rfl rfl

theorem keyCols4_at : keyCols4 y w cs sn (ix3 0 i j) = keyOf y w cs sn i j 512 (by decide) := by
  unfold keyCols4 k0_pay58 k0_pay50 k0_pay51
  have hT : ∀ j : Fin 128, extractStridedSlice S256x128 ![0, 512] (k0_pay49 (F := Ideal) y w) slices_S256x640_o0_512_S256x128 (ix2 i j)
      = k0_pay49 (F := Ideal) y w (ix2 i ⟨512 + j.val, by omega⟩) := fun j => by pointwise
  generalize extractStridedSlice S256x128 ![0, 512] (k0_pay49 (F := Ideal) y w) slices_S256x640_o0_512_S256x128 = T at hT ⊢
  pointwise
  exact keyOf_of y w cs sn i j T 512 (by decide) hT _ _ rfl rfl

end

end Cert.Proof.Kernel3Ideal

end
-- ==== Proof.In.Tables.lean ====
/-
  The arrays the call that begins a layer stages: the projection's columns in two orders and the angles' cosines and signed sines.
-/
module

public import proofs.«01_k».proof.Proof.In.Rows

@[expose] public section

set_option maxRecDepth 16384

noncomputable section

namespace Cert.Proof.Kernel3Ideal

open Cert.Kernel3Ideal Cert.Kernel3Ideal.Gen Cert.Kernel3Ideal.Value
open Idealize.ShloMosaic Idealize.ShloMosaic.TcCoe Idealize.SL.Sem Cert.Proof.Out Cert.Proof.In

/-! ## The projection's columns -/

/-- The columns of queries and values, as rows, -/
def byRows (a : FVec Ideal S1024x2304 .f32) : FVec Ideal S1664x1024 .bf16 :=
  transpose S1664x1024 [1, 0] (concatenate S1024x1664 1
    [⟨S1024x512, extractStridedSlice S1024x512 ![0, 0] (truncf .bf16 a bitsLt_bf16_f32) slices_S1024x2304_S1024x512_0_0⟩,
      ⟨S1024x512, extractStridedSlice S1024x512 ![0, 1024] (truncf .bf16 a bitsLt_bf16_f32) slices_S1024x2304_S1024x512_0_1024⟩,
      ⟨S1024x512, extractStridedSlice S1024x512 ![0, 1536] (truncf .bf16 a bitsLt_bf16_f32) slices_S1024x2304_S1024x512_0_1536⟩,
      ⟨S1024x128, extractStridedSlice S1024x128 ![0, 2176] (truncf .bf16 a bitsLt_bf16_f32) slices_S1024x2304_S1024x128_0_2176⟩]
    concatenates_S1024x512_S1024x512_S1024x512_S1024x128_S1024x1664_d1) transposes_S1024x1664_S1664x1024_1_0
/-- and the columns of keys. -/
def byCols (a : FVec Ideal S1024x2304 .f32) : FVec Ideal S1024x640 .bf16 :=
  concatenate S1024x640 1 [⟨S1024x512, extractStridedSlice S1024x512 ![0, 512] (truncf .bf16 a bitsLt_bf16_f32) slices_S1024x2304_S1024x512_0_512⟩,
    ⟨S1024x128, extractStridedSlice S1024x128 ![0, 2048] (truncf .bf16 a bitsLt_bf16_f32) slices_S1024x2304_S1024x128_0_2048⟩]
    concatenates_S1024x512_S1024x128_S1024x640_d1

section
variable (a : FVec Ideal S1024x2304 .f32) (k : Fin 1024)

theorem byRows_at (j : Fin 1664) (p : Fin 2304)
    (h : (j.val < 512 ∧ p.val = j.val) ∨ (512 ≤ j.val ∧ j.val < 1024 ∧ p.val = j.val + 512) ∨ (1024 ≤ j.val ∧ j.val < 1536 ∧ p.val = j.val + 512)
      ∨ (1536 ≤ j.val ∧ p.val = j.val + 640)) : byRows a (ix2 j k) = a (ix2 k p) := by
  have hj := j.isLt
  unfold byRows
  pointwise
  refine dite_of (fun h0 => ?_) fun h0 => dite_of (fun h1 => ?_) fun h1 => dite_of (fun h2 => ?_) fun h2 => ?_
  all_goals exact congrArg (fun p => a (ix2 k p)) (Fin.ext (by dsimp only at *; omega))

theorem byCols_at (j : Fin 640) (p : Fin 2304) (h : (j.val < 512 ∧ p.val = j.val + 512) ∨ (512 ≤ j.val ∧ p.val = j.val + 1536)) : byCols a (ix2 k j) = a (ix2 k p) := by
  have hj := j.isLt
  unfold byCols
  pointwise
  refine dite_of (fun h0 => ?_) fun h0 => ?_
  all_goals exact congrArg (fun p => a (ix2 k p)) (Fin.ext (by dsimp only at *; omega))

end

/-! ## The angles' tables -/

/-- The angle of a place in the sequence and a place in half a head. -/
def angleTable : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.divf (broadcastInDim S32 ![] bcast_S_S32 (constant (F := Ideal) S_ .f32 0x3F800000#32))
        (Host.powf (broadcastInDim S32 ![] bcast_S_S32 (constant (F := Ideal) S_ .f32 0x461C4000#32))
          (Host.divf (addf (broadcastInDim S32 ![] bcast_S_S32 (constant (F := Ideal) S_ .f32 0x00000000#32))
              (mulf (broadcastInDim S32 ![] bcast_S_S32 (constant (F := Ideal) S_ .f32 0x40000000#32)) (sitofp .f32 (iotaInDim S32 32 0))))
            (broadcastInDim S32 ![] bcast_S_S32 (constant (F := Ideal) S_ .f32 0x42800000#32)))))))

/-- The angles of a place in the sequence. -/
def angles (s : Fin 2048) (d : Fin 32) : EReal := angleTable (ix2 s d)

/-- The cosines of a head's places, -/
def cosTable : FVec Ideal S2048x64 .f32 :=
  concatenate S2048x64 1 [⟨S2048x32, Host.cos angleTable⟩, ⟨S2048x32, Host.cos angleTable⟩] concatenates_S2048x32_S2048x32_S2048x64_d1
/-- the signed sines, -/
def sinTable : FVec Ideal S2048x64 .f32 :=
  concatenate S2048x64 1 [⟨S2048x32, Host.negf (Host.sin angleTable)⟩, ⟨S2048x32, Host.sin angleTable⟩] concatenates_S2048x32_S2048x32_S2048x64_d1
/-- and either table for two heads, or transposed. -/
def twice (v : FVec Ideal S2048x64 .f32) : FVec Ideal S2048x128 .f32 := concatenate S2048x128 1 [⟨S2048x64, v⟩, ⟨S2048x64, v⟩] concatenates_S2048x64_S2048x64_S2048x128_d1
def turned (v : FVec Ideal S2048x64 .f32) : FVec Ideal S64x2048 .f32 := transpose S64x2048 [1, 0] v transposes_S2048x64_S64x2048_1_0

theorem cosTable_at (s : Fin 2048) (d : Fin 64) : cosTable (ix2 s d) = cosines (angles s) d := by
  unfold cosTable cosines angles
  generalize angleTable = a
  pointwise
  refine dite_of (fun h => ?_) fun h => ?_
  · exact congrArg (fun e => Ideal.cos (a (ix2 s e))) (Fin.ext (by show d.val = d.val % 32; omega))
  · exact congrArg (fun e => Ideal.cos (a (ix2 s e))) (Fin.ext (by show d.val - 32 = d.val % 32; omega))

theorem sinTable_at (s : Fin 2048) (d : Fin 64) : sinTable (ix2 s d) = sines (angles s) d := by
  unfold sinTable sines angles
  generalize angleTable = a
  pointwise
  refine dite_of (fun h => ?_) fun h => ?_
  · rw [if_pos h]
    exact congrArg (fun e => -Ideal.sin (a (ix2 s e))) (Fin.ext (by show d.val = d.val % 32; omega))
  · rw [if_neg h]
    exact congrArg (fun e => Ideal.sin (a (ix2 s e))) (Fin.ext (by show d.val - 32 = d.val % 32; omega))

theorem twice_at (v : FVec Ideal S2048x64 .f32) (s : Fin 2048) (j : Fin 128) (d : Fin 64) (h : d.val = j.val % 64) : twice v (ix2 s j) = v (ix2 s d) := by
  unfold twice
  pointwise
  refine dite_of (fun h0 => ?_) fun h0 => ?_
  all_goals exact congrArg (fun d => v (ix2 s d)) (Fin.ext (by dsimp only at *; omega))

theorem turned_at (v : FVec Ideal S2048x64 .f32) (s : Fin 2048) (d : Fin 64) : turned v (ix2 d s) = v (ix2 s d) := by
  unfold turned
  pointwise

/-! ## The staged arrays are these -/

variable (m : (ℓ : Loc nD τ sig) → Buf (Elt Ideal) ℓ) (c : Dev nD)

theorem V_gates : @Eq (FVec Ideal S1024x2816 .bf16) (V m c main_v10) (m ((c : Thread nD τ).loc main_arg4)) := by
  unfold V
  after_results_simp <;> rfl
theorem V_ups : @Eq (FVec Ideal S1024x2816 .bf16) (V m c main_v11) (m ((c : Thread nD τ).loc main_arg5)) := by
  unfold V
  after_results_simp <;> rfl
theorem V_downs : @Eq (FVec Ideal S2816x1024 .bf16) (V m c main_v12) (m ((c : Thread nD τ).loc main_arg6)) := by
  unfold V
  after_results_simp <;> rfl
theorem V_byRows : @Eq (FVec Ideal S1664x1024 .bf16) (V m c main_v6) (byRows (m ((c : Thread nD τ).loc main_arg7))) := by
  unfold V
  after_results_simp <;> rfl
theorem V_byCols : @Eq (FVec Ideal S1024x640 .bf16) (V m c main_v9) (byCols (m ((c : Thread nD τ).loc main_arg7))) := by
  unfold V
  after_results_simp <;> rfl
theorem V_cosTurned : @Eq (FVec Ideal S64x2048 .f32) (V m c main_v37) (turned cosTable) := by
  unfold V
  after_results_simp <;> rfl
theorem V_sinTurned : @Eq (FVec Ideal S64x2048 .f32) (V m c main_v38) (turned sinTable) := by
  unfold V
  after_results_simp <;> rfl
theorem V_cosTwice : @Eq (FVec Ideal S2048x128 .f32) (V m c main_v35) (twice cosTable) := by
  unfold V
  after_results_simp <;> rfl
theorem V_sinTwice : @Eq (FVec Ideal S2048x128 .f32) (V m c main_v36) (twice sinTable) := by
  unfold V
  after_results_simp <;> rfl

end Cert.Proof.Kernel3Ideal

end
-- ==== Proof.In.Array.lean ====
/-
  What a grid point of the call that begins a layer reads, and each group of 256 rows of its seven blocks at a place.
-/
module

public import proofs.«01_k».proof.Proof.In.Tables
public import proofs.«01_k».proof.Proof.Out.Array

@[expose] public section

set_option maxRecDepth 16384

noncomputable section

namespace Cert.Proof.Kernel3Ideal

open Cert.Kernel3Ideal Cert.Kernel3Ideal.Gen Cert.Kernel3Ideal.Value
open Idealize.ShloMosaic Idealize.ShloMosaic.TcCoe Idealize.SL.Sem Cert.Proof.Out Cert.Proof.In
open Cert.Proof.Kernel2Ideal (emb_mat)

variable (m : (ℓ : Loc nD τ sig) → Buf (Elt Ideal) ℓ) (c : Dev nD)

/-! ## The blocks at a point -/

theorem idx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem idx1 : ∀ t : Fin cfg0.N, win0_1.index t (0 : Fin 3) = t.val / 2 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = t.val % 2 := (by decide +kernel : ∀ t : Fin grid0.N, _)
theorem idx10 : ∀ t : Fin cfg0.N, win0_10.index t (0 : Fin 2) = 0 ∧ win0_10.index t (1 : Fin 2) = t.val % 2 := (by decide +kernel : ∀ t : Fin grid0.N, _)
theorem idx11 : ∀ t : Fin cfg0.N, win0_11.index t (0 : Fin 2) = t.val % 2 ∧ win0_11.index t (1 : Fin 2) = 0 := (by decide +kernel : ∀ t : Fin grid0.N, _)
theorem idx12 : ∀ t : Fin cfg0.N, win0_12.index t (0 : Fin 2) = t.val % 2 ∧ win0_12.index t (1 : Fin 2) = 0 := (by decide +kernel : ∀ t : Fin grid0.N, _)

theorem lt_N (t : Fin cfg0.N) : t.val < 64 := lt_of_lt_of_eq t.isLt N_0

/-- The batch element of a point, -/
def ptB (t : Fin cfg0.N) : Fin 32 := ⟨t.val / 2, by have := lt_N t; omega⟩
/-- and the place in the sequence that is row `r` of its block. -/
def ptS (t : Fin cfg0.N) (r : Fin 1024) : Fin 2048 := ⟨1024 * (t.val % 2) + r.val, by omega⟩

variable (t : Fin cfg0.N)

theorem iblk0_apply (r k : Fin 1024) : iblk m c 0 t (ix3 (n0 := 1) 0 r k) = m ((c : Thread nD τ).loc main_arg0) (ix3 (ptB t) (ptS t r) k) := by
  obtain ⟨e0, e1, e2⟩ := idx0 t
  show V m c main_arg0 (((cfg0.win 0).blk t).view.emb (ix3 (n0 := 1) 0 r k)) = _
  rw [V_main_arg0]
  refine congrArg _ (funext fun a => Fin.ext ?_)
  match a with
  | ⟨0, _⟩ => show win0_0.index t (0 : Fin 3) * 1 + 1 * 0 = t.val / 2; omega
  | ⟨1, _⟩ => show win0_0.index t (1 : Fin 3) * 1024 + 1 * r.val = 1024 * (t.val % 2) + r.val; omega
  | ⟨2, _⟩ => show win0_0.index t (2 : Fin 3) * 1024 + 1 * k.val = k.val; omega

theorem iblk1_apply (j : Fin 9) (k : Fin 1024) : iblk m c 1 t (ix3 (n0 := 1) 0 j k) = m ((c : Thread nD τ).loc main_arg1) (ix3 (ptB t) j k) := by
  obtain ⟨e0, e1, e2⟩ := idx1 t
  show V m c main_arg1 (((cfg0.win 1).blk t).view.emb (ix3 (n0 := 1) 0 j k)) = _
  rw [V_main_arg1]
  refine congrArg _ (funext fun a => Fin.ext ?_)
  match a with
  | ⟨0, _⟩ => show win0_1.index t (0 : Fin 3) * 1 + 1 * 0 = t.val / 2; omega
  | ⟨1, _⟩ => show win0_1.index t (1 : Fin 3) * 9 + 1 * j.val = j.val; omega
  | ⟨2, _⟩ => show win0_1.index t (2 : Fin 3) * 1024 + 1 * k.val = k.val; omega

theorem iblk2_eq : @Eq (FVec Ideal S3x1024 .f32) (iblk m c 2 t) (m ((c : Thread nD τ).loc main_arg2)) := by
  funext j
  show V m c main_arg2 (((cfg0.win 2).blk t).view.emb j) = _
  rw [emb_mat _ _ (idx2 t).1 (idx2 t).2 j (((cfg0.win 2).blk t).view.emb j) rfl rfl]
  exact congrFun (V_main_arg2 m c) j
theorem iblk3_eq : @Eq (FVec Ideal S3x1024 .f32) (iblk m c 3 t) (m ((c : Thread nD τ).loc main_arg3)) := by
  funext j
  show V m c main_arg3 (((cfg0.win 3).blk t).view.emb j) = _
  rw [emb_mat _ _ (idx3 t).1 (idx3 t).2 j (((cfg0.win 3).blk t).view.emb j) rfl rfl]
  exact congrFun (V_main_arg3 m c) j
theorem iblk4_eq : @Eq (FVec Ideal S1024x2816 .bf16) (iblk m c 4 t) (m ((c : Thread nD τ).loc main_arg4)) := by
  funext j
  show V m c main_v10 (((cfg0.win 4).blk t).view.emb j) = _
  rw [emb_mat _ _ (idx4 t).1 (idx4 t).2 j (((cfg0.win 4).blk t).view.emb j) rfl rfl]
  exact congrFun (V_gates m c) j
theorem iblk5_eq : @Eq (FVec Ideal S1024x2816 .bf16) (iblk m c 5 t) (m ((c : Thread nD τ).loc main_arg5)) := by
  funext j
  show V m c main_v11 (((cfg0.win 5).blk t).view.emb j) = _
  rw [emb_mat _ _ (idx5 t).1 (idx5 t).2 j (((cfg0.win 5).blk t).view.emb j) rfl rfl]
  exact congrFun (V_ups m c) j
theorem iblk6_eq : @Eq (FVec Ideal S2816x1024 .bf16) (iblk m c 6 t) (m ((c : Thread nD τ).loc main_arg6)) := by
  funext j
  show V m c main_v12 (((cfg0.win 6).blk t).view.emb j) = _
  rw [emb_mat _ _ (idx6 t).1 (idx6 t).2 j (((cfg0.win 6).blk t).view.emb j) rfl rfl]
  exact congrFun (V_downs m c) j
theorem iblk7_eq : @Eq (FVec Ideal S1664x1024 .bf16) (iblk m c 7 t) (byRows (m ((c : Thread nD τ).loc main_arg7))) := by
  funext j
  show V m c main_v6 (((cfg0.win 7).blk t).view.emb j) = _
  rw [emb_mat _ _ (idx7 t).1 (idx7 t).2 j (((cfg0.win 7).blk t).view.emb j) rfl rfl]
  exact congrFun (V_byRows m c) j
theorem iblk8_eq : @Eq (FVec Ideal S1024x640 .bf16) (iblk m c 8 t) (byCols (m ((c : Thread nD τ).loc main_arg7))) := by
  funext j
  show V m c main_v9 (((cfg0.win 8).blk t).view.emb j) = _
  rw [emb_mat _ _ (idx8 t).1 (idx8 t).2 j (((cfg0.win 8).blk t).view.emb j) rfl rfl]
  exact congrFun (V_byCols m c) j

theorem iblk9_apply (d : Fin 64) (r : Fin 1024) : iblk m c 9 t (ix2 d r) = cosines (angles (ptS t r)) d := by
  obtain ⟨e0, e1⟩ := idx9 t
  show V m c main_v37 (((cfg0.win 9).blk t).view.emb (ix2 d r)) = _
  rw [V_cosTurned, ← cosTable_at, ← turned_at cosTable]
  refine congrArg (turned cosTable) (funext fun a => Fin.ext ?_)
  match a with
  | ⟨0, _⟩ => show win0_9.index t (0 : Fin 2) * 64 + 1 * d.val = d.val; omega
  | ⟨1, _⟩ => show win0_9.index t (1 : Fin 2) * 1024 + 1 * r.val = 1024 * (t.val % 2) + r.val; omega

theorem iblk10_apply (d : Fin 64) (r : Fin 1024) : iblk m c 10 t (ix2 d r) = sines (angles (ptS t r)) d := by
  obtain ⟨e0, e1⟩ := idx10 t
  show V m c main_v38 (((cfg0.win 10).blk t).view.emb (ix2 d r)) = _
  rw [V_sinTurned, ← sinTable_at, ← turned_at sinTable]
  refine congrArg (turned sinTable) (funext fun a => Fin.ext ?_)
  match a with
  | ⟨0, _⟩ => show win0_10.index t (0 : Fin 2) * 64 + 1 * d.val = d.val; omega
  | ⟨1, _⟩ => show win0_10.index t (1 : Fin 2) * 1024 + 1 * r.val = 1024 * (t.val % 2) + r.val; omega

theorem iblk11_apply (r : Fin 1024) (j : Fin 128) (d : Fin 64) (h : d.val = j.val % 64) : iblk m c 11 t (ix2 r j) = cosines (angles (ptS t r)) d := by
  obtain ⟨e0, e1⟩ := idx11 t
  show V m c main_v35 (((cfg0.win 11).blk t).view.emb (ix2 r j)) = _
  rw [V_cosTwice, ← cosTable_at, ← twice_at cosTable _ j d h]
  refine congrArg (twice cosTable) (funext fun a => Fin.ext ?_)
  match a with
  | ⟨0, _⟩ => show win0_11.index t (0 : Fin 2) * 1024 + 1 * r.val = 1024 * (t.val % 2) + r.val; omega
  | ⟨1, _⟩ => show win0_11.index t (1 : Fin 2) * 128 + 1 * j.val = j.val; omega

theorem iblk12_apply (r : Fin 1024) (j : Fin 128) (d : Fin 64) (h : d.val = j.val % 64) : iblk m c 12 t (ix2 r j) = sines (angles (ptS t r)) d := by
  obtain ⟨e0, e1⟩ := idx12 t
  show V m c main_v36 (((cfg0.win 12).blk t).view.emb (ix2 r j)) = _
  rw [V_sinTwice, ← sinTable_at, ← twice_at sinTable _ j d h]
  refine congrArg (twice sinTable) (funext fun a => Fin.ext ?_)
  match a with
  | ⟨0, _⟩ => show win0_12.index t (0 : Fin 2) * 1024 + 1 * r.val = 1024 * (t.val % 2) + r.val; omega
  | ⟨1, _⟩ => show win0_12.index t (1 : Fin 2) * 128 + 1 * j.val = j.val; omega

/-! ## The rows -/

/-- A row after the gated part, -/
def row (b : Fin 32) (s : Fin 2048) : Fin 1024 → EReal :=
  fed (fun k => m ((c : Thread nD τ).loc main_arg0) (ix3 b s k)) (fun j k => m ((c : Thread nD τ).loc main_arg1) (ix3 b j k))
    (fun j k => m ((c : Thread nD τ).loc main_arg2) (ix2 j k)) (fun j k => m ((c : Thread nD τ).loc main_arg3) (ix2 j k))
    (fun k n => m ((c : Thread nD τ).loc main_arg4) (ix2 k n)) (fun k n => m ((c : Thread nD τ).loc main_arg5) (ix2 k n)) (fun n z => m ((c : Thread nD τ).loc main_arg6) (ix2 n z))

/-- as the attentions read it, -/
def mixRow (b : Fin 32) (s : Fin 2048) : Fin 1024 → EReal :=
  mix (row m c b s) (fun j k => m ((c : Thread nD τ).loc main_arg1) (ix3 b j k)) (fun j k => m ((c : Thread nD τ).loc main_arg2) (ix2 j k))

/-- the projection's columns, -/
abbrev cols (k : Fin 1024) (p : Fin 2304) : EReal := m ((c : Thread nD τ).loc main_arg7) (ix2 k p)

/-- and a row through the 64 columns from `o` on, rotated. -/
def headRow (b : Fin 32) (s : Fin 2048) (o : ℕ) (ho : o + 64 ≤ 2304) : Fin 64 → EReal := head (mixRow m c b s) (cols m c) o ho (angles s)

theorem headRow_congr (b : Fin 32) (s : Fin 2048) {o o' : ℕ} {ho : o + 64 ≤ 2304} {ho' : o' + 64 ≤ 2304} {d d' : Fin 64} (h : o = o') (hd : d.val = d'.val) :
    headRow m c b s o ho d = headRow m c b s o' ho' d' := head_congr _ _ _ h hd

/-- A row of weights that the point reads is a column of the projection. -/
theorem wtAt_apply (p q : ℕ) (hp) (hq : q + 512 ≤ 2304) (hpq : (p = 0 ∧ q = 0) ∨ (p = 512 ∧ q = 1024) ∨ (p = 1024 ∧ q = 1536)) (j : Fin 512) (k : Fin 1024) :
    wtAt m c t p hp (ix2 j k) = cols m c k ⟨q + j.val, by omega⟩ := by
  have hj := j.isLt
  refine (ld_mat (e' := .bf16) (n0 := 1664) (n1 := 1024) (l0 := 512) (l1 := 1024) (iblk m c 7 t) p 0 hp j k ⟨p + j.val, by omega⟩ k rfl (by omega)).trans ?_
  rw [iblk7_eq]
  exact byRows_at _ k _ _ (by dsimp only; omega)

section
variable (o : ℕ) (h : ∀ a, (![0, o, 0] : Fin 3 → ℕ) a + S1x256x1024.size a ≤ S1x1024x1024.size a) (i : Fin 256) (r : Fin 1024) (hr : r.val = o + i.val)

include hr in
theorem fedAt_apply (z : Fin 1024) : fedAt m c t o h (ix3 0 i z) = row m c (ptB t) (ptS t r) z := by
  refine (pay43_at _ _ _).trans ((fedRows_at _ _ _ _ _ _ _ o h i r hr z).trans ?_)
  rw [iblk2_eq, iblk3_eq, iblk4_eq, iblk5_eq, iblk6_eq]
  simp only [iblk0_apply, iblk1_apply]
  rfl

include hr in
theorem mixAt_apply (z : Fin 1024) : mixAt m c t o h (ix2 i z) = mixRow m c (ptB t) (ptS t r) z := by
  refine (mixRows_at _ _ _ _ _ _ _ o h i r hr z).trans ?_
  rw [iblk2_eq, iblk3_eq, iblk4_eq, iblk5_eq, iblk6_eq]
  simp only [iblk0_apply, iblk1_apply]
  rfl

/-! ## Queries -/

include hr in
theorem query_at (p q : ℕ) (hp) (hc) (hq : q + 512 ≤ 2304) (hpq : (p = 0 ∧ q = 0) ∨ (p = 512 ∧ q = 1024) ∨ (p = 1024 ∧ q = 1536)) (j : Fin 512) :
    queryCols (mixAt m c t o h) (wtAt m c t p hp) (colsAt9 m c t o hc) (colsAt10 m c t o hc) (ix4 0 0 j i)
      = headRow m c (ptB t) (ptS t r) (q + 64 * (j.val / 64)) (by omega) ⟨j.val % 64, Nat.mod_lt _ (by decide)⟩ * Ideal.ofBits .f32 0x3E38AA3B#32 := by
  refine (queryCols_at _ _ _ _ j i).trans ?_
  have e9 : ∀ d, colsAt9 m c t o hc (ix2 d i) = cosines (angles (ptS t r)) d := fun d =>
    (ld_mat (e' := .f32) (n0 := 64) (n1 := 1024) (l0 := 64) (l1 := 256) (iblk m c 9 t) 0 o hc d i d r (by omega) hr).trans (iblk9_apply m c t d r)
  have e10 : ∀ d, colsAt10 m c t o hc (ix2 d i) = sines (angles (ptS t r)) d := fun d =>
    (ld_mat (e' := .f32) (n0 := 64) (n1 := 1024) (l0 := 64) (l1 := 256) (iblk m c 10 t) 0 o hc d i d r (by omega) hr).trans (iblk10_apply m c t d r)
  simp only [e9, e10, mixAt_apply m c t o h i r hr, wtAt_apply m c t p q hp hq hpq, ← Nat.add_assoc]
  rfl

/-! ## Values -/

include hr in
theorem value_at (hp) (j : Fin 512) : k0_pay76 (F := Ideal) (mixAt m c t o h) (wtAt m c t 512 hp) (ix4 0 0 j i)
    = ∑ k, mixRow m c (ptB t) (ptS t r) k * cols m c k ⟨1024 + j.val, by omega⟩ := by
  refine (pay76_at _ _ j i).trans ?_
  simp only [mixAt_apply m c t o h i r hr, wtAt_apply m c t 512 1024 hp (by decide) (Or.inr (Or.inl ⟨rfl, rfl⟩))]

include hr in
theorem valueW_at (hp) (j : Fin 128) :
    k0_pay77 (F := Ideal) (mixAt m c t o h) (View.ld (Val := Elt Ideal) (e' := .bf16) (S := S1664x1024) (iblk m c 7 t) (Rect.unit ![1536, 0] S128x1024.size hp)) (ix4 0 0 j i)
    = ∑ k, mixRow m c (ptB t) (ptS t r) k * cols m c k ⟨2176 + j.val, by omega⟩ := by
  refine (pay77_at _ _ j i).trans (Finset.sum_congr rfl fun k _ => congrArg₂ (· * ·) (mixAt_apply m c t o h i r hr k) ?_)
  refine (ld_mat (e' := .bf16) (n0 := 1664) (n1 := 1024) (l0 := 128) (l1 := 1024) (iblk m c 7 t) 1536 0 hp j k ⟨1536 + j.val, by omega⟩ k rfl (by omega)).trans ?_
  rw [iblk7_eq]
  exact byRows_at _ k _ _ (by dsimp only; omega)

/-! ## Keys -/

include hr in
theorem key_at (hk) (q w : ℕ) (hq : q ≤ 512) (hw : w + 128 ≤ 2304) (hqw : (q + 128 ≤ 512 ∧ w = q + 512) ∨ (q = 512 ∧ w = 2048)) (j : Fin 128) :
    keyOf (mixAt m c t o h) (iblk m c 8 t) (rowsAt11 m c t o hk) (rowsAt12 m c t o hk) i j q hq
      = headRow m c (ptB t) (ptS t r) (w + 64 * (j.val / 64)) (by omega) ⟨j.val % 64, Nat.mod_lt _ (by decide)⟩ := by
  have hj := j.isLt
  have e11 : ∀ d : Fin 64, rowsAt11 m c t o hk (ix2 i ⟨64 * (j.val / 64) + d.val, by omega⟩) = cosines (angles (ptS t r)) d := fun d =>
    (ld_mat (e' := .f32) (n0 := 1024) (n1 := 128) (l0 := 256) (l1 := 128) (iblk m c 11 t) o 0 hk i ⟨64 * (j.val / 64) + d.val, by omega⟩ r ⟨64 * (j.val / 64) + d.val, by omega⟩ hr
      (by omega)).trans (iblk11_apply m c t r _ d (by dsimp only; omega))
  have e12 : ∀ d : Fin 64, rowsAt12 m c t o hk (ix2 i ⟨64 * (j.val / 64) + d.val, by omega⟩) = sines (angles (ptS t r)) d := fun d =>
    (ld_mat (e' := .f32) (n0 := 1024) (n1 := 128) (l0 := 256) (l1 := 128) (iblk m c 12 t) o 0 hk i ⟨64 * (j.val / 64) + d.val, by omega⟩ r ⟨64 * (j.val / 64) + d.val, by omega⟩ hr
      (by omega)).trans (iblk12_apply m c t r _ d (by dsimp only; omega))
  have e8 : ∀ (k : Fin 1024) (d : Fin 64), iblk m c 8 t (ix2 k ⟨q + (64 * (j.val / 64) + d.val), by omega⟩) = cols m c k ⟨w + 64 * (j.val / 64) + d.val, by omega⟩ := fun k d => by
    rw [iblk8_eq]
    exact byCols_at _ k _ _ (by dsimp only; omega)
  unfold keyOf
  simp only [e8, e11, e12, mixAt_apply m c t o h i r hr]
  rfl

end

end Cert.Proof.Kernel3Ideal

end
-- ==== Proof.In.Leaves.lean ====
/-
  What a grid point of the call that begins a layer leaves in its seven blocks, place by place.
-/
module

public import proofs.«01_k».proof.Proof.In.Array

@[expose] public section

set_option maxRecDepth 16384

noncomputable section

namespace Cert.Proof.Kernel3Ideal

open Cert.Kernel3Ideal Cert.Kernel3Ideal.Gen Cert.Kernel3Ideal.Value
open Idealize.ShloMosaic Idealize.ShloMosaic.TcCoe Idealize.SL.Sem Cert.Proof.Out Cert.Proof.In

/-! ## The last of several stores -/

/-- A place of a block under a list of stores to rectangles of its rows and columns: it is the first one's if that one holds it, and else the others'. -/
theorem canon3 {d1 d2 e1 e2 : ℕ} {e : EltTy} (o1 o2 : ℕ) (h : ∀ a, (![0, o1, o2] : Fin 3 → ℕ) a + (![1, e1, e2] : Fin 3 → ℕ) a ≤ (Shape.mk 3 ![1, d1, d2]).size a)
    (w : (Shape.mk 3 ![1, e1, e2]).Idx → Elt Ideal e) (L : List (View.Piece (Elt Ideal) (Shape.mk 3 ![1, d1, d2]) e)) (r : Fin d1) (z : Fin d2) (R : Elt Ideal e)
    (hw : ∀ (i : Fin e1) (j : Fin e2), r.val = o1 + i.val → z.val = o2 + j.val → w (ix3 0 i j) = R)
    (hL : ¬(o1 ≤ r.val ∧ r.val < o1 + e1 ∧ o2 ≤ z.val ∧ z.val < o2 + e2) → View.canon (Val := Elt Ideal) L (ix3 (n0 := 1) 0 r z) = R) :
    View.canon (Val := Elt Ideal) (⟨Rect.unit (s := Shape.mk 3 ![1, d1, d2]) ![0, o1, o2] ![1, e1, e2] h, w⟩ :: L) (ix3 (n0 := 1) 0 r z) = R := by
  by_cases hb : o1 ≤ r.val ∧ r.val < o1 + e1 ∧ o2 ≤ z.val ∧ z.val < o2 + e2
  · obtain ⟨b1, b2, b3, b4⟩ := hb
    have e0 : (ix3 (n0 := 1) 0 r z : (Shape.mk 3 ![1, d1, d2]).Idx)
        = (Rect.unit (s := Shape.mk 3 ![1, d1, d2]) ![0, o1, o2] ![1, e1, e2] h).emb (ix3 (n0 := 1) 0 ⟨r.val - o1, by omega⟩ ⟨z.val - o2, by omega⟩) := by
      funext a; apply Fin.ext
      match a with
      | ⟨0, _⟩ => rfl
      | ⟨1, _⟩ => show r.val = o1 + 1 * (r.val - o1); omega
      | ⟨2, _⟩ => show z.val = o2 + 1 * (z.val - o2); omega
    rw [e0]
    exact (View.canon_cons_emb _ _ _ _).trans (hw _ _ (by dsimp only; omega) (by dsimp only; omega))
  · refine (View.canon_cons_of_not_mem _ _ fun hm => hb ?_).trans (hL hb)
    have h1 := (Rect.mem_set_unit (inb := h).mp hm) (1 : Fin 3)
    have h2 := (Rect.mem_set_unit (inb := h).mp hm) (2 : Fin 3)
    change o1 ≤ r.val ∧ r.val < o1 + e1 at h1
    change o2 ≤ z.val ∧ z.val < o2 + e2 at h2
    exact ⟨h1.1, h1.2, h2.1, h2.2⟩

/-- The same for stores to some columns of one of a block's matrices. -/
theorem canon4 {d1 e2 d3 e3 : ℕ} {e : EltTy} (o1 o3 : ℕ)
    (h : ∀ a, (![0, o1, 0, o3] : Fin 4 → ℕ) a + (![1, 1, e2, e3] : Fin 4 → ℕ) a ≤ (Shape.mk 4 ![1, d1, e2, d3]).size a)
    (w : (Shape.mk 4 ![1, 1, e2, e3]).Idx → Elt Ideal e) (L : List (View.Piece (Elt Ideal) (Shape.mk 4 ![1, d1, e2, d3]) e)) (n : Fin d1) (j : Fin e2) (i : Fin d3) (R : Elt Ideal e)
    (hw : ∀ i' : Fin e3, n.val = o1 → i.val = o3 + i'.val → w (ix4 0 0 j i') = R)
    (hL : ¬(n.val = o1 ∧ o3 ≤ i.val ∧ i.val < o3 + e3) → View.canon (Val := Elt Ideal) L (ix4 (n0 := 1) 0 n j i) = R) :
    View.canon (Val := Elt Ideal) (⟨Rect.unit (s := Shape.mk 4 ![1, d1, e2, d3]) ![0, o1, 0, o3] ![1, 1, e2, e3] h, w⟩ :: L) (ix4 (n0 := 1) 0 n j i) = R := by
  by_cases hb : n.val = o1 ∧ o3 ≤ i.val ∧ i.val < o3 + e3
  · obtain ⟨b1, b2, b3⟩ := hb
    have e0 : (ix4 (n0 := 1) 0 n j i : (Shape.mk 4 ![1, d1, e2, d3]).Idx)
        = (Rect.unit (s := Shape.mk 4 ![1, d1, e2, d3]) ![0, o1, 0, o3] ![1, 1, e2, e3] h).emb (ix4 (n0 := 1) (n1 := 1) 0 0 j ⟨i.val - o3, by omega⟩) := by
      funext a; apply Fin.ext
      match a with
      | ⟨0, _⟩ => rfl
      | ⟨1, _⟩ => show n.val = o1 + 1 * 0; omega
      | ⟨2, _⟩ => show j.val = 0 + 1 * j.val; omega
      | ⟨3, _⟩ => show i.val = o3 + 1 * (i.val - o3); omega
    rw [e0]
    exact (View.canon_cons_emb _ _ _ _).trans (hw _ b1 (by dsimp only; omega))
  · refine (View.canon_cons_of_not_mem _ _ fun hm => hb ?_).trans (hL hb)
    have h1 := (Rect.mem_set_unit (inb := h).mp hm) (1 : Fin 4)
    have h3 := (Rect.mem_set_unit (inb := h).mp hm) (3 : Fin 4)
    change o1 ≤ n.val ∧ n.val < o1 + 1 at h1
    change o3 ≤ i.val ∧ i.val < o3 + e3 at h3
    exact ⟨by omega, h3.1, h3.2⟩

variable (m : (ℓ : Loc nD τ sig) → Buf (Elt Ideal) ℓ) (c : Dev nD)

/-! ## The results, place by place -/

/-- Queries of a row, from the columns from `o` on, -/
def query (b : Fin 32) (s : Fin 2048) (o : ℕ) (ho : o + 512 ≤ 2304) (j : Fin 512) : EReal :=
  headRow m c b s (o + 64 * (j.val / 64)) (by omega) ⟨j.val % 64, Nat.mod_lt _ (by decide)⟩ * Ideal.ofBits .f32 0x3E38AA3B#32
/-- its keys, -/
def key (b : Fin 32) (s : Fin 2048) (o w : ℕ) (ho : o + w ≤ 2304) (hw : w % 64 = 0) (j : Fin w) : EReal :=
  headRow m c b s (o + 64 * (j.val / 64)) (by omega) ⟨j.val % 64, Nat.mod_lt _ (by decide)⟩
/-- and its values. -/
def value (b : Fin 32) (s : Fin 2048) (p : Fin 2304) : EReal := ∑ k, mixRow m c b s k * cols m c k p

variable (t : Fin cfg0.N)

theorem leaves_fed (r z : Fin 1024) : (outsAt0 m c t).1 (ix3 (n0 := 1) 0 r z) = row m c (ptB t) (ptS t r) z := by
  have hlt := r.isLt
  have piece : ∀ o h (i : Fin 256) (j : Fin 1024), r.val = o + i.val → z.val = 0 + j.val → fedAt m c t o h (ix3 0 i j) = row m c (ptB t) (ptS t r) z := fun o h i j hr hz =>
    (fedAt_apply m c t o h i r hr j).trans (congrArg (row m c (ptB t) (ptS t r)) (Fin.ext (by omega)))
  rw [out_fed]
  refine canon3 768 0 _ _ _ r z _ (piece _ _) fun _ => canon3 512 0 _ _ _ r z _ (piece _ _) fun _ => canon3 256 0 _ _ _ r z _ (piece _ _) fun _ =>
    canon3 0 0 _ _ _ r z _ (piece _ _) fun _ => ?_
  omega

theorem query_piece (p q : ℕ) (hp) (hq : q + 512 ≤ 2304) (hpq : (p = 0 ∧ q = 0) ∨ (p = 512 ∧ q = 1024) ∨ (p = 1024 ∧ q = 1536)) (j : Fin 512) (s : Fin 2048) (o : ℕ) (h) (hc)
    (i' : Fin 256) (ho : o + 256 ≤ 1024) (hs : s.val = 1024 * (t.val % 2) + o + i'.val) :
    queryCols (mixAt m c t o h) (wtAt m c t p hp) (colsAt9 m c t o hc) (colsAt10 m c t o hc) (ix4 0 0 j i') = query m c (ptB t) s q hq j := by
  have e : ptS t ⟨o + i'.val, by omega⟩ = s := Fin.ext (by show 1024 * (t.val % 2) + (o + i'.val) = s.val; omega)
  rw [← e]
  exact query_at m c t o h i' ⟨o + i'.val, by omega⟩ rfl p q hp hc hq hpq j

theorem leaves_qa (n : Fin 4) (j : Fin 512) (i : Fin 256) (s : Fin 2048) (hs : s.val = 1024 * (t.val % 2) + 256 * n.val + i.val) :
    (outsAt0 m c t).2.1 (ix4 (n0 := 1) 0 n j i) = query m c (ptB t) s 0 (by decide) j := by
  have hn := n.isLt
  have hi := i.isLt
  rw [out_qa]
  refine canon4 3 0 _ _ _ n j i _ (fun i' h1 h3 => query_piece m c t 0 0 _ _ (by decide) j s 768 _ _ i' (by decide) (by omega)) fun _ =>
    canon4 2 0 _ _ _ n j i _ (fun i' h1 h3 => query_piece m c t 0 0 _ _ (by decide) j s 512 _ _ i' (by decide) (by omega)) fun _ =>
    canon4 1 0 _ _ _ n j i _ (fun i' h1 h3 => query_piece m c t 0 0 _ _ (by decide) j s 256 _ _ i' (by decide) (by omega)) fun _ =>
    canon4 0 0 _ _ _ n j i _ (fun i' h1 h3 => query_piece m c t 0 0 _ _ (by decide) j s 0 _ _ i' (by decide) (by omega)) fun _ => ?_
  omega

theorem leaves_qw (n : Fin 4) (j : Fin 512) (i : Fin 256) (s : Fin 2048) (hs : s.val = 1024 * (t.val % 2) + 256 * n.val + i.val) :
    (outsAt0 m c t).2.2.2.1 (ix4 (n0 := 1) 0 n j i) = query m c (ptB t) s 1536 (by decide) j := by
  have hn := n.isLt
  have hi := i.isLt
  rw [out_qw]
  refine canon4 3 0 _ _ _ n j i _ (fun i' h1 h3 => query_piece m c t 1024 1536 _ _ (by decide) j s 768 _ _ i' (by decide) (by omega)) fun _ =>
    canon4 2 0 _ _ _ n j i _ (fun i' h1 h3 => query_piece m c t 1024 1536 _ _ (by decide) j s 512 _ _ i' (by decide) (by omega)) fun _ =>
    canon4 1 0 _ _ _ n j i _ (fun i' h1 h3 => query_piece m c t 1024 1536 _ _ (by decide) j s 256 _ _ i' (by decide) (by omega)) fun _ =>
    canon4 0 0 _ _ _ n j i _ (fun i' h1 h3 => query_piece m c t 1024 1536 _ _ (by decide) j s 0 _ _ i' (by decide) (by omega)) fun _ => ?_
  omega

theorem leaves_va (n : Fin 2) (j : Fin 512) (i : Fin 512) (s : Fin 2048) (hs : s.val = 1024 * (t.val % 2) + 512 * n.val + i.val) :
    (outsAt0 m c t).2.2.1 (ix4 (n0 := 1) 0 n j i) = value m c (ptB t) s ⟨1024 + j.val, by omega⟩ := by
  have hn := n.isLt
  have hi := i.isLt
  have piece : ∀ o h (i' : Fin 256), o + 256 ≤ 1024 → s.val = 1024 * (t.val % 2) + o + i'.val →
      k0_pay76 (F := Ideal) (mixAt m c t o h) (wtAt m c t 512 inb_S1664x1024_S512x1024_512_0) (ix4 0 0 j i')
        = value m c (ptB t) s ⟨1024 + j.val, by omega⟩ := fun o h i' ho hs => by
    have e : ptS t ⟨o + i'.val, by omega⟩ = s := Fin.ext (by show 1024 * (t.val % 2) + (o + i'.val) = s.val; omega)
    rw [← e]
    exact value_at m c t o h i' ⟨o + i'.val, by omega⟩ rfl _ j
  rw [out_va]
  refine canon4 1 256 _ _ _ n j i _ (fun i' h1 h3 => piece 768 _ i' (by decide) (by omega)) fun _ => canon4 1 0 _ _ _ n j i _ (fun i' h1 h3 => piece 512 _ i' (by decide) (by omega)) fun _ =>
    canon4 0 256 _ _ _ n j i _ (fun i' h1 h3 => piece 256 _ i' (by decide) (by omega)) fun _ => canon4 0 0 _ _ _ n j i _ (fun i' h1 h3 => piece 0 _ i' (by decide) (by omega)) fun _ => ?_
  omega

theorem leaves_vw (n : Fin 2) (j : Fin 128) (i : Fin 512) (s : Fin 2048) (hs : s.val = 1024 * (t.val % 2) + 512 * n.val + i.val) :
    (outsAt0 m c t).2.2.2.2.1 (ix4 (n0 := 1) 0 n j i) = value m c (ptB t) s ⟨2176 + j.val, by omega⟩ := by
  have hn := n.isLt
  have hi := i.isLt
  have piece : ∀ o h (i' : Fin 256), o + 256 ≤ 1024 → s.val = 1024 * (t.val % 2) + o + i'.val →
      k0_pay77 (F := Ideal) (mixAt m c t o h) (View.ld (Val := Elt Ideal) (e' := .bf16) (S := S1664x1024) (iblk m c 7 t) (Rect.unit ![1536, 0] S128x1024.size inb_S1664x1024_S128x1024_1536_0)) (ix4 0 0 j i')
        = value m c (ptB t) s ⟨2176 + j.val, by omega⟩ := fun o h i' ho hs => by
    have e : ptS t ⟨o + i'.val, by omega⟩ = s := Fin.ext (by show 1024 * (t.val % 2) + (o + i'.val) = s.val; omega)
    rw [← e]
    exact valueW_at m c t o h i' ⟨o + i'.val, by omega⟩ rfl _ j
  rw [out_vw]
  refine canon4 1 256 _ _ _ n j i _ (fun i' h1 h3 => piece 768 _ i' (by decide) (by omega)) fun _ => canon4 1 0 _ _ _ n j i _ (fun i' h1 h3 => piece 512 _ i' (by decide) (by omega)) fun _ =>
    canon4 0 256 _ _ _ n j i _ (fun i' h1 h3 => piece 256 _ i' (by decide) (by omega)) fun _ => canon4 0 0 _ _ _ n j i _ (fun i' h1 h3 => piece 0 _ i' (by decide) (by omega)) fun _ => ?_
  omega

/-- A place of 128 columns of keys, among the first attention's 512. -/
theorem key_piece (q g : ℕ) (hq : q ≤ 512) (hg : q = 128 * g) (h4 : g < 4) (r : Fin 1024) (z : Fin 512) (o : ℕ) (h) (hk) (i : Fin 256) (j : Fin 128) (hr : r.val = o + i.val) (hz : z.val = q + j.val) :
    keyOf (mixAt m c t o h) (iblk m c 8 t) (rowsAt11 m c t o hk) (rowsAt12 m c t o hk) i j q hq = key m c (ptB t) (ptS t r) 512 512 (by decide) (by decide) z :=
  (key_at m c t o h i r hr hk q (q + 512) hq (by omega) (Or.inl ⟨by omega, rfl⟩) j).trans (headRow_congr m c _ _ (by omega) (by dsimp only; omega))

theorem leaves_ka (r : Fin 1024) (z : Fin 512) :
    (outsAt0 m c t).2.2.2.2.2.1 (ix3 (n0 := 1) 0 r z) = key m c (ptB t) (ptS t r) 512 512 (by decide) (by decide) z := by
  have hlt := r.isLt
  have hzt := z.isLt
  have group : ∀ (o : ℕ) (h) (hk) (h0 h1 h2 h3) (L : List (View.Piece (Elt Ideal) S1x1024x512 .bf16)),
      (¬(o ≤ r.val ∧ r.val < o + 256) → View.canon (Val := Elt Ideal) L (ix3 (n0 := 1) 0 r z) = key m c (ptB t) (ptS t r) 512 512 (by decide) (by decide) z) →
      View.canon (Val := Elt Ideal) (⟨Rect.unit (s := S1x1024x512) ![0, o, 384] ![1, 256, 128] h3, keyCols3 (mixAt m c t o h) (iblk m c 8 t) (rowsAt11 m c t o hk) (rowsAt12 m c t o hk)⟩
        :: ⟨Rect.unit (s := S1x1024x512) ![0, o, 256] ![1, 256, 128] h2, keyCols2 (mixAt m c t o h) (iblk m c 8 t) (rowsAt11 m c t o hk) (rowsAt12 m c t o hk)⟩
        :: ⟨Rect.unit (s := S1x1024x512) ![0, o, 128] ![1, 256, 128] h1, keyCols1 (mixAt m c t o h) (iblk m c 8 t) (rowsAt11 m c t o hk) (rowsAt12 m c t o hk)⟩
        :: ⟨Rect.unit (s := S1x1024x512) ![0, o, 0] ![1, 256, 128] h0, keyCols0 (mixAt m c t o h) (iblk m c 8 t) (rowsAt11 m c t o hk) (rowsAt12 m c t o hk)⟩ :: L) (ix3 (n0 := 1) 0 r z)
        = key m c (ptB t) (ptS t r) 512 512 (by decide) (by decide) z := fun o h hk h0 h1 h2 h3 L hL =>
    canon3 o 384 _ _ _ r z _ (fun i j hr hz => (keyCols3_at _ _ _ _ i j).trans (key_piece m c t 384 3 _ rfl (by decide) r z o h hk i j hr hz)) fun _ =>
    canon3 o 256 _ _ _ r z _ (fun i j hr hz => (keyCols2_at _ _ _ _ i j).trans (key_piece m c t 256 2 _ rfl (by decide) r z o h hk i j hr hz)) fun _ =>
    canon3 o 128 _ _ _ r z _ (fun i j hr hz => (keyCols1_at _ _ _ _ i j).trans (key_piece m c t 128 1 _ rfl (by decide) r z o h hk i j hr hz)) fun _ =>
    canon3 o 0 _ _ _ r z _ (fun i j hr hz => (keyCols0_at _ _ _ _ i j).trans (key_piece m c t 0 0 _ rfl (by decide) r z o h hk i j hr hz)) fun _ => hL (by omega)
  rw [out_ka]
  refine group 768 _ _ _ _ _ _ _ fun _ => group 512 _ _ _ _ _ _ _ fun _ => group 256 _ _ _ _ _ _ _ fun _ => group 0 _ _ _ _ _ _ _ fun _ => ?_
  omega

theorem leaves_kw (r : Fin 1024) (z : Fin 128) :
    (outsAt0 m c t).2.2.2.2.2.2 (ix3 (n0 := 1) 0 r z) = key m c (ptB t) (ptS t r) 2048 128 (by decide) (by decide) z := by
  have hlt := r.isLt
  have piece : ∀ o h hk (i : Fin 256) (j : Fin 128), r.val = o + i.val → z.val = 0 + j.val →
      keyCols4 (mixAt m c t o h) (iblk m c 8 t) (rowsAt11 m c t o hk) (rowsAt12 m c t o hk) (ix3 0 i j) = key m c (ptB t) (ptS t r) 2048 128 (by decide) (by decide) z := fun o h hk i j hr hz =>
    (keyCols4_at _ _ _ _ i j).trans ((key_at m c t o h i r hr hk 512 2048 _ (by decide) (Or.inr ⟨rfl, rfl⟩) j).trans (headRow_congr m c _ _ (by omega) (by dsimp only; omega)))
  rw [out_kw]
  refine canon3 768 0 _ _ _ r z _ (piece _ _ _) fun _ => canon3 512 0 _ _ _ r z _ (piece _ _ _) fun _ => canon3 256 0 _ _ _ r z _ (piece _ _ _) fun _ =>
    canon3 0 0 _ _ _ r z _ (piece _ _ _) fun _ => ?_
  omega

end Cert.Proof.Kernel3Ideal

end
-- ==== Proof.In.Result.lean ====
/-
  The seven result arrays of the call that begins a layer, over the extended reals.
-/
module

public import proofs.«01_k».proof.Proof.In.Leaves

@[expose] public section

set_option maxRecDepth 16384

noncomputable section

namespace Cert.Proof.Kernel3Ideal

open Cert.Kernel3Ideal Cert.Kernel3Ideal.Gen Cert.Kernel3Ideal.Value
open Idealize.ShloMosaic Idealize.ShloMosaic.TcCoe Idealize.SL.Sem Cert.Proof.Out Cert.Proof.In

/-! ## Where the blocks lie -/

theorem idx13 : ∀ t : Fin cfg0.N, win0_13.index t (0 : Fin 3) = t.val / 2 ∧ win0_13.index t (1 : Fin 3) = t.val % 2 ∧ win0_13.index t (2 : Fin 3) = 0 :=
  (by decide +kernel : ∀ t : Fin grid0.N, _)
theorem idx18 : ∀ t : Fin cfg0.N, win0_18.index t (0 : Fin 3) = t.val / 2 ∧ win0_18.index t (1 : Fin 3) = t.val % 2 ∧ win0_18.index t (2 : Fin 3) = 0 :=
  (by decide +kernel : ∀ t : Fin grid0.N, _)
theorem idx19 : ∀ t : Fin cfg0.N, win0_19.index t (0 : Fin 3) = t.val / 2 ∧ win0_19.index t (1 : Fin 3) = t.val % 2 ∧ win0_19.index t (2 : Fin 3) = 0 :=
  (by decide +kernel : ∀ t : Fin grid0.N, _)
theorem idx14 : ∀ t : Fin cfg0.N, win0_14.index t (0 : Fin 4) = t.val / 2 ∧ win0_14.index t (1 : Fin 4) = t.val % 2 ∧ win0_14.index t (2 : Fin 4) = 0 ∧ win0_14.index t (3 : Fin 4) = 0 :=
  (by decide +kernel : ∀ t : Fin grid0.N, _)
theorem idx15 : ∀ t : Fin cfg0.N, win0_15.index t (0 : Fin 4) = t.val / 2 ∧ win0_15.index t (1 : Fin 4) = t.val % 2 ∧ win0_15.index t (2 : Fin 4) = 0 ∧ win0_15.index t (3 : Fin 4) = 0 :=
  (by decide +kernel : ∀ t : Fin grid0.N, _)
theorem idx16 : ∀ t : Fin cfg0.N, win0_16.index t (0 : Fin 4) = t.val / 2 ∧ win0_16.index t (1 : Fin 4) = t.val % 2 ∧ win0_16.index t (2 : Fin 4) = 0 ∧ win0_16.index t (3 : Fin 4) = 0 :=
  (by decide +kernel : ∀ t : Fin grid0.N, _)
theorem idx17 : ∀ t : Fin cfg0.N, win0_17.index t (0 : Fin 4) = t.val / 2 ∧ win0_17.index t (1 : Fin 4) = t.val % 2 ∧ win0_17.index t (2 : Fin 4) = 0 ∧ win0_17.index t (3 : Fin 4) = 0 :=
  (by decide +kernel : ∀ t : Fin grid0.N, _)

/-- An index of a batch element's rows under a block of 1024 of them. -/
theorem emb_rows {d : ℕ} (k0 k1 k2 : ℕ) (t : Fin cfg0.N) (hk : k0 = t.val / 2 ∧ k1 = t.val % 2 ∧ k2 = 0) (r : Fin 1024) (z : Fin d) (i : (Shape.mk 3 ![32, 2048, d]).Idx)
    (h0 : (i 0).val = k0 * 1 + 1 * 0) (h1 : (i 1).val = k1 * 1024 + 1 * r.val) (h2 : (i 2).val = k2 * d + 1 * z.val) : i = ix3 (ptB t) (ptS t r) z := by
  obtain ⟨rfl, rfl, rfl⟩ := hk
  funext a; apply Fin.ext
  match a with
  | ⟨0, _⟩ => exact h0.trans (by show t.val / 2 * 1 + 1 * 0 = t.val / 2; omega)
  | ⟨1, _⟩ => exact h1.trans (by show t.val % 2 * 1024 + 1 * r.val = 1024 * (t.val % 2) + r.val; omega)
  | ⟨2, _⟩ => exact h2.trans (by show 0 * d + 1 * z.val = z.val; omega)

/-- The tile of the array that is tile `n` of a point's block of `a` tiles. -/
def ptT (t : Fin cfg0.N) (a : ℕ) (n : Fin a) : Fin (2 * a) := ⟨t.val % 2 * a + n.val, by
  have h : t.val % 2 = 0 ∨ t.val % 2 = 1 := by omega
  rcases h with h | h <;> rw [h] <;> omega⟩

/-- An index of a batch element's tiles under a block of `a` of them. -/
theorem emb_tiles {a d1 d e : ℕ} (hd : d1 = 2 * a) (k0 k1 k2 k3 : ℕ) (t : Fin cfg0.N) (hk : k0 = t.val / 2 ∧ k1 = t.val % 2 ∧ k2 = 0 ∧ k3 = 0) (n : Fin a) (j : Fin d) (s : Fin e)
    (i : (Shape.mk 4 ![32, d1, d, e]).Idx)
    (h0 : (i 0).val = k0 * 1 + 1 * 0) (h1 : (i 1).val = k1 * a + 1 * n.val) (h2 : (i 2).val = k2 * d + 1 * j.val) (h3 : (i 3).val = k3 * e + 1 * s.val) :
    i = ix4 (ptB t) (Fin.cast hd.symm (ptT t a n)) j s := by
  obtain ⟨rfl, rfl, rfl, rfl⟩ := hk
  funext x; apply Fin.ext
  match x with
  | ⟨0, _⟩ => exact h0.trans (by show t.val / 2 * 1 + 1 * 0 = t.val / 2; omega)
  | ⟨1, _⟩ => exact h1.trans (by show t.val % 2 * a + 1 * n.val = t.val % 2 * a + n.val; omega)
  | ⟨2, _⟩ => exact h2.trans (by show 0 * d + 1 * j.val = j.val; omega)
  | ⟨3, _⟩ => exact h3.trans (by show 0 * e + 1 * s.val = s.val; omega)

/-- Every row of every batch element is a row of some point's block, -/
theorem rows_covered (b : Fin 32) (s : Fin 2048) : ∃ (t : Fin cfg0.N) (r : Fin 1024), ptB t = b ∧ ptS t r = s := by
  obtain ⟨t, ht⟩ : ∃ t : Fin cfg0.N, t.val = 2 * b.val + s.val / 1024 := ⟨⟨_, lt_of_lt_of_eq (by omega) N_0.symm⟩, rfl⟩
  exact ⟨t, ⟨s.val % 1024, Nat.mod_lt _ (by decide)⟩, Fin.ext (by show t.val / 2 = b.val; omega), Fin.ext (by show 1024 * (t.val % 2) + s.val % 1024 = s.val; omega)⟩

/-- and every tile is a tile of some point's block. -/
theorem tiles_covered {a d1 : ℕ} (hd : d1 = 2 * a) (b : Fin 32) (n : Fin d1) : ∃ (t : Fin cfg0.N) (n' : Fin a), ptB t = b ∧ Fin.cast hd.symm (ptT t a n') = n := by
  obtain ⟨q, n', hq, hn⟩ : ∃ (q : ℕ) (n' : Fin a), q < 2 ∧ n.val = q * a + n'.val := by
    have h := n.isLt
    by_cases h' : n.val < a
    · exact ⟨0, ⟨n.val, h'⟩, by decide, by show n.val = 0 * a + n.val; omega⟩
    · exact ⟨1, ⟨n.val - a, by omega⟩, by decide, by show n.val = 1 * a + (n.val - a); omega⟩
  obtain ⟨t, ht⟩ : ∃ t : Fin cfg0.N, t.val = 2 * b.val + q := ⟨⟨_, lt_of_lt_of_eq (by omega) N_0.symm⟩, rfl⟩
  have e : t.val % 2 = q := by omega
  exact ⟨t, n', Fin.ext (by show t.val / 2 = b.val; omega), Fin.ext (by show t.val % 2 * a + n'.val = n.val; rw [e, hn])⟩

/-- The indices of one batch element's block, by their last two or three coordinates. -/
theorem ix3_one {d1 d2 : ℕ} (y : (Shape.mk 3 ![1, d1, d2]).Idx) : ∃ r z, y = ix3 (n0 := 1) (n1 := d1) (n2 := d2) 0 r z :=
  ⟨y 1, y 2, (eq_ix3 y).trans (congrArg (ix3 · _ _) (Subsingleton.elim (α := Fin 1) _ _))⟩
theorem ix4_one {d1 d2 d3 : ℕ} (y : (Shape.mk 4 ![1, d1, d2, d3]).Idx) : ∃ n j i, y = ix4 (n0 := 1) (n1 := d1) (n2 := d2) (n3 := d3) 0 n j i :=
  ⟨y 1, y 2, y 3, (eq_ix4 y).trans (congrArg (ix4 · _ _ _) (Subsingleton.elim (α := Fin 1) _ _))⟩

variable (m : (ℓ : Loc nD τ sig) → Buf (Elt Ideal) ℓ) (c : Dev nD)

/-! ## The results -/

/-- The layer's rows after their first feed-forward part, -/
def rows : S32x2048x1024.Idx → EReal := fun y => row m c (y 0) (y 1) (y 2)
/-- queries in tiles of 256 positions, from the columns from `o` on, -/
def queries (o : ℕ) (ho : o + 512 ≤ 2304) : S32x8x512x256.Idx → EReal := fun y =>
  query m c (y 0) ⟨256 * (y 1).val + (y 3).val, by have h1 : (y 1).val < 8 := (y 1).isLt; have h3 : (y 3).val < 256 := (y 3).isLt; omega⟩ o ho (y 2)
/-- the values of both attentions in tiles of 512, -/
def values {w : ℕ} (o : ℕ) (ho : o + w ≤ 2304) : (Shape.mk 4 ![32, 4, w, 512]).Idx → EReal := fun y =>
  value m c (y 0) ⟨512 * (y 1).val + (y 3).val, by have h1 : (y 1).val < 4 := (y 1).isLt; have h3 : (y 3).val < 512 := (y 3).isLt; omega⟩
    ⟨o + (y 2).val, by have h2 : (y 2).val < w := (y 2).isLt; omega⟩
/-- and their keys. -/
def keys {w : ℕ} (o : ℕ) (ho : o + w ≤ 2304) (hw : w % 64 = 0) : (Shape.mk 3 ![32, 2048, w]).Idx → EReal := fun y => key m c (y 0) (y 1) o w ho hw (y 2)

variable (t : Fin cfg0.N)

theorem emb13 (r : Fin 1024) (z : Fin 1024) : ((cfg0.win 13).blk t).view.emb (ix3 (n0 := 1) 0 r z) = ix3 (ptB t) (ptS t r) z :=
  emb_rows _ _ _ t (idx13 t) r z _ rfl rfl rfl

theorem flushed_eq13 : (dats m 0 c).flushed 13 t = ((cfg0.win 13).blk t).view.read (Elt Ideal) (rows m c) := by
  rw [flushed13]
  funext y
  obtain ⟨r, z, rfl⟩ := ix3_one (d1 := 1024) (d2 := 1024) y
  show (outsAt0 m c t).1 (ix3 (n0 := 1) 0 r z) = (rows m c) (((cfg0.win 13).blk t).view.emb (ix3 (n0 := 1) 0 r z))
  rw [leaves_fed, emb13]
  rfl

omit t in
theorem final13 : (dats m 0 c).arrAt 13 cfg0.N = rows m c := by
  refine (dats m 0 c).arrAt_eq_of_cover 13 (rows m c) (fun t _ => flushed_eq13 m c t) fun i => ?_
  obtain ⟨t, r, hb, hs⟩ := rows_covered (i 0) (i 1)
  have e : ((cfg0.win 13).blk t).view.emb (ix3 (n0 := 1) (n1 := 1024) (n2 := 1024) 0 r (i 2)) = i := by
    refine (emb13 t _ _).trans ?_
    rw [hb, hs]
    exact (eq_ix3 (n0 := 32) (n1 := 2048) (n2 := 1024) i).symm
  exact ⟨t, flush0_13 t, e ▸ ((cfg0.win 13).blk t).view.emb_mem_set _⟩

theorem emb14 (n : Fin 4) (j : Fin 512) (s : Fin 256) :
    ((cfg0.win 14).blk t).view.emb (ix4 (n0 := 1) 0 n j s) = ix4 (ptB t) (Fin.cast (rfl : 2 * 4 = 8) (ptT t 4 n)) j s :=
  emb_tiles rfl _ _ _ _ t (idx14 t) n j s _ rfl rfl rfl rfl

theorem flushed_eq14 : (dats m 0 c).flushed 14 t = ((cfg0.win 14).blk t).view.read (Elt Ideal) (queries m c 0 (by decide)) := by
  rw [flushed14]
  funext y
  obtain ⟨n, j, i, rfl⟩ := ix4_one (d1 := 4) (d2 := 512) (d3 := 256) y
  show (outsAt0 m c t).2.1 (ix4 (n0 := 1) 0 n j i) = (queries m c 0 (by decide)) (((cfg0.win 14).blk t).view.emb (ix4 (n0 := 1) 0 n j i))
  rw [emb14]
  exact leaves_qa m c t n j i _ (by show 256 * (t.val % 2 * 4 + n.val) + i.val = 1024 * (t.val % 2) + 256 * n.val + i.val; omega)

omit t in
theorem final14 : (dats m 0 c).arrAt 14 cfg0.N = queries m c 0 (by decide) := by
  refine (dats m 0 c).arrAt_eq_of_cover 14 (queries m c 0 (by decide)) (fun t _ => flushed_eq14 m c t) fun i => ?_
  obtain ⟨t, n, hb, hn⟩ := tiles_covered (a := 4) rfl (i 0) (i 1)
  have e : ((cfg0.win 14).blk t).view.emb (ix4 (n0 := 1) (n1 := 4) (n2 := 512) (n3 := 256) 0 n (i 2) (i 3)) = i := by
    refine (emb14 t _ _ _).trans ?_
    rw [hb, hn]
    exact (eq_ix4 (n0 := 32) (n1 := 8) (n2 := 512) (n3 := 256) i).symm
  exact ⟨t, flush0_14 t, e ▸ ((cfg0.win 14).blk t).view.emb_mem_set _⟩

theorem emb15 (n : Fin 2) (j : Fin 512) (s : Fin 512) :
    ((cfg0.win 15).blk t).view.emb (ix4 (n0 := 1) 0 n j s) = ix4 (ptB t) (Fin.cast (rfl : 2 * 2 = 4) (ptT t 2 n)) j s :=
  emb_tiles rfl _ _ _ _ t (idx15 t) n j s _ rfl rfl rfl rfl

theorem flushed_eq15 : (dats m 0 c).flushed 15 t = ((cfg0.win 15).blk t).view.read (Elt Ideal) (values (w := 512) m c 1024 (by decide)) := by
  rw [flushed15]
  funext y
  obtain ⟨n, j, i, rfl⟩ := ix4_one (d1 := 2) (d2 := 512) (d3 := 512) y
  show (outsAt0 m c t).2.2.1 (ix4 (n0 := 1) 0 n j i) = (values (w := 512) m c 1024 (by decide)) (((cfg0.win 15).blk t).view.emb (ix4 (n0 := 1) 0 n j i))
  rw [emb15]
  exact leaves_va m c t n j i _ (by show 512 * (t.val % 2 * 2 + n.val) + i.val = 1024 * (t.val % 2) + 512 * n.val + i.val; omega)

omit t in
theorem final15 : (dats m 0 c).arrAt 15 cfg0.N = values (w := 512) m c 1024 (by decide) := by
  refine (dats m 0 c).arrAt_eq_of_cover 15 (values (w := 512) m c 1024 (by decide)) (fun t _ => flushed_eq15 m c t) fun i => ?_
  obtain ⟨t, n, hb, hn⟩ := tiles_covered (a := 2) rfl (i 0) (i 1)
  have e : ((cfg0.win 15).blk t).view.emb (ix4 (n0 := 1) (n1 := 2) (n2 := 512) (n3 := 512) 0 n (i 2) (i 3)) = i := by
    refine (emb15 t _ _ _).trans ?_
    rw [hb, hn]
    exact (eq_ix4 (n0 := 32) (n1 := 4) (n2 := 512) (n3 := 512) i).symm
  exact ⟨t, flush0_15 t, e ▸ ((cfg0.win 15).blk t).view.emb_mem_set _⟩

theorem emb16 (n : Fin 4) (j : Fin 512) (s : Fin 256) :
    ((cfg0.win 16).blk t).view.emb (ix4 (n0 := 1) 0 n j s) = ix4 (ptB t) (Fin.cast (rfl : 2 * 4 = 8) (ptT t 4 n)) j s :=
  emb_tiles rfl _ _ _ _ t (idx16 t) n j s _ rfl rfl rfl rfl

theorem flushed_eq16 : (dats m 0 c).flushed 16 t = ((cfg0.win 16).blk t).view.read (Elt Ideal) (queries m c 1536 (by decide)) := by
  rw [flushed16]
  funext y
  obtain ⟨n, j, i, rfl⟩ := ix4_one (d1 := 4) (d2 := 512) (d3 := 256) y
  show (outsAt0 m c t).2.2.2.1 (ix4 (n0 := 1) 0 n j i) = (queries m c 1536 (by decide)) (((cfg0.win 16).blk t).view.emb (ix4 (n0 := 1) 0 n j i))
  rw [emb16]
  exact leaves_qw m c t n j i _ (by show 256 * (t.val % 2 * 4 + n.val) + i.val = 1024 * (t.val % 2) + 256 * n.val + i.val; omega)

omit t in
theorem final16 : (dats m 0 c).arrAt 16 cfg0.N = queries m c 1536 (by decide) := by
  refine (dats m 0 c).arrAt_eq_of_cover 16 (queries m c 1536 (by decide)) (fun t _ => flushed_eq16 m c t) fun i => ?_
  obtain ⟨t, n, hb, hn⟩ := tiles_covered (a := 4) rfl (i 0) (i 1)
  have e : ((cfg0.win 16).blk t).view.emb (ix4 (n0 := 1) (n1 := 4) (n2 := 512) (n3 := 256) 0 n (i 2) (i 3)) = i := by
    refine (emb16 t _ _ _).trans ?_
    rw [hb, hn]
    exact (eq_ix4 (n0 := 32) (n1 := 8) (n2 := 512) (n3 := 256) i).symm
  exact ⟨t, flush0_16 t, e ▸ ((cfg0.win 16).blk t).view.emb_mem_set _⟩

theorem emb17 (n : Fin 2) (j : Fin 128) (s : Fin 512) :
    ((cfg0.win 17).blk t).view.emb (ix4 (n0 := 1) 0 n j s) = ix4 (ptB t) (Fin.cast (rfl : 2 * 2 = 4) (ptT t 2 n)) j s :=
  emb_tiles rfl _ _ _ _ t (idx17 t) n j s _ rfl rfl rfl rfl

theorem flushed_eq17 : (dats m 0 c).flushed 17 t = ((cfg0.win 17).blk t).view.read (Elt Ideal) (values (w := 128) m c 2176 (by decide)) := by
  rw [flushed17]
  funext y
  obtain ⟨n, j, i, rfl⟩ := ix4_one (d1 := 2) (d2 := 128) (d3 := 512) y
  show (outsAt0 m c t).2.2.2.2.1 (ix4 (n0 := 1) 0 n j i) = (values (w := 128) m c 2176 (by decide)) (((cfg0.win 17).blk t).view.emb (ix4 (n0 := 1) 0 n j i))
  rw [emb17]
  exact leaves_vw m c t n j i _ (by show 512 * (t.val % 2 * 2 + n.val) + i.val = 1024 * (t.val % 2) + 512 * n.val + i.val; omega)

omit t in
theorem final17 : (dats m 0 c).arrAt 17 cfg0.N = values (w := 128) m c 2176 (by decide) := by
  refine (dats m 0 c).arrAt_eq_of_cover 17 (values (w := 128) m c 2176 (by decide)) (fun t _ => flushed_eq17 m c t) fun i => ?_
  obtain ⟨t, n, hb, hn⟩ := tiles_covered (a := 2) rfl (i 0) (i 1)
  have e : ((cfg0.win 17).blk t).view.emb (ix4 (n0 := 1) (n1 := 2) (n2 := 128) (n3 := 512) 0 n (i 2) (i 3)) = i := by
    refine (emb17 t _ _ _).trans ?_
    rw [hb, hn]
    exact (eq_ix4 (n0 := 32) (n1 := 4) (n2 := 128) (n3 := 512) i).symm
  exact ⟨t, flush0_17 t, e ▸ ((cfg0.win 17).blk t).view.emb_mem_set _⟩

theorem emb18 (r : Fin 1024) (z : Fin 512) : ((cfg0.win 18).blk t).view.emb (ix3 (n0 := 1) 0 r z) = ix3 (ptB t) (ptS t r) z :=
  emb_rows _ _ _ t (idx18 t) r z _ rfl rfl rfl

theorem flushed_eq18 : (dats m 0 c).flushed 18 t = ((cfg0.win 18).blk t).view.read (Elt Ideal) (keys (w := 512) m c 512 (by decide) (by decide)) := by
  rw [flushed18]
  funext y
  obtain ⟨r, z, rfl⟩ := ix3_one (d1 := 1024) (d2 := 512) y
  show (outsAt0 m c t).2.2.2.2.2.1 (ix3 (n0 := 1) 0 r z) = (keys (w := 512) m c 512 (by decide) (by decide)) (((cfg0.win 18).blk t).view.emb (ix3 (n0 := 1) 0 r z))
  rw [leaves_ka, emb18]
  rfl

omit t in
theorem final18 : (dats m 0 c).arrAt 18 cfg0.N = keys (w := 512) m c 512 (by decide) (by decide) := by
  refine (dats m 0 c).arrAt_eq_of_cover 18 (keys (w := 512) m c 512 (by decide) (by decide)) (fun t _ => flushed_eq18 m c t) fun i => ?_
  obtain ⟨t, r, hb, hs⟩ := rows_covered (i 0) (i 1)
  have e : ((cfg0.win 18).blk t).view.emb (ix3 (n0 := 1) (n1 := 1024) (n2 := 512) 0 r (i 2)) = i := by
    refine (emb18 t _ _).trans ?_
    rw [hb, hs]
    exact (eq_ix3 (n0 := 32) (n1 := 2048) (n2 := 512) i).symm
  exact ⟨t, flush0_18 t, e ▸ ((cfg0.win 18).blk t).view.emb_mem_set _⟩

theorem emb19 (r : Fin 1024) (z : Fin 128) : ((cfg0.win 19).blk t).view.emb (ix3 (n0 := 1) 0 r z) = ix3 (ptB t) (ptS t r) z :=
  emb_rows _ _ _ t (idx19 t) r z _ rfl rfl rfl

theorem flushed_eq19 : (dats m 0 c).flushed 19 t = ((cfg0.win 19).blk t).view.read (Elt Ideal) (keys (w := 128) m c 2048 (by decide) (by decide)) := by
  rw [flushed19]
  funext y
  obtain ⟨r, z, rfl⟩ := ix3_one (d1 := 1024) (d2 := 128) y
  show (outsAt0 m c t).2.2.2.2.2.2 (ix3 (n0 := 1) 0 r z) = (keys (w := 128) m c 2048 (by decide) (by decide)) (((cfg0.win 19).blk t).view.emb (ix3 (n0 := 1) 0 r z))
  rw [leaves_kw, emb19]
  rfl

omit t in
theorem final19 : (dats m 0 c).arrAt 19 cfg0.N = keys (w := 128) m c 2048 (by decide) (by decide) := by
  refine (dats m 0 c).arrAt_eq_of_cover 19 (keys (w := 128) m c 2048 (by decide) (by decide)) (fun t _ => flushed_eq19 m c t) fun i => ?_
  obtain ⟨t, r, hb, hs⟩ := rows_covered (i 0) (i 1)
  have e : ((cfg0.win 19).blk t).view.emb (ix3 (n0 := 1) (n1 := 1024) (n2 := 128) 0 r (i 2)) = i := by
    refine (emb19 t _ _).trans ?_
    rw [hb, hs]
    exact (eq_ix3 (n0 := 32) (n1 := 2048) (n2 := 128) i).symm
  exact ⟨t, flush0_19 t, e ▸ ((cfg0.win 19).blk t).view.emb_mem_set _⟩

end Cert.Proof.Kernel3Ideal

end
-- ==== Proof.In.Algebraic.lean ====
/-
  The result arrays of the call that begins a layer and its reference's are equal on all arguments.
-/
module

public import proofs.«01_k».proof.Defs
public import proofs.«01_k».proof.Proof.In.Reference
public import proofs.«01_k».proof.Proof.In.Result

@[expose] public section

set_option maxRecDepth 16384

noncomputable section

namespace Cert.Proof.In

open Idealize.ShloMosaic Idealize.SL.Sem
open Cert.Kernel3Ideal (nD τ sig main_arg0 main_arg1 main_arg2 main_arg3 main_arg4 main_arg5 main_arg6 main_arg7)
open Cert.Reference3Ideal.Read
open Cert.Proof.Kernel3Ideal (rows queries values keys headRow)

/-- Both texts turn by the same angles. -/
theorem angles_eq : Cert.Proof.Reference3Ideal.angles = Cert.Proof.Kernel3Ideal.angles := rfl

variable (m : (ℓ : Loc nD τ sig) → Buf (Elt Ideal) ℓ) (c : Dev nD)

theorem rows_eq : val_main_v77 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) = rows m c := by
  funext i
  rw [eq_ix3 (n0 := 32) (n1 := 2048) (n2 := 1024) i]
  exact Cert.Proof.Reference3Ideal.row_at _ _ _ _ _ _ _ _ _ _

/-- A row through 64 columns and rotated, in both texts. -/
theorem head_eq (b : Fin 32) (s : Fin 2048) (o : ℕ) (ho : o + 64 ≤ 2304) :
    head (Cert.Proof.Reference3Ideal.mixRow (m (c.tc.loc main_arg0)) (m (c.tc.loc main_arg1)) (m (c.tc.loc main_arg2)) (m (c.tc.loc main_arg3)) (m (c.tc.loc main_arg4))
      (m (c.tc.loc main_arg5)) (m (c.tc.loc main_arg6)) b s) (fun k p => m (c.tc.loc main_arg7) (ix2 k p)) o ho (Cert.Proof.Reference3Ideal.angles s) = headRow m c b s o ho := by
  rw [angles_eq]
  rfl

theorem queriesA_eq : val_main_v127 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) = queries m c 0 (by decide) := by
  funext i
  rw [eq_ix4 (n0 := 32) (n1 := 8) (n2 := 512) (n3 := 256) i]
  exact (Cert.Proof.Reference3Ideal.v127_at _ _ _ _ _ _ _ _ _ _ _ _).trans (congrArg (· * Ideal.ofBits .f32 0x3E38AA3B#32)
    ((congrFun (head_eq m c (i 0) _ _ _) _).trans (Cert.Proof.Kernel3Ideal.headRow_congr m c _ _ (Nat.zero_add _).symm rfl)))

theorem queriesW_eq : val_main_v146 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) = queries m c 1536 (by decide) := by
  funext i
  rw [eq_ix4 (n0 := 32) (n1 := 8) (n2 := 512) (n3 := 256) i]
  exact (Cert.Proof.Reference3Ideal.v146_at _ _ _ _ _ _ _ _ _ _ _ _).trans (congrArg (· * Ideal.ofBits .f32 0x3E38AA3B#32) (congrFun (head_eq m c (i 0) _ _ _) _))

theorem valuesA_eq : val_main_v130 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) = values (w := 512) m c 1024 (by decide) := by
  funext i
  rw [eq_ix4 (n0 := 32) (n1 := 4) (n2 := 512) (n3 := 512) i]
  exact Cert.Proof.Reference3Ideal.v130_at _ _ _ _ _ _ _ _ _ _ _ _

theorem valuesW_eq : val_main_v149 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) = values (w := 128) m c 2176 (by decide) := by
  funext i
  rw [eq_ix4 (n0 := 32) (n1 := 4) (n2 := 128) (n3 := 512) i]
  exact Cert.Proof.Reference3Ideal.v149_at _ _ _ _ _ _ _ _ _ _ _ _

theorem keysA_eq : val_main_v161 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) = keys (w := 512) m c 512 (by decide) (by decide) := by
  funext i
  rw [eq_ix3 (n0 := 32) (n1 := 2048) (n2 := 512) i]
  exact (Cert.Proof.Reference3Ideal.v161_at _ _ _ _ _ _ _ _ _ _ _).trans (congrFun (head_eq m c (i 0) (i 1) _ _) _)

theorem keysW_eq : val_main_v173 (F := Ideal) (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) = keys (w := 128) m c 2048 (by decide) (by decide) := by
  funext i
  rw [eq_ix3 (n0 := 32) (n1 := 2048) (n2 := 128) i]
  exact (Cert.Proof.Reference3Ideal.v173_at _ _ _ _ _ _ _ _ _ _ _).trans (congrFun (head_eq m c (i 0) (i 1) _ _) _)

/-- Both runs end with the same seven arrays. -/
theorem algebraic : Cert.algebraic_Kernel3Ideal_Reference3Ideal := by
  intro m ρ m' ρ' _ hag
  refine ⟨fun c => rows m c, fun c => queries m c 0 (by decide), fun c => values (w := 512) m c 1024 (by decide), fun c => queries m c 1536 (by decide),
    fun c => values (w := 128) m c 2176 (by decide), fun c => keys (w := 512) m c 512 (by decide) (by decide), fun c => keys (w := 128) m c 2048 (by decide) (by decide), ?_, ?_⟩
  · refine (θ_run Cert.Kernel3Ideal.defs _ _).mono (fun r h c => ?_) (Cert.Kernel3Ideal.Value.run_blocks m ρ)
    obtain ⟨h0, h1, h2, h3, h4, h5, h6, h⟩ := h c
    exact ⟨h0.trans (Cert.Proof.Kernel3Ideal.final13 m c), h1.trans (Cert.Proof.Kernel3Ideal.final14 m c), h2.trans (Cert.Proof.Kernel3Ideal.final15 m c),
      h3.trans (Cert.Proof.Kernel3Ideal.final16 m c), h4.trans (Cert.Proof.Kernel3Ideal.final17 m c), h5.trans (Cert.Proof.Kernel3Ideal.final18 m c),
      h6.trans (Cert.Proof.Kernel3Ideal.final19 m c), h⟩
  · refine (θ_run Cert.Reference3Ideal.defs _ _).mono (fun r h c => ?_) (Cert.Reference3Ideal.Value.run (F := Ideal) m' ρ')
    obtain ⟨h0, h1, h2, h3, h4, h5, h6, h⟩ := h c
    obtain ⟨e0, e1, e2, e3, e4, e5, e6, e7⟩ := hag c
    -- the same equalities, of the arguments as the run names them
    replace e0 : StableHlo.launchContents m' c (Proc.devRef .tc Cert.Reference3Ideal.main_arg0) = m (c.tc.loc main_arg0) := e0
    replace e1 : StableHlo.launchContents m' c (Proc.devRef .tc Cert.Reference3Ideal.main_arg1) = m (c.tc.loc main_arg1) := e1
    replace e2 : StableHlo.launchContents m' c (Proc.devRef .tc Cert.Reference3Ideal.main_arg2) = m (c.tc.loc main_arg2) := e2
    replace e3 : StableHlo.launchContents m' c (Proc.devRef .tc Cert.Reference3Ideal.main_arg3) = m (c.tc.loc main_arg3) := e3
    replace e4 : StableHlo.launchContents m' c (Proc.devRef .tc Cert.Reference3Ideal.main_arg4) = m (c.tc.loc main_arg4) := e4
    replace e5 : StableHlo.launchContents m' c (Proc.devRef .tc Cert.Reference3Ideal.main_arg5) = m (c.tc.loc main_arg5) := e5
    replace e6 : StableHlo.launchContents m' c (Proc.devRef .tc Cert.Reference3Ideal.main_arg6) = m (c.tc.loc main_arg6) := e6
    replace e7 : StableHlo.launchContents m' c (Proc.devRef .tc Cert.Reference3Ideal.main_arg7) = m (c.tc.loc main_arg7) := e7
    refine ⟨h0.trans ?_, h1.trans ?_, h2.trans ?_, h3.trans ?_, h4.trans ?_, h5.trans ?_, h6.trans ?_, h⟩
    · rw [val_main_v77_eq, e0, e1, e2, e3, e4, e5, e6]; exact rows_eq m c
    · rw [val_main_v127_eq, e0, e1, e2, e3, e4, e5, e6, e7]; exact queriesA_eq m c
    · rw [val_main_v130_eq, e0, e1, e2, e3, e4, e5, e6, e7]; exact valuesA_eq m c
    · rw [val_main_v146_eq, e0, e1, e2, e3, e4, e5, e6, e7]; exact queriesW_eq m c
    · rw [val_main_v149_eq, e0, e1, e2, e3, e4, e5, e6, e7]; exact valuesW_eq m c
    · rw [val_main_v161_eq, e0, e1, e2, e3, e4, e5, e6, e7]; exact keysA_eq m c
    · rw [val_main_v173_eq, e0, e1, e2, e3, e4, e5, e6, e7]; exact keysW_eq m c

end Cert.Proof.In

end
-- ==== Proof.Mod.Result.lean ====
/-
  The modulation call's result array over the extended reals, place by place.
-/
module

public import proofs.«01_k».proof.Proof.Gen.Kernel4Ideal.Value
public import proofs.«01_k».proof.Proof.Out.Array

@[expose] public section

set_option maxRecDepth 16384

noncomputable section

/-- One modulation of one sequence: its conditioning through the SiLU, through one column of a layer's weights, and the column's bias. -/
def Cert.Proof.Mod.modulated (c w : Fin 1024 → EReal) (b : EReal) : EReal :=
  (∑ k, c k * Idealize.ShloMosaic.Ideal.logistic (c k) * w k) + b

namespace Cert.Proof.Kernel4Ideal

open Cert.Kernel4Ideal Cert.Kernel4Ideal.Gen Cert.Kernel4Ideal.Value
open Idealize.ShloMosaic Idealize.ShloMosaic.TcCoe Idealize.SL.Sem Cert.Proof.Mod

variable (m : (ℓ : Loc nD τ sig) → Buf (Elt Ideal) ℓ)

/-! ## What a point computes -/

theorem pay1_at (x : FVec Ideal S40x1024 .f32) (w : FVec Ideal S1x1024x2304 .f32) (b : FVec Ideal S1x1x2304 .f32) (i : Fin 40) (n : Fin 2304) :
    k0_pay1 (F := Ideal) x w b (ix3 0 i n) = modulated (fun k => x (ix2 i k)) (fun k => w (ix3 0 k n)) (b (ix3 0 0 n)) := by
  unfold k0_pay1
  pointwise
  rfl

/-! ## The arrays the call stages -/

/-- The biases as staged: each layer's as a row. -/
def biases (a : FVec Ideal S4x9216 .f32) : FVec Ideal S4x1x9216 .f32 := shapeCast S4x1x9216 a shapeCasts_S4x9216_S4x1x9216

theorem biases_at (a : FVec Ideal S4x9216 .f32) (l : Fin 4) (n : Fin 9216) : biases a (ix3 l 0 n) = a (ix2 l n) := by
  unfold biases
  refine shapeCast_apply a shapeCasts_S4x9216_S4x1x9216 (ix3 l 0 n) (ix2 l n) ?_
  rw [Shape.rowMajor_val_three, Shape.rowMajor_val_two]
  show l.val * 9216 + n.val = (l.val * 1 + 0) * 9216 + n.val
  omega

theorem V_biases (c : Dev nD) : @Eq (FVec Ideal S4x1x9216 .f32) (V m c main_v0) (biases (m ((c : Thread nD τ).loc main_arg2))) := by
  unfold V
  after_results_simp <;> rfl

theorem V_bias (c : Dev nD) (l : Fin 4) (n : Fin 9216) : V m c main_v0 (ix3 l (n1 := 1) 0 n) = m ((c : Thread nD τ).loc main_arg2) (ix2 l n) :=
  (congrFun (V_biases m c) _).trans (biases_at _ l n)

/-! ## The blocks at a point -/

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = t.val / 4 ∧ win0_1.index t (1 : Fin 3) = 0 ∧ win0_1.index t (2 : Fin 3) = t.val % 4 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = t.val % 4 :=
  (by decide +kernel : ∀ t : Fin grid0.N, _)

theorem lt_N (t : Fin cfg0.N) : t.val < 16 := lt_of_lt_of_eq t.isLt N_0

/-- The layer of a point, -/
def ptL (t : Fin cfg0.N) : Fin 4 := ⟨t.val / 4, by have := lt_N t; omega⟩
/-- and the column of the array that is column `n` of its block. -/
def ptN (t : Fin cfg0.N) (n : Fin 2304) : Fin 9216 := ⟨2304 * (t.val % 4) + n.val, by omega⟩

theorem iblk0_eq (c : Dev nD) (t : Fin cfg0.N) : @Eq (FVec Ideal S40x1024 .f32) (iblk m c 0 t) (m ((c : Thread nD τ).loc main_arg0)) := by
  funext j
  show V m c main_arg0 (((cfg0.win 0).blk t).view.emb j) = _
  rw [Cert.Proof.Kernel2Ideal.emb_mat _ _ (idx0 t).1 (idx0 t).2 j (((cfg0.win 0).blk t).view.emb j) rfl rfl]
  exact congrFun (V_main_arg0 m c) j

theorem iblk1_apply (c : Dev nD) (t : Fin cfg0.N) (k : Fin 1024) (n : Fin 2304) :
    iblk m c 1 t (ix3 (n0 := 1) 0 k n) = m ((c : Thread nD τ).loc main_arg1) (ix3 (ptL t) k (ptN t n)) := by
  obtain ⟨e0, e1, e2⟩ := idx1 t
  show V m c main_arg1 (((cfg0.win 1).blk t).view.emb (ix3 (n0 := 1) 0 k n)) = _
  rw [V_main_arg1]
  refine congrArg _ (funext fun a => Fin.ext ?_)
  match a with
  | ⟨0, _⟩ => show win0_1.index t (0 : Fin 3) * 1 + 1 * 0 = t.val / 4; omega
  | ⟨1, _⟩ => show win0_1.index t (1 : Fin 3) * 1024 + 1 * k.val = k.val; omega
  | ⟨2, _⟩ => show win0_1.index t (2 : Fin 3) * 2304 + 1 * n.val = 2304 * (t.val % 4) + n.val; omega

theorem iblk2_apply (c : Dev nD) (t : Fin cfg0.N) (n : Fin 2304) :
    iblk m c 2 t (ix3 (n0 := 1) (n1 := 1) 0 0 n) = m ((c : Thread nD τ).loc main_arg2) (ix2 (ptL t) (ptN t n)) := by
  obtain ⟨e0, e1, e2⟩ := idx2 t
  refine Eq.trans ?_ (V_bias m c (ptL t) (ptN t n))
  show V m c main_v0 (((cfg0.win 2).blk t).view.emb (ix3 (n0 := 1) (n1 := 1) 0 0 n)) = _
  refine congrArg _ (funext fun a => Fin.ext ?_)
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 2304 + 1 * n.val = 2304 * (t.val % 4) + n.val; omega

/-! ## What a point leaves -/

section
variable (c : Dev nD)

/-- The result: modulation `n` of sequence `i` in layer `l`. -/
def result : S4x40x9216.Idx → EReal := fun y =>
  modulated (fun k => m ((c : Thread nD τ).loc main_arg0) (ix2 (y 1) k)) (fun k => m ((c : Thread nD τ).loc main_arg1) (ix3 (y 0) k (y 2)))
    (m ((c : Thread nD τ).loc main_arg2) (ix2 (y 0) (y 2)))

variable (t : Fin cfg0.N)

theorem out_eq (x0 : FVec Ideal S40x1024 .f32) (x1 : FVec Ideal S1x1024x2304 .f32) (x2 : FVec Ideal S1x1x2304 .f32) (i : Fin 40) (n : Fin 2304) :
    out0_3 (F := Ideal) x0 x1 x2 (ix3 (n0 := 1) 0 i n) = k0_pay1 (F := Ideal) x0 x1 x2 (ix3 0 i n) := by
  have e : (ix3 (n0 := 1) 0 i n : S1x40x2304.Idx) = r0_3.emb (ix3 (n0 := 1) 0 i n) := by
    funext a; apply Fin.ext
    match a with
    | ⟨0, _⟩ => rfl
    | ⟨1, _⟩ => show i.val = 0 + 1 * i.val; omega
    | ⟨2, _⟩ => show n.val = 0 + 1 * n.val; omega
  have e0 : View.ld (Val := Elt Ideal) (e' := .f32) x0 r0_0 = x0 := funext fun j => congrArg x0 (funext fun a => Fin.ext (by
    match a with
    | ⟨0, _⟩ => show 0 + 1 * (j 0).val = (j 0).val; omega
    | ⟨1, _⟩ => show 0 + 1 * (j 1).val = (j 1).val; omega))
  have e1 : View.ld (Val := Elt Ideal) (e' := .f32) x1 r0_1 = x1 := funext fun j => congrArg x1 (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega))
  have e2 : View.ld (Val := Elt Ideal) (e' := .f32) x2 r0_2 = x2 := funext fun j => congrArg x2 (funext fun a => Fin.ext (by
    match a with
    | ⟨0, _⟩ => show 0 + 1 * (j 0).val = (j 0).val; omega
    | ⟨1, _⟩ => show 0 + 1 * (j 1).val = (j 1).val; omega
    | ⟨2, _⟩ => show 0 + 1 * (j 2).val = (j 2).val; omega))
  unfold out0_3
  rw [e0, e1, e2]
  exact (congrArg _ e).trans (View.canon_cons_emb _ _ _ _)

theorem leaves (i : Fin 40) (n : Fin 2304) :
    out0_3 (iblk m c 0 t) (iblk m c 1 t) (iblk m c 2 t) (ix3 (n0 := 1) 0 i n) = result m c (ix3 (ptL t) i (ptN t n)) := by
  refine (out_eq _ _ _ i n).trans ((pay1_at _ _ _ i n).trans ?_)
  rw [iblk0_eq, iblk2_apply]
  simp only [iblk1_apply]
  rfl

/-! ## The result array -/

theorem emb3 (i : Fin 40) (n : Fin 2304) : ((cfg0.win 3).blk t).view.emb (ix3 (n0 := 1) 0 i n) = ix3 (ptL t) i (ptN t n) := by
  obtain ⟨e0, e1, e2⟩ := idx3 t
  funext a; apply Fin.ext
  match a with
  | ⟨0, _⟩ => show win0_3.index t (0 : Fin 3) * 1 + 1 * 0 = t.val / 4; omega
  | ⟨1, _⟩ => show win0_3.index t (1 : Fin 3) * 40 + 1 * i.val = i.val; omega
  | ⟨2, _⟩ => show win0_3.index t (2 : Fin 3) * 2304 + 1 * n.val = 2304 * (t.val % 4) + n.val; omega

/-- What a point writes back is its block of the result. -/
theorem flushed_eq : (dats m 0 c).flushed 3 t = ((cfg0.win 3).blk t).view.read (Elt Ideal) (result m c) := by
  rw [flushed3]
  funext y
  obtain ⟨i, n, rfl⟩ : ∃ (i : Fin 40) (n : Fin 2304), y = ix3 (n0 := 1) 0 i n := ⟨y 1, y 2, by
    rw [eq_ix3 (n0 := 1) (n1 := 40) (n2 := 2304) y]; exact congrArg (ix3 · _ _) (Subsingleton.elim (α := Fin 1) _ _)⟩
  show out0_3 (iblk m c 0 t) (iblk m c 1 t) (iblk m c 2 t) (ix3 (n0 := 1) 0 i n) = result m c (((cfg0.win 3).blk t).view.emb (ix3 (n0 := 1) 0 i n))
  exact (leaves m c t i n).trans (congrArg (result m c) (emb3 t i n).symm)

omit t in
/-- Every index of the result is in some point's block. -/
theorem covered (y : S4x40x9216.Idx) : ∃ t : Fin cfg0.N, (cfg0.win 3).flush t = true ∧ y ∈ ((cfg0.win 3).blk t).view.set := by
  have l0 : (y 0).val < 4 := (y 0).isLt
  have l2 : (y 2).val < 9216 := (y 2).isLt
  obtain ⟨t, ht⟩ : ∃ t : Fin cfg0.N, t.val = 4 * (y 0).val + (y 2).val / 2304 := ⟨⟨_, lt_of_lt_of_eq (by omega) N_0.symm⟩, rfl⟩
  refine ⟨t, flush0_3 t, ?_⟩
  have e : ((cfg0.win 3).blk t).view.emb (ix3 (n0 := 1) (n1 := 40) (n2 := 2304) 0 (y 1) ⟨(y 2).val % 2304, Nat.mod_lt _ (by decide)⟩) = y := by
    refine (emb3 t _ _).trans ?_
    funext a; apply Fin.ext
    match a with
    | ⟨0, _⟩ => show t.val / 4 = (y 0).val; omega
    | ⟨1, _⟩ => rfl
    | ⟨2, _⟩ => show 2304 * (t.val % 4) + (y 2).val % 2304 = (y 2).val; omega
  exact e ▸ ((cfg0.win 3).blk t).view.emb_mem_set _

omit t in
theorem final : (dats m 0 c).arrAt 3 cfg0.N = result m c :=
  (dats m 0 c).arrAt_eq_of_cover 3 (result m c) (fun t _ => flushed_eq m c t) covered

end

end Cert.Proof.Kernel4Ideal

end
-- ==== Proof.Mod.Algebraic.lean ====
/-
  The modulation call's result array and its reference's are equal on all arguments.
-/
module

public import proofs.«01_k».proof.Defs
public import proofs.«01_k».proof.Proof.Gen.Reference4Ideal.Read
public import proofs.«01_k».proof.Proof.Gen.Reference4Ideal.Run
public import proofs.«01_k».proof.Proof.Mod.Result

@[expose] public section

set_option maxRecDepth 16384

noncomputable section

namespace Cert.Proof.Reference4Ideal

open Cert.Reference4Ideal Cert.Reference4Ideal.Gen Cert.Reference4Ideal.Read
open Idealize.ShloMosaic Idealize.SL.Sem Cert.Proof.Mod

/-- The reference at a place of its result. -/
theorem result_at (x0 : FVec Ideal S40x1024 .f32) (x1 : FVec Ideal S4x1024x9216 .f32) (x2 : FVec Ideal S4x9216 .f32) (l : Fin 4) (i : Fin 40) (n : Fin 9216) :
    val_main_v5 (F := Ideal) x0 x1 x2 (ix3 l i n) = modulated (fun k => x0 (ix2 i k)) (fun k => x1 (ix3 l k n)) (x2 (ix2 l n)) := by
  unfold val_main_v5 val_main_v4 val_main_v3 val_main_v2 val_main_v1 val_main_v0 val_main_call0_v5 val_main_call0_v4 val_main_call0_v3 val_main_call0_v2 val_main_call0_v1 val_main_call0_v0 val_main_call0_cst val_main_call0_cst_0
  pointwise
  exact congrArg (· + x2 (ix2 l n)) (Finset.sum_congr rfl fun k _ => mul_comm _ _)

end Cert.Proof.Reference4Ideal

namespace Cert.Proof.Mod

open Idealize.ShloMosaic Idealize.SL.Sem

/-- Both runs end with every layer's modulations of every row. -/
theorem algebraic : Cert.algebraic_Kernel4Ideal_Reference4Ideal := by
  intro m ρ m' ρ' _ hag
  refine ⟨fun c => Cert.Proof.Kernel4Ideal.result m c, ?_, ?_⟩
  · exact (θ_run Cert.Kernel4Ideal.defs _ _).mono (fun r h c => ⟨(h c).1.trans (Cert.Proof.Kernel4Ideal.final m c), (h c).2⟩)
      (Cert.Kernel4Ideal.Value.run_blocks m ρ)
  · refine (θ_run Cert.Reference4Ideal.defs _ _).mono (fun r h c => ⟨(h c).1.trans ?_, (h c).2⟩) (Cert.Reference4Ideal.Value.run (F := Ideal) m' ρ')
    obtain ⟨e0, e1, e2⟩ := hag c
    rw [Cert.Reference4Ideal.Read.val_main_v5_eq, e0, e1, e2]
    funext i
    rw [eq_ix3 (n0 := 4) (n1 := 40) (n2 := 9216) i]
    exact Cert.Proof.Reference4Ideal.result_at _ _ _ _ _ _

end Cert.Proof.Mod

end
-- ==== Proof.lean ====
/-
  The claims about the differential attention, about the layer's end, about its beginning and about the modulation.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Bits.Frame
public import proofs.«01_k».proof.Proof.Ideal.Frame
public import proofs.«01_k».proof.Proof.Algebraic
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Out.Algebraic
public import proofs.«01_k».proof.Proof.In.Algebraic
public import proofs.«01_k».proof.Proof.Mod.Algebraic

@[expose] public section

noncomputable section

namespace Cert.Proof

open Idealize.ShloMosaic Idealize.SL.Sem Cert.Kernel

/-- The reference's run: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

theorem algebraic : Cert.algebraic_KernelIdeal_ReferenceIdeal_pre_finite := by
  intro m ρ m' ρ' hpre hag
  choose v hk hr using fun c => results_eq m m' c hpre (hag c)
  exact ⟨v, Cert.Proof.KernelIdeal.run_result m ρ v hk,
    (θ_run Cert.ReferenceIdeal.defs _ _).mono (fun r h c => ⟨(h c).1.trans (hr c), (h c).2⟩) (Cert.ReferenceIdeal.Value.run (F := Ideal) m' ρ')⟩

/-- The second reference's run: it declares no semaphore either. -/
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- Nor does the third. -/
theorem frame_reference3 : Cert.quiescent_Reference3Ideal := fun m ρ _ =>
  (θ_run Cert.Reference3Ideal.defs _ _).mono (fun r h => ⟨fun c => (h c).2.2.2.2.2.2.2, sem_eq_zero_of_no_sems (by decide) r.2⟩) (Cert.Reference3Ideal.Value.run (F := Ideal) m ρ)

/-- Nor the fourth. -/
theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Pre_finite.Gen.facts,
  fun m ρ _ => Cert.Proof.Kernel.frame m ρ, fun m ρ _ => Cert.Proof.KernelIdeal.frame m ρ, fun m ρ _ => Cert.Proof.KernelIdeal.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  trivial, algebraic, trivial, Cert.Proof.Out.algebraic, trivial, Cert.Proof.In.algebraic, trivial, Cert.Proof.Mod.algebraic⟩

end Cert.Proof

end
